-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v26)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v26) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v83) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v26)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v26) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v45) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v14) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v26)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v26) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v37) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)) (v4 : (c : Dev Cert.Kernel18Ideal.nD) → Buf (Elt Ideal) ((c.tc : Thread Cert.Kernel18Ideal.nD Cert.Kernel18Ideal.τ).loc Cert.Kernel18Ideal.main_v1_4)) (v5 : (c : Dev Cert.Kernel18Ideal.nD) → Buf (Elt Ideal) ((c.tc : Thread Cert.Kernel18Ideal.nD Cert.Kernel18Ideal.τ).loc Cert.Kernel18Ideal.main_v1_5)) (v6 : (c : Dev Cert.Kernel18Ideal.nD) → Buf (Elt Ideal) ((c.tc : Thread Cert.Kernel18Ideal.nD Cert.Kernel18Ideal.τ).loc Cert.Kernel18Ideal.main_v1_6)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_v1_4) = v4 c
          ∧ r.2.mem ((c.tc : Thread Cert.Kernel18Ideal.nD Cert.Kernel18Ideal.τ).loc Cert.Kernel18Ideal.main_v1_5) = v5 c
          ∧ r.2.mem ((c.tc : Thread Cert.Kernel18Ideal.nD Cert.Kernel18Ideal.τ).loc Cert.Kernel18Ideal.main_v1_6) = v6 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v26) = v0 c
          ∧ r.2.mem ((c.tc : Thread Cert.Reference18Ideal.nD Cert.Reference18Ideal.τ).loc Cert.Reference18Ideal.main_v40) = v1 c
          ∧ r.2.mem ((c.tc : Thread Cert.Reference18Ideal.nD Cert.Reference18Ideal.τ).loc Cert.Reference18Ideal.main_v47) = v2 c
          ∧ r.2.mem ((c.tc : Thread Cert.Reference18Ideal.nD Cert.Reference18Ideal.τ).loc Cert.Reference18Ideal.main_v66) = v3 c
          ∧ r.2.mem ((c.tc : Thread Cert.Reference18Ideal.nD Cert.Reference18Ideal.τ).loc Cert.Reference18Ideal.main_v70) = v4 c
          ∧ r.2.mem ((c.tc : Thread Cert.Reference18Ideal.nD Cert.Reference18Ideal.τ).loc Cert.Reference18Ideal.main_v80) = v5 c
          ∧ r.2.mem ((c.tc : Thread Cert.Reference18Ideal.nD Cert.Reference18Ideal.τ).loc Cert.Reference18Ideal.main_v84) = v6 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)) (v4 : (c : Dev Cert.Kernel19Ideal.nD) → Buf (Elt Ideal) ((c.tc : Thread Cert.Kernel19Ideal.nD Cert.Kernel19Ideal.τ).loc Cert.Kernel19Ideal.main_v1_4)) (v5 : (c : Dev Cert.Kernel19Ideal.nD) → Buf (Elt Ideal) ((c.tc : Thread Cert.Kernel19Ideal.nD Cert.Kernel19Ideal.τ).loc Cert.Kernel19Ideal.main_v1_5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_v1_4) = v4 c
          ∧ r.2.mem ((c.tc : Thread Cert.Kernel19Ideal.nD Cert.Kernel19Ideal.τ).loc Cert.Kernel19Ideal.main_v1_5) = v5 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v26) = v0 c
          ∧ r.2.mem ((c.tc : Thread Cert.Reference19Ideal.nD Cert.Reference19Ideal.τ).loc Cert.Reference19Ideal.main_v40) = v1 c
          ∧ r.2.mem ((c.tc : Thread Cert.Reference19Ideal.nD Cert.Reference19Ideal.τ).loc Cert.Reference19Ideal.main_v47) = v2 c
          ∧ r.2.mem ((c.tc : Thread Cert.Reference19Ideal.nD Cert.Reference19Ideal.τ).loc Cert.Reference19Ideal.main_v66) = v3 c
          ∧ r.2.mem ((c.tc : Thread Cert.Reference19Ideal.nD Cert.Reference19Ideal.τ).loc Cert.Reference19Ideal.main_v70) = v4 c
          ∧ r.2.mem ((c.tc : Thread Cert.Reference19Ideal.nD Cert.Reference19Ideal.τ).loc Cert.Reference19Ideal.main_v80) = v5 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S8x2048x16384 : Shape := ⟨3, ![8, 2048, 16384]⟩
abbrev S8x2048x24576 : Shape := ⟨3, ![8, 2048, 24576]⟩
abbrev S_ : Shape := ⟨0, ![]⟩

class Facts : Prop where
  bcast_S_S8x2048x16384 : S_.BroadcastsInDim S8x2048x16384 (![] : Fin 0 → Fin S8x2048x16384.rank)
  bcast_S_S8x2048x24576 : S_.BroadcastsInDim S8x2048x24576 (![] : Fin 0 → Fin S8x2048x24576.rank)

variable [Facts]

def fn {F : FTy → Type} [FloatOps F] (main_arg0 : FVec F S8x2048x16384 .bf16) (main_arg1 : FVec F S8x2048x24576 .bf16) : IVec S8x2048x16384 1 × IVec S8x2048x24576 1 :=
  let main_v0 : FVec F S8x2048x16384 .bf16 := Host.absf main_arg0
  let main_cst : FVec F S_ .bf16 := constant S_ .bf16 0x7F80#16
  let main_v1 : FVec F S8x2048x16384 .bf16 := broadcastInDim S8x2048x16384 ![] bcast_S_S8x2048x16384 main_cst
  let main_v2 : IVec S8x2048x16384 1 := cmpf .olt main_v0 main_v1
  let main_v3 : FVec F S8x2048x24576 .bf16 := Host.absf main_arg1
  let main_cst_0 : FVec F S_ .bf16 := constant S_ .bf16 0x7F80#16
  let main_v4 : FVec F S8x2048x24576 .bf16 := broadcastInDim S8x2048x24576 ![] bcast_S_S8x2048x24576 main_cst_0
  let main_v5 : IVec S8x2048x24576 1 := cmpf .olt main_v3 main_v4
  (main_v2, main_v5)
-- ==== Pre_finite4.lean ====
abbrev S8x2048x12288 : Shape := ⟨3, ![8, 2048, 12288]⟩
abbrev S4x128 : Shape := ⟨2, ![4, 128]⟩
abbrev S256 : Shape := ⟨1, ![256]⟩
abbrev S_ : Shape := ⟨0, ![]⟩

class Facts : Prop where
  bcast_S_S8x2048x12288 : S_.BroadcastsInDim S8x2048x12288 (![] : Fin 0 → Fin S8x2048x12288.rank)
  bcast_S_S4x128 : S_.BroadcastsInDim S4x128 (![] : Fin 0 → Fin S4x128.rank)

variable [Facts]

def fn {F : FTy → Type} [FloatOps F] (main_arg0 : FVec F S8x2048x12288 .bf16) (main_arg1 : FVec F S4x128 .f32) (main_arg2 : FVec F S256 .f32) : IVec S8x2048x12288 1 × IVec S4x128 1 :=
  let main_v0 : FVec F S8x2048x12288 .bf16 := Host.absf main_arg0
  let main_cst : FVec F S_ .bf16 := constant S_ .bf16 0x7F80#16
  let main_v1 : FVec F S8x2048x12288 .bf16 := broadcastInDim S8x2048x12288 ![] bcast_S_S8x2048x12288 main_cst
  let main_v2 : IVec S8x2048x12288 1 := cmpf .olt main_v0 main_v1
  let main_v3 : FVec F S4x128 .f32 := Host.absf main_arg1
  let main_cst_0 : FVec F S_ .f32 := constant S_ .f32 0x7F800000#32
  let main_v4 : FVec F S4x128 .f32 := broadcastInDim S4x128 ![] bcast_S_S4x128 main_cst_0
  let main_v5 : IVec S4x128 1 := cmpf .olt main_v3 main_v4
  (main_v2, main_v5)
-- ==== Kernel.lean ====
abbrev S8x2048x16384 : Shape := ⟨3, ![8, 2048, 16384]⟩
abbrev S8x2048x24576 : Shape := ⟨3, ![8, 2048, 24576]⟩
abbrev S8x2048x8192 : Shape := ⟨3, ![8, 2048, 8192]⟩
abbrev S8x8192x2048 : Shape := ⟨3, ![8, 8192, 2048]⟩
abbrev S8x64x128x2048 : Shape := ⟨4, ![8, 64, 128, 2048]⟩
abbrev S_ : Shape := ⟨0, ![]⟩
abbrev S8x64x16x2048 : Shape := ⟨4, ![8, 64, 16, 2048]⟩
abbrev S8x64x144x2048 : Shape := ⟨4, ![8, 64, 144, 2048]⟩
abbrev S8x9216x2048 : Shape := ⟨3, ![8, 9216, 2048]⟩
abbrev S1x512x256 : Shape := ⟨3, ![1, 512, 256]⟩
abbrev S1x2048x256 : Shape := ⟨3, ![1, 2048, 256]⟩
abbrev S1x144x2048 : Shape := ⟨3, ![1, 144, 2048]⟩
abbrev S1x512x128 : Shape := ⟨3, ![1, 512, 128]⟩
abbrev S1x1x512 : Shape := ⟨3, ![1, 1, 512]⟩
abbrev S1x144x512 : Shape := ⟨3, ![1, 144, 512]⟩
abbrev S512x256 : Shape := ⟨2, ![512, 256]⟩
abbrev S1x512 : Shape := ⟨2, ![1, 512]⟩
abbrev S144x512 : Shape := ⟨2, ![144, 512]⟩
abbrev S1x256x256 : Shape := ⟨3, ![1, 256, 256]⟩
abbrev S256x256 : Shape := ⟨2, ![256, 256]⟩
abbrev S256x512 : Shape := ⟨2, ![256, 512]⟩
abbrev S1x144x256 : Shape := ⟨3, ![1, 144, 256]⟩
abbrev S144x256 : Shape := ⟨2, ![144, 256]⟩
abbrev S512 : Shape := ⟨1, ![512]⟩
abbrev S128x512 : Shape := ⟨2, ![128, 512]⟩
abbrev S512x128 : Shape := ⟨2, ![512, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x16384, .bf16⟩
  | .hbm, ⟨1, _⟩ => ⟨S8x2048x24576, .bf16⟩
  | .hbm, ⟨2, _⟩ => ⟨S8x2048x8192, .bf16⟩
  | .hbm, ⟨3, _⟩ => ⟨S8x8192x2048, .bf16⟩
  | .hbm, ⟨4, _⟩ => ⟨S8x64x128x2048, .bf16⟩
  | .hbm, ⟨5, _⟩ => ⟨S_, .bf16⟩
  | .hbm, ⟨6, _⟩ => ⟨S8x64x16x2048, .bf16⟩
  | .hbm, ⟨7, _⟩ => ⟨S8x64x144x2048, .bf16⟩
  | .hbm, ⟨8, _⟩ => ⟨S8x9216x2048, .bf16⟩
  | .hbm, ⟨9, _⟩ => ⟨S8x2048x8192, .bf16⟩
  | .local _ .vmem, ⟨0, _⟩ => ⟨S1x512x256, .bf16⟩
  | .local _ .vmem, ⟨1, _⟩ => ⟨S1x512x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x144x2048, .bf16⟩
  | .local _ .vmem, ⟨5, _⟩ => ⟨S1x144x2048, .bf16⟩
  | .local _ .vmem, ⟨6, _⟩ => ⟨S1x512x128, .bf16⟩
  | .local _ .vmem, ⟨7, _⟩ => ⟨S1x512x128, .bf16⟩
  | .local _ .vmem, ⟨8, _⟩ => ⟨S1x1x512, .f32⟩
  | .local _ .vmem, ⟨9, _⟩ => ⟨S1x144x512, .f32⟩
  | _, _ => ⟨S8x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 64, 4, 1], ![false, false, false, false]⟩

def k0_cond2 (i : grid0.Coords) : BitVec 1 :=
  let arg3 : BitVec 32 := BitVec.ofNat 32 (i 3).val
  let c0_i32_79 : BitVec 32 := 0#32
  let v159 : BitVec 1 := Scalar.cmpi .eq arg3 c0_i32_79
  let v160 : BitVec 32 := Scalar.extui v159
  let c0_i32_80 : BitVec 32 := 0#32
  let v161 : BitVec 1 := Scalar.cmpi .ne v160 c0_i32_80
  v161

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg1
  let c0_i32_0 : BitVec 32 := 0#32
  ![arg0.toNat, arg3.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x144x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S8x2048x16384 : Shape := ⟨3, ![8, 2048, 16384]⟩
abbrev S8x2048x24576 : Shape := ⟨3, ![8, 2048, 24576]⟩
abbrev S8x2048x64x256 : Shape := ⟨4, ![8, 2048, 64, 256]⟩
abbrev S8x2048x8192 : Shape := ⟨3, ![8, 2048, 8192]⟩
abbrev S8x2048x64x128 : Shape := ⟨4, ![8, 2048, 64, 128]⟩
abbrev S8x64x2048x2048 : Shape := ⟨4, ![8, 64, 2048, 2048]⟩
abbrev S_ : Shape := ⟨0, ![]⟩
abbrev S8x64x2048 : Shape := ⟨3, ![8, 64, 2048]⟩
abbrev S8x64x2048x1 : Shape := ⟨4, ![8, 64, 2048, 1]⟩
abbrev S8x64x128x2048 : Shape := ⟨4, ![8, 64, 128, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x16384, .bf16⟩
  | .hbm, ⟨1, _⟩ => ⟨S8x2048x24576, .bf16⟩
  | .hbm, ⟨2, _⟩ => ⟨S8x2048x16384, .f32⟩
  | .hbm, ⟨3, _⟩ => ⟨S8x2048x64x256, .f32⟩
  | .hbm, ⟨4, _⟩ => ⟨S8x2048x16384, .bf16⟩
  | .hbm, ⟨5, _⟩ => ⟨S8x2048x16384, .f32⟩
  | .hbm, ⟨6, _⟩ => ⟨S8x2048x64x256, .f32⟩
  | .hbm, ⟨7, _⟩ => ⟨S8x2048x8192, .bf16⟩
  | .hbm, ⟨8, _⟩ => ⟨S8x2048x8192, .f32⟩
  | .hbm, ⟨9, _⟩ => ⟨S8x2048x64x128, .f32⟩
  | .hbm, ⟨10, _⟩ => ⟨S8x2048x64x128, .f32⟩
  | .hbm, ⟨11, _⟩ => ⟨S8x2048x64x128, .f32⟩
  | .hbm, ⟨12, _⟩ => ⟨S8x64x2048x2048, .f32⟩
  | .hbm, ⟨13, _⟩ => ⟨S8x2048x64x128, .f32⟩
  | .hbm, ⟨14, _⟩ => ⟨S8x2048x64x128, .f32⟩
  | .hbm, ⟨15, _⟩ => ⟨S8x64x2048x2048, .f32⟩
  | .hbm, ⟨16, _⟩ => ⟨S8x64x2048x2048, .f32⟩
  | .hbm, ⟨17, _⟩ => ⟨S_, .f32⟩
  | .hbm, ⟨18, _⟩ => ⟨S_, .f32⟩
  | .hbm, ⟨19, _⟩ => ⟨S8x64x2048x2048, .f32⟩
  | .hbm, ⟨20, _⟩ => ⟨S8x64x2048x2048, .f32⟩
  | .hbm, ⟨21, _⟩ => ⟨S_, .f32⟩
  | .hbm, ⟨22, _⟩ => ⟨S8x64x2048, .f32⟩
  | .hbm, ⟨23, _⟩ => ⟨S_, .f32⟩
  | .hbm, ⟨24, _⟩ => ⟨S8x64x2048, .f32⟩
  | .hbm, ⟨25, _⟩ => ⟨S8x64x2048, .f32⟩
  | .hbm, ⟨26, _⟩ => ⟨S8x64x2048x1, .f32⟩
  | .hbm, ⟨27, _⟩ => ⟨S8x64x2048x2048, .f32⟩
  | .hbm, ⟨28, _⟩ => ⟨S8x64x2048x2048, .f32⟩
  | .hbm, ⟨29, _⟩ => ⟨S8x64x2048x2048, .f32⟩
  | .hbm, ⟨30, _⟩ => ⟨S_, .f32⟩
  | .hbm, ⟨31, _⟩ => ⟨S8x64x2048, .f32⟩
  | .hbm, ⟨32, _⟩ => ⟨S8x64x2048x1, .f32⟩
  | .hbm, ⟨33, _⟩ => ⟨S8x64x2048x2048, .f32⟩
  | .hbm, ⟨34, _⟩ => ⟨S8x64x2048x2048, .f32⟩
  | .hbm, ⟨35, _⟩ => ⟨S8x64x128x2048, .f32⟩
  | .hbm, ⟨36, _⟩ => ⟨S8x2048x64x128, .f32⟩
  | .hbm, ⟨37, _⟩ => ⟨S8x2048x8192, .f32⟩
  | .hbm, ⟨38, _⟩ => ⟨S8x2048x8192, .bf16⟩
  | _, _ => ⟨S8x2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Kernel2.lean ====
abbrev S16384x4096 : Shape := ⟨2, ![16384, 4096]⟩
abbrev S4096x22016 : Shape := ⟨2, ![4096, 22016]⟩
abbrev S16384x11008 : Shape := ⟨2, ![16384, 11008]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .bf16⟩
  | .hbm, ⟨2, _⟩ => ⟨S16384x11008, .bf16⟩
  | .local _ .vmem, ⟨0, _⟩ => ⟨S2048x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S2048x256, .bf16⟩
  | .local _ .vmem, ⟨6, _⟩ => ⟨S2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .bf16⟩
  | .hbm, ⟨2, _⟩ => ⟨S16384x4096, .f32⟩
  | .hbm, ⟨3, _⟩ => ⟨S4096x22016, .f32⟩
  | .hbm, ⟨4, _⟩ => ⟨S16384x22016, .f32⟩
  | .hbm, ⟨5, _⟩ => ⟨S16384x11008, .f32⟩
  | .hbm, ⟨6, _⟩ => ⟨S16384x11008, .f32⟩
  | .hbm, ⟨7, _⟩ => ⟨S16384x11008, .f32⟩
  | .hbm, ⟨8, _⟩ => ⟨S_, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S16384x11008, .f32⟩
  | .hbm, ⟨17, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel3.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x256 : Shape := ⟨2, ![11008, 256]⟩
abbrev S512x256 : Shape := ⟨2, ![512, 256]⟩

abbrev nBuf : Space → Nat
  | .hbm => 4
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x4096, .f32⟩
  | .hbm, ⟨3, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x4096, .f32⟩
  | .hbm, ⟨3, _⟩ => ⟨S16384x11008, .f32⟩
  | .hbm, ⟨4, _⟩ => ⟨S11008x4096, .f32⟩
  | .hbm, ⟨5, _⟩ => ⟨S16384x4096, .f32⟩
  | .hbm, ⟨6, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8x2048x12288 : Shape := ⟨3, ![8, 2048, 12288]⟩
abbrev S4x128 : Shape := ⟨2, ![4, 128]⟩
abbrev S256 : Shape := ⟨1, ![256]⟩
abbrev S8x2048x4096 : Shape := ⟨3, ![8, 2048, 4096]⟩
abbrev S1x256 : Shape := ⟨2, ![1, 256]⟩
abbrev S8x4096x2048 : Shape := ⟨3, ![8, 4096, 2048]⟩
abbrev S8x16x256x2048 : Shape := ⟨4, ![8, 16, 256, 2048]⟩
abbrev S_ : Shape := ⟨0, ![]⟩
abbrev S8x16x16x2048 : Shape := ⟨4, ![8, 16, 16, 2048]⟩
abbrev S8x16x272x2048 : Shape := ⟨4, ![8, 16, 272, 2048]⟩
abbrev S8x4352x2048 : Shape := ⟨3, ![8, 4352, 2048]⟩
abbrev S1x512x256 : Shape := ⟨3, ![1, 512, 256]⟩
abbrev S1x2048x256 : Shape := ⟨3, ![1, 2048, 256]⟩
abbrev S1x272x2048 : Shape := ⟨3, ![1, 272, 2048]⟩
abbrev S2x1x512 : Shape := ⟨3, ![2, 1, 512]⟩
abbrev S2x272x512 : Shape := ⟨3, ![2, 272, 512]⟩
abbrev S512x256 : Shape := ⟨2, ![512, 256]⟩
abbrev S1x1x512 : Shape := ⟨3, ![1, 1, 512]⟩
abbrev S1x512 : Shape := ⟨2, ![1, 512]⟩
abbrev S1x272x512 : Shape := ⟨3, ![1, 272, 512]⟩
abbrev S272x512 : Shape := ⟨2, ![272, 512]⟩
abbrev S1x256x256 : Shape := ⟨3, ![1, 256, 256]⟩
abbrev S256x256 : Shape := ⟨2, ![256, 256]⟩
abbrev S256x128 : Shape := ⟨2, ![256, 128]⟩
abbrev S512x128 : Shape := ⟨2, ![512, 128]⟩
abbrev S256x512 : Shape := ⟨2, ![256, 512]⟩
abbrev S1x272x256 : Shape := ⟨3, ![1, 272, 256]⟩
abbrev S272x256 : Shape := ⟨2, ![272, 256]⟩
abbrev S512 : Shape := ⟨1, ![512]⟩
abbrev S1x128 : Shape := ⟨2, ![1, 128]⟩
abbrev S1 : Shape := ⟨1, ![1]⟩
abbrev S1x1 : Shape := ⟨2, ![1, 1]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8x2048x12288, .bf16⟩
  | .hbm, ⟨1, _⟩ => ⟨S4x128, .f32⟩
  | .hbm, ⟨2, _⟩ => ⟨S256, .f32⟩
  | .hbm, ⟨3, _⟩ => ⟨S8x2048x4096, .bf16⟩
  | .hbm, ⟨4, _⟩ => ⟨S1x256, .f32⟩
  | .hbm, ⟨5, _⟩ => ⟨S8x4096x2048, .bf16⟩
  | .hbm, ⟨6, _⟩ => ⟨S8x16x256x2048, .bf16⟩
  | .hbm, ⟨7, _⟩ => ⟨S_, .bf16⟩
  | .hbm, ⟨8, _⟩ => ⟨S8x16x16x2048, .bf16⟩
  | .hbm, ⟨9, _⟩ => ⟨S8x16x272x2048, .bf16⟩
  | .hbm, ⟨10, _⟩ => ⟨S8x4352x2048, .bf16⟩
  | .hbm, ⟨11, _⟩ => ⟨S8x2048x4096, .bf16⟩
  | .local _ .vmem, ⟨0, _⟩ => ⟨S1x512x256, .bf16⟩
  | .local _ .vmem, ⟨1, _⟩ => ⟨S1x512x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x272x2048, .bf16⟩
  | .local _ .vmem, ⟨5, _⟩ => ⟨S1x272x2048, .bf16⟩
  | .local _ .vmem, ⟨6, _⟩ => ⟨S4x128, .f32⟩
  | .local _ .vmem, ⟨7, _⟩ => ⟨S1x256, .f32⟩
  | .local _ .vmem, ⟨8, _⟩ => ⟨S1x512x256, .bf16⟩
  | .local _ .vmem, ⟨9, _⟩ => ⟨S1x512x256, .bf16⟩
  | .local _ .vmem, ⟨10, _⟩ => ⟨S2x1x512, .f32⟩
  | .local _ .vmem, ⟨11, _⟩ => ⟨S2x272x512, .f32⟩
  | _, _ => ⟨S8x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![8, 16, 4, 1], ![false, false, false, false]⟩

def k0_cond2 (i : grid0.Coords) : BitVec 1 :=
  let arg3 : BitVec 32 := BitVec.ofNat 32 (i 3).val
  let c0_i32_114 : BitVec 32 := 0#32
  let v313 : BitVec 1 := Scalar.cmpi .eq arg3 c0_i32_114
  let v314 : BitVec 32 := Scalar.extui v313
  let c0_i32_115 : BitVec 32 := 0#32
  let v315 : BitVec 1 := Scalar.cmpi .ne v314 c0_i32_115
  v315

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.addi c16_i32 arg1
  let c0_i32 : BitVec 32 := 0#32
  ![arg0.toNat, arg3.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x272x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== Reference4Ideal.lean ====
abbrev S8x2048x12288 : Shape := ⟨3, ![8, 2048, 12288]⟩
abbrev S4x128 : Shape := ⟨2, ![4, 128]⟩
abbrev S256 : Shape := ⟨1, ![256]⟩
abbrev S8x2048x4096 : Shape := ⟨3, ![8, 2048, 4096]⟩
abbrev S8x2048x16x2x128 : Shape := ⟨5, ![8, 2048, 16, 2, 128]⟩
abbrev S8x2048x16x256 : Shape := ⟨4, ![8, 2048, 16, 256]⟩
abbrev S1x128 : Shape := ⟨2, ![1, 128]⟩
abbrev S128 : Shape := ⟨1, ![128]⟩
abbrev S_ : Shape := ⟨0, ![]⟩
abbrev S8x16x2x2048x2048 : Shape := ⟨5, ![8, 16, 2, 2048, 2048]⟩
abbrev S8x16x2x2048 : Shape := ⟨4, ![8, 16, 2, 2048]⟩
abbrev S8x16x2x2048x1 : Shape := ⟨5, ![8, 16, 2, 2048, 1]⟩
abbrev S8x16x1x2048x2048 : Shape := ⟨5, ![8, 16, 1, 2048, 2048]⟩
abbrev S8x16x2048x2048 : Shape := ⟨4, ![8, 16, 2048, 2048]⟩
abbrev S8x16x256x2048 : Shape := ⟨4, ![8, 16, 256, 2048]⟩
abbrev S8x2048x16 : Shape := ⟨3, ![8, 2048, 16]⟩
abbrev S8x2048x16x1 : Shape := ⟨4, ![8, 2048, 16, 1]⟩
abbrev S1x1x1x256 : Shape := ⟨4, ![1, 1, 1, 256]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x12288, .bf16⟩
  | .hbm, ⟨1, _⟩ => ⟨S4x128, .f32⟩
  | .hbm, ⟨2, _⟩ => ⟨S256, .f32⟩
  | .hbm, ⟨3, _⟩ => ⟨S8x2048x12288, .f32⟩
  | .hbm, ⟨4, _⟩ => ⟨S8x2048x4096, .f32⟩
  | .hbm, ⟨5, _⟩ => ⟨S8x2048x16x2x128, .f32⟩
  | .hbm, ⟨6, _⟩ => ⟨S8x2048x4096, .f32⟩
  | .hbm, ⟨7, _⟩ => ⟨S8x2048x16x2x128, .f32⟩
  | .hbm, ⟨8, _⟩ => ⟨S8x2048x4096, .f32⟩
  | .hbm, ⟨9, _⟩ => ⟨S8x2048x16x256, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x16x2x2048x2048, .f32⟩
  | .hbm, ⟨30, _⟩ => ⟨S_, .f32⟩
  | .hbm, ⟨31, _⟩ => ⟨S_, .f32⟩
  | .hbm, ⟨32, _⟩ => ⟨S8x16x2x2048x2048, .f32⟩
  | .hbm, ⟨33, _⟩ => ⟨S8x16x2x2048x2048, .f32⟩
  | .hbm, ⟨34, _⟩ => ⟨S_, .f32⟩
  | .hbm, ⟨35, _⟩ => ⟨S8x16x2x2048, .f32⟩
  | .hbm, ⟨36, _⟩ => ⟨S_, .f32⟩
  | .hbm, ⟨37, _⟩ => ⟨S8x16x2x2048, .f32⟩
  | .hbm, ⟨38, _⟩ => ⟨S8x16x2x2048, .f32⟩
  | .hbm, ⟨39, _⟩ => ⟨S8x16x2x2048x1, .f32⟩
  | .hbm, ⟨40, _⟩ => ⟨S8x16x2x2048x2048, .f32⟩
  | .hbm, ⟨41, _⟩ => ⟨S8x16x2x2048x2048, .f32⟩
  | .hbm, ⟨42, _⟩ => ⟨S8x16x2x2048x2048, .f32⟩
  | .hbm, ⟨43, _⟩ => ⟨S_, .f32⟩
  | .hbm, ⟨44, _⟩ => ⟨S8x16x2x2048, .f32⟩
  | .hbm, ⟨45, _⟩ => ⟨S8x16x2x2048x1, .f32⟩
  | .hbm, ⟨46, _⟩ => ⟨S8x16x2x2048x2048, .f32⟩
  | .hbm, ⟨47, _⟩ => ⟨S8x16x2x2048x2048, .f32⟩
  | .hbm, ⟨48, _⟩ => ⟨S8x16x1x2048x2048, .f32⟩
  | .hbm, ⟨49, _⟩ => ⟨S8x16x2048x2048, .f32⟩
  | .hbm, ⟨50, _⟩ => ⟨S8x16x1x2048x2048, .f32⟩
  | .hbm, ⟨51, _⟩ => ⟨S8x16x2048x2048, .f32⟩
  | .hbm, ⟨52, _⟩ => ⟨S8x16x2048x2048, .f32⟩
  | .hbm, ⟨53, _⟩ => ⟨S8x16x2048x2048, .f32⟩
  | .hbm, ⟨54, _⟩ => ⟨S8x16x2048x2048, .f32⟩
  | .hbm, ⟨55, _⟩ => ⟨S8x16x256x2048, .f32⟩
  | .hbm, ⟨56, _⟩ => ⟨S8x2048x16x256, .f32⟩
  | .hbm, ⟨57, _⟩ => ⟨S8x2048x16x256, .f32⟩
  | .hbm, ⟨58, _⟩ => ⟨S_, .f32⟩
  | .hbm, ⟨59, _⟩ => ⟨S8x2048x16, .f32⟩
  | .hbm, ⟨60, _⟩ => ⟨S8x2048x16x1, .f32⟩
  | .hbm, ⟨61, _⟩ => ⟨S_, .f32⟩
  | .hbm, ⟨62, _⟩ => ⟨S8x2048x16x1, .f32⟩
  | .hbm, ⟨63, _⟩ => ⟨S8x2048x16x1, .f32⟩
  | .hbm, ⟨64, _⟩ => ⟨S_, .f32⟩
  | .hbm, ⟨65, _⟩ => ⟨S8x2048x16x1, .f32⟩
  | .hbm, ⟨66, _⟩ => ⟨S8x2048x16x1, .f32⟩
  | .hbm, ⟨67, _⟩ => ⟨S8x2048x16x1, .f32⟩
  | .hbm, ⟨68, _⟩ => ⟨S8x2048x16x256, .f32⟩
  | .hbm, ⟨69, _⟩ => ⟨S8x2048x16x256, .f32⟩
  | .hbm, ⟨70, _⟩ => ⟨S1x1x1x256, .f32⟩
  | .hbm, ⟨71, _⟩ => ⟨S8x2048x16x256, .f32⟩
  | .hbm, ⟨72, _⟩ => ⟨S8x2048x16x256, .f32⟩
  | .hbm, ⟨73, _⟩ => ⟨S_, .f32⟩
  | .hbm, ⟨74, _⟩ => ⟨S8x2048x16x256, .f32⟩
  | .hbm, ⟨75, _⟩ => ⟨S8x2048x16x256, .f32⟩
  | .hbm, ⟨76, _⟩ => ⟨S8x2048x4096, .f32⟩
  | .hbm, ⟨77, _⟩ => ⟨S8x2048x4096, .bf16⟩
  | _, _ => ⟨S8x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Kernel5.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S4096x4096, .f32⟩
  | .hbm, ⟨4, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x4096 : Shape := ⟨2, ![16384, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S16384x8192 : Shape := ⟨2, ![16384, 8192]⟩
abbrev S8192x4096 : Shape := ⟨2, ![8192, 4096]⟩
abbrev S16384x4096 : Shape := ⟨2, ![16384, 4096]⟩
abbrev S512x8192 : Shape := ⟨2, ![512, 8192]⟩
abbrev S8192x512 : Shape := ⟨2, ![8192, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .bf16⟩
  | .hbm, ⟨2, _⟩ => ⟨S16384x4096, .f32⟩
  | .hbm, ⟨3, _⟩ => ⟨S16384x4096, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x8192 : Shape := ⟨2, ![16384, 8192]⟩
abbrev S8192x4096 : Shape := ⟨2, ![8192, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .bf16⟩
  | .hbm, ⟨2, _⟩ => ⟨S16384x4096, .f32⟩
  | .hbm, ⟨3, _⟩ => ⟨S16384x8192, .f32⟩
  | .hbm, ⟨4, _⟩ => ⟨S8192x4096, .f32⟩
  | .hbm, ⟨5, _⟩ => ⟨S16384x4096, .f32⟩
  | .hbm, ⟨6, _⟩ => ⟨S16384x4096, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel9.lean ====
abbrev S16384x4096 : Shape := ⟨2, ![16384, 4096]⟩
abbrev S4096x12288 : Shape := ⟨2, ![4096, 12288]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S16384x12288 : Shape := ⟨2, ![16384, 12288]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 37
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S2048, .f32⟩
  | .hbm, ⟨19, _⟩ => ⟨S2048x1, .f32⟩
  | .hbm, ⟨20, _⟩ => ⟨S1x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S_, .f32⟩
  | .hbm, ⟨27, _⟩ => ⟨S2048x96, .f32⟩
  | .hbm, ⟨28, _⟩ => ⟨S_, .f32⟩
  | .hbm, ⟨29, _⟩ => ⟨S2048x96, .f32⟩
  | .hbm, ⟨30, _⟩ => ⟨S_, .f32⟩
  | .hbm, ⟨31, _⟩ => ⟨S2048x16, .f32⟩
  | .hbm, ⟨32, _⟩ => ⟨S2048x128, .f32⟩
  | .hbm, ⟨33, _⟩ => ⟨S2048x16, .f32⟩
  | .hbm, ⟨34, _⟩ => ⟨S2048x128, .f32⟩
  | .hbm, ⟨35, _⟩ => ⟨S2048x128, .f32⟩
  | .hbm, ⟨36, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 24], ![false, false]⟩

def k0_cond1 (i : grid0.Coords) : BitVec 1 :=
  let arg1 : BitVec 32 := BitVec.ofNat 32 (i 1).val
  let c16_i32 : BitVec 32 := 16#32
  let v3 : BitVec 1 := Scalar.cmpi .slt arg1 c16_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c16_i32_3 : BitVec 32 := 16#32
  let v6 : BitVec 1 := Scalar.cmpi .sge arg1 c16_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S16384x4096 : Shape := ⟨2, ![16384, 4096]⟩
abbrev S4096x12288 : Shape := ⟨2, ![4096, 12288]⟩
abbrev S16384x12288 : Shape := ⟨2, ![16384, 12288]⟩
abbrev S_ : Shape := ⟨0, ![]⟩
abbrev S8x2048x32x128 : Shape := ⟨4, ![8, 2048, 32, 128]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x32x16 : Shape := ⟨4, ![8, 2048, 32, 16]⟩
abbrev S8x2048x32x96 : Shape := ⟨4, ![8, 2048, 32, 96]⟩

abbrev nBuf : Space → Nat
  | .hbm => 97
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x4096, .f32⟩
  | .hbm, ⟨3, _⟩ => ⟨S4096x12288, .f32⟩
  | .hbm, ⟨4, _⟩ => ⟨S16384x12288, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S8x2048x32x128, .f32⟩
  | .hbm, ⟨10, _⟩ => ⟨S16384x4096, .f32⟩
  | .hbm, ⟨11, _⟩ => ⟨S8x2048x32x128, .f32⟩
  | .hbm, ⟨12, _⟩ => ⟨S16384x4096, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S2048, .f32⟩
  | .hbm, ⟨30, _⟩ => ⟨S2048x1, .f32⟩
  | .hbm, ⟨31, _⟩ => ⟨S1x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S1x2048x1x16, .f32⟩
  | .hbm, ⟨37, _⟩ => ⟨S2048x16, .f32⟩
  | .hbm, ⟨38, _⟩ => ⟨S1x2048x1x16, .f32⟩
  | .hbm, ⟨39, _⟩ => ⟨S8x2048x32x16, .f32⟩
  | .hbm, ⟨40, _⟩ => ⟨S8x2048x32x16, .f32⟩
  | .hbm, ⟨41, _⟩ => ⟨S8x2048x32x16, .f32⟩
  | .hbm, ⟨42, _⟩ => ⟨S8x2048x32x16, .f32⟩
  | .hbm, ⟨43, _⟩ => ⟨S8x2048x32x16, .f32⟩
  | .hbm, ⟨44, _⟩ => ⟨S8x2048x32x16, .f32⟩
  | .hbm, ⟨45, _⟩ => ⟨S8x2048x32x16, .f32⟩
  | .hbm, ⟨46, _⟩ => ⟨S8x2048x32x16, .f32⟩
  | .hbm, ⟨47, _⟩ => ⟨S8x2048x32x16, .f32⟩
  | .hbm, ⟨48, _⟩ => ⟨S8x2048x32x16, .f32⟩
  | .hbm, ⟨49, _⟩ => ⟨S8x2048x32x16, .f32⟩
  | .hbm, ⟨50, _⟩ => ⟨S8x2048x32x16, .f32⟩
  | .hbm, ⟨51, _⟩ => ⟨S8x2048x32x96, .f32⟩
  | .hbm, ⟨52, _⟩ => ⟨S8x2048x32x128, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S2048, .f32⟩
  | .hbm, ⟨70, _⟩ => ⟨S2048x1, .f32⟩
  | .hbm, ⟨71, _⟩ => ⟨S1x16, .f32⟩
  | .hbm, ⟨72, _⟩ => ⟨S2048x16, .f32⟩
  | .hbm, ⟨73, _⟩ => ⟨S2048x16, .f32⟩
  | .hbm, ⟨74, _⟩ => ⟨S2048x16, .f32⟩
  | .hbm, ⟨75, _⟩ => ⟨S2048x16, .f32⟩
  | .hbm, ⟨76, _⟩ => ⟨S1x2048x1x16, .f32⟩
  | .hbm, ⟨77, _⟩ => ⟨S2048x16, .f32⟩
  | .hbm, ⟨78, _⟩ => ⟨S1x2048x1x16, .f32⟩
  | .hbm, ⟨79, _⟩ => ⟨S8x2048x32x16, .f32⟩
  | .hbm, ⟨80, _⟩ => ⟨S8x2048x32x16, .f32⟩
  | .hbm, ⟨81, _⟩ => ⟨S8x2048x32x16, .f32⟩
  | .hbm, ⟨82, _⟩ => ⟨S8x2048x32x16, .f32⟩
  | .hbm, ⟨83, _⟩ => ⟨S8x2048x32x16, .f32⟩
  | .hbm, ⟨84, _⟩ => ⟨S8x2048x32x16, .f32⟩
  | .hbm, ⟨85, _⟩ => ⟨S8x2048x32x16, .f32⟩
  | .hbm, ⟨86, _⟩ => ⟨S8x2048x32x16, .f32⟩
  | .hbm, ⟨87, _⟩ => ⟨S8x2048x32x16, .f32⟩
  | .hbm, ⟨88, _⟩ => ⟨S8x2048x32x16, .f32⟩
  | .hbm, ⟨89, _⟩ => ⟨S8x2048x32x16, .f32⟩
  | .hbm, ⟨90, _⟩ => ⟨S8x2048x32x16, .f32⟩
  | .hbm, ⟨91, _⟩ => ⟨S8x2048x32x96, .f32⟩
  | .hbm, ⟨92, _⟩ => ⟨S8x2048x32x128, .f32⟩
  | .hbm, ⟨93, _⟩ => ⟨S16384x4096, .f32⟩
  | .hbm, ⟨94, _⟩ => ⟨S16384x4096, .f32⟩
  | .hbm, ⟨95, _⟩ => ⟨S16384x12288, .f32⟩
  | .hbm, ⟨96, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_cst_7 : Ref sig .tc := ⟨.hbm, 60, rfl⟩
abbrev main_v50 : Ref sig .tc := ⟨.hbm, 61, rfl⟩
abbrev main_v51 : Ref sig .tc := ⟨.hbm, 62, rfl⟩
abbrev main_cst_8 : Ref sig .tc := ⟨.hbm, 63, rfl⟩
abbrev main_v52 : Ref sig .tc := ⟨.hbm, 64, rfl⟩
abbrev main_v53 : Ref sig .tc := ⟨.hbm, 65, rfl⟩
abbrev main_cst_9 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩

abbrev nD : Nat := 1
abbrev τ : Topo := Topo.v7x

variable {F : FTy → Type} [FloatOps F]
-- ==== Kernel10.lean ====
abbrev S16384x1536 : Shape := ⟨2, ![16384, 1536]⟩
abbrev S1536x16384 : Shape := ⟨2, ![1536, 16384]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S16384x16384 : Shape := ⟨2, ![16384, 16384]⟩
abbrev S1024x1536 : Shape := ⟨2, ![1024, 1536]⟩
abbrev S1536x1024 : Shape := ⟨2, ![1536, 1024]⟩
abbrev S1024x128 : Shape := ⟨2, ![1024, 128]⟩
abbrev S1024x1024 : Shape := ⟨2, ![1024, 1024]⟩

abbrev nBuf : Space → Nat
  | .hbm => 37
  | .vmem => 12
  | .smem => 0
  | _ => 0

abbrev bufTy : (tb : Table) → Fin (tcTables nBuf tb) → BufTy
  | .hbm, ⟨0, _⟩ => ⟨S16384x1536, .bf16⟩
  | .hbm, ⟨1, _⟩ => ⟨S1536x16384, .bf16⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S_, .f32⟩
  | .hbm, ⟨27, _⟩ => ⟨S2048x64, .f32⟩
  | .hbm, ⟨28, _⟩ => ⟨S_, .f32⟩
  | .hbm, ⟨29, _⟩ => ⟨S2048x64, .f32⟩
  | .hbm, ⟨30, _⟩ => ⟨S_, .f32⟩
  | .hbm, ⟨31, _⟩ => ⟨S2048x32, .f32⟩
  | .hbm, ⟨32, _⟩ => ⟨S2048x128, .f32⟩
  | .hbm, ⟨33, _⟩ => ⟨S2048x32, .f32⟩
  | .hbm, ⟨34, _⟩ => ⟨S2048x128, .f32⟩
  | .hbm, ⟨35, _⟩ => ⟨S2048x128, .f32⟩
  | .hbm, ⟨36, _⟩ => ⟨S16384x16384, .bf16⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S16384x1536 : Shape := ⟨2, ![16384, 1536]⟩
abbrev S1536x16384 : Shape := ⟨2, ![1536, 16384]⟩
abbrev S16384x16384 : Shape := ⟨2, ![16384, 16384]⟩
abbrev S_ : Shape := ⟨0, ![]⟩
abbrev S8x2048x64x256 : Shape := ⟨4, ![8, 2048, 64, 256]⟩
abbrev S8x2048x64x128 : Shape := ⟨4, ![8, 2048, 64, 128]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x64x32 : Shape := ⟨4, ![8, 2048, 64, 32]⟩
abbrev S8x2048x64x64 : Shape := ⟨4, ![8, 2048, 64, 64]⟩

abbrev nBuf : Space → Nat
  | .hbm => 54
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S1536x16384, .bf16⟩
  | .hbm, ⟨2, _⟩ => ⟨S16384x1536, .f32⟩
  | .hbm, ⟨3, _⟩ => ⟨S1536x16384, .f32⟩
  | .hbm, ⟨4, _⟩ => ⟨S16384x16384, .f32⟩
  | .hbm, ⟨5, _⟩ => ⟨S_, .f32⟩
  | .hbm, ⟨6, _⟩ => ⟨S16384x16384, .f32⟩
  | .hbm, ⟨7, _⟩ => ⟨S16384x16384, .f32⟩
  | .hbm, ⟨8, _⟩ => ⟨S8x2048x64x256, .f32⟩
  | .hbm, ⟨9, _⟩ => ⟨S8x2048x64x128, .f32⟩
  | .hbm, ⟨10, _⟩ => ⟨S8x2048x64x128, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S2048, .f32⟩
  | .hbm, ⟨28, _⟩ => ⟨S2048x1, .f32⟩
  | .hbm, ⟨29, _⟩ => ⟨S1x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S1x2048x1x32, .f32⟩
  | .hbm, ⟨35, _⟩ => ⟨S2048x32, .f32⟩
  | .hbm, ⟨36, _⟩ => ⟨S1x2048x1x32, .f32⟩
  | .hbm, ⟨37, _⟩ => ⟨S8x2048x64x32, .f32⟩
  | .hbm, ⟨38, _⟩ => ⟨S8x2048x64x32, .f32⟩
  | .hbm, ⟨39, _⟩ => ⟨S8x2048x64x32, .f32⟩
  | .hbm, ⟨40, _⟩ => ⟨S8x2048x64x32, .f32⟩
  | .hbm, ⟨41, _⟩ => ⟨S8x2048x64x32, .f32⟩
  | .hbm, ⟨42, _⟩ => ⟨S8x2048x64x32, .f32⟩
  | .hbm, ⟨43, _⟩ => ⟨S8x2048x64x32, .f32⟩
  | .hbm, ⟨44, _⟩ => ⟨S8x2048x64x32, .f32⟩
  | .hbm, ⟨45, _⟩ => ⟨S8x2048x64x32, .f32⟩
  | .hbm, ⟨46, _⟩ => ⟨S8x2048x64x32, .f32⟩
  | .hbm, ⟨47, _⟩ => ⟨S8x2048x64x32, .f32⟩
  | .hbm, ⟨48, _⟩ => ⟨S8x2048x64x32, .f32⟩
  | .hbm, ⟨49, _⟩ => ⟨S8x2048x64x64, .f32⟩
  | .hbm, ⟨50, _⟩ => ⟨S8x2048x64x128, .f32⟩
  | .hbm, ⟨51, _⟩ => ⟨S8x2048x64x256, .f32⟩
  | .hbm, ⟨52, _⟩ => ⟨S16384x16384, .f32⟩
  | .hbm, ⟨53, _⟩ => ⟨S16384x16384, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== Kernel11.lean ====
abbrev S16384x512 : Shape := ⟨2, ![16384, 512]⟩
abbrev S512x24576 : Shape := ⟨2, ![512, 24576]⟩
abbrev S16384x128 : Shape := ⟨2, ![16384, 128]⟩
abbrev S16384x24576 : Shape := ⟨2, ![16384, 24576]⟩
abbrev S1024x512 : Shape := ⟨2, ![1024, 512]⟩
abbrev S512x2048 : Shape := ⟨2, ![512, 2048]⟩
abbrev S1024x128 : Shape := ⟨2, ![1024, 128]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S16384x512, .bf16⟩
  | .hbm, ⟨1, _⟩ => ⟨S512x24576, .bf16⟩
  | .hbm, ⟨2, _⟩ => ⟨S16384x128, .f32⟩
  | .hbm, ⟨3, _⟩ => ⟨S16384x24576, .bf16⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x128, .f32⟩
  | .local _ .vmem, ⟨5, _⟩ => ⟨S1024x128, .f32⟩
  | .local _ .vmem, ⟨6, _⟩ => ⟨S1024x2048, .bf16⟩
  | .local _ .vmem, ⟨7, _⟩ => ⟨S1024x2048, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c8_i32_3 : BitVec 32 := 8#32
  let v6 : BitVec 1 := Scalar.cmpi .sge arg1 c8_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S16384x512 : Shape := ⟨2, ![16384, 512]⟩
abbrev S512x24576 : Shape := ⟨2, ![512, 24576]⟩
abbrev S16384x128 : Shape := ⟨2, ![16384, 128]⟩
abbrev S16384x24576 : Shape := ⟨2, ![16384, 24576]⟩
abbrev S16384x16384 : Shape := ⟨2, ![16384, 16384]⟩
abbrev S16384x64x256 : Shape := ⟨3, ![16384, 64, 256]⟩
abbrev S16384x64x128 : Shape := ⟨3, ![16384, 64, 128]⟩
abbrev S16384x1x128 : Shape := ⟨3, ![16384, 1, 128]⟩
abbrev S16384x8192 : Shape := ⟨2, ![16384, 8192]⟩

abbrev nBuf : Space → Nat
  | .hbm => 18
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x24576, .bf16⟩
  | .hbm, ⟨2, _⟩ => ⟨S16384x128, .f32⟩
  | .hbm, ⟨3, _⟩ => ⟨S16384x512, .f32⟩
  | .hbm, ⟨4, _⟩ => ⟨S512x24576, .f32⟩
  | .hbm, ⟨5, _⟩ => ⟨S16384x24576, .f32⟩
  | .hbm, ⟨6, _⟩ => ⟨S16384x16384, .f32⟩
  | .hbm, ⟨7, _⟩ => ⟨S16384x64x256, .f32⟩
  | .hbm, ⟨8, _⟩ => ⟨S16384x64x128, .f32⟩
  | .hbm, ⟨9, _⟩ => ⟨S16384x64x128, .f32⟩
  | .hbm, ⟨10, _⟩ => ⟨S16384x1x128, .f32⟩
  | .hbm, ⟨11, _⟩ => ⟨S16384x64x128, .f32⟩
  | .hbm, ⟨12, _⟩ => ⟨S16384x64x128, .f32⟩
  | .hbm, ⟨13, _⟩ => ⟨S16384x64x256, .f32⟩
  | .hbm, ⟨14, _⟩ => ⟨S16384x16384, .f32⟩
  | .hbm, ⟨15, _⟩ => ⟨S16384x8192, .f32⟩
  | .hbm, ⟨16, _⟩ => ⟨S16384x24576, .f32⟩
  | .hbm, ⟨17, _⟩ => ⟨S16384x24576, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel12.lean ====
abbrev S16384x4096 : Shape := ⟨2, ![16384, 4096]⟩
abbrev S4096x2304 : Shape := ⟨2, ![4096, 2304]⟩
abbrev S16384x2304 : Shape := ⟨2, ![16384, 2304]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x2304, .bf16⟩
  | .hbm, ⟨2, _⟩ => ⟨S16384x2304, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .f32⟩
  | .local _ .vmem, ⟨5, _⟩ => ⟨S1024x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S16384x4096 : Shape := ⟨2, ![16384, 4096]⟩
abbrev S4096x2304 : Shape := ⟨2, ![4096, 2304]⟩
abbrev S16384x2304 : Shape := ⟨2, ![16384, 2304]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2304, .bf16⟩
  | .hbm, ⟨2, _⟩ => ⟨S16384x4096, .f32⟩
  | .hbm, ⟨3, _⟩ => ⟨S4096x2304, .f32⟩
  | .hbm, ⟨4, _⟩ => ⟨S16384x2304, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S16384x128 : Shape := ⟨2, ![16384, 128]⟩
abbrev S128x4096 : Shape := ⟨2, ![128, 4096]⟩
abbrev S16384x4096 : Shape := ⟨2, ![16384, 4096]⟩
abbrev S4096 : Shape := ⟨1, ![4096]⟩
abbrev S1x4096 : Shape := ⟨2, ![1, 4096]⟩
abbrev S1024x128 : Shape := ⟨2, ![1024, 128]⟩
abbrev S128x512 : Shape := ⟨2, ![128, 512]⟩
abbrev S1024x512 : Shape := ⟨2, ![1024, 512]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S16384x128, .bf16⟩
  | .hbm, ⟨1, _⟩ => ⟨S128x4096, .bf16⟩
  | .hbm, ⟨2, _⟩ => ⟨S16384x4096, .f32⟩
  | .hbm, ⟨3, _⟩ => ⟨S16384x4096, .f32⟩
  | .hbm, ⟨4, _⟩ => ⟨S4096, .f32⟩
  | .hbm, ⟨5, _⟩ => ⟨S1x4096, .f32⟩
  | .hbm, ⟨6, _⟩ => ⟨S16384x4096, .f32⟩
  | .local _ .vmem, ⟨0, _⟩ => ⟨S1024x128, .bf16⟩
  | .local _ .vmem, ⟨1, _⟩ => ⟨S1024x128, .bf16⟩
  | .local _ .vmem, ⟨2, _⟩ => ⟨S128x512, .bf16⟩
  | .local _ .vmem, ⟨3, _⟩ => ⟨S128x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S16384x128 : Shape := ⟨2, ![16384, 128]⟩
abbrev S128x4096 : Shape := ⟨2, ![128, 4096]⟩
abbrev S16384x4096 : Shape := ⟨2, ![16384, 4096]⟩
abbrev S4096 : Shape := ⟨1, ![4096]⟩
abbrev S1x4096 : Shape := ⟨2, ![1, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x128, .bf16⟩
  | .hbm, ⟨1, _⟩ => ⟨S128x4096, .bf16⟩
  | .hbm, ⟨2, _⟩ => ⟨S16384x4096, .f32⟩
  | .hbm, ⟨3, _⟩ => ⟨S16384x4096, .f32⟩
  | .hbm, ⟨4, _⟩ => ⟨S4096, .f32⟩
  | .hbm, ⟨5, _⟩ => ⟨S16384x4096, .f32⟩
  | .hbm, ⟨6, _⟩ => ⟨S16384x128, .f32⟩
  | .hbm, ⟨7, _⟩ => ⟨S128x4096, .f32⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | _, _ => ⟨S16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel14.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel15.lean ====
abbrev S16384x2304 : Shape := ⟨2, ![16384, 2304]⟩
abbrev S1536 : Shape := ⟨1, ![1536]⟩
abbrev S1x1536 : Shape := ⟨2, ![1, 1536]⟩
abbrev S16384x1536 : Shape := ⟨2, ![16384, 1536]⟩
abbrev S512x1536 : Shape := ⟨2, ![512, 1536]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2304, .f32⟩
  | .hbm, ⟨1, _⟩ => ⟨S1536, .f32⟩
  | .hbm, ⟨2, _⟩ => ⟨S1x1536, .f32⟩
  | .hbm, ⟨3, _⟩ => ⟨S16384x1536, .bf16⟩
  | .local _ .vmem, ⟨0, _⟩ => ⟨S512x1536, .f32⟩
  | .local _ .vmem, ⟨1, _⟩ => ⟨S512x1536, .f32⟩
  | .local _ .vmem, ⟨2, _⟩ => ⟨S1x1536, .f32⟩
  | .local _ .vmem, ⟨3, _⟩ => ⟨S512x1536, .bf16⟩
  | .local _ .vmem, ⟨4, _⟩ => ⟨S512x1536, .bf16⟩
  | _, _ => ⟨S16384x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S16384x2304 : Shape := ⟨2, ![16384, 2304]⟩
abbrev S1536 : Shape := ⟨1, ![1536]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S1x1536 : Shape := ⟨2, ![1, 1536]⟩

abbrev nBuf : Space → Nat
  | .hbm => 20
  | .vmem => 0
  | .smem => 0
  | _ => 0

abbrev bufTy : (tb : Table) → Fin (tcTables nBuf tb) → BufTy
  | .hbm, ⟨0, _⟩ => ⟨S16384x2304, .f32⟩
  | .hbm, ⟨1, _⟩ => ⟨S1536, .f32⟩
  | .hbm, ⟨2, _⟩ => ⟨S16384x1536, .f32⟩
  | .hbm, ⟨3, _⟩ => ⟨S16384x1536, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1536, .f32⟩
  | .hbm, ⟨15, _⟩ => ⟨S16384x1536, .f32⟩
  | .hbm, ⟨16, _⟩ => ⟨S1x1536, .f32⟩
  | .hbm, ⟨17, _⟩ => ⟨S16384x1536, .f32⟩
  | .hbm, ⟨18, _⟩ => ⟨S16384x1536, .f32⟩
  | .hbm, ⟨19, _⟩ => ⟨S16384x1536, .bf16⟩
  | _, _ => ⟨S16384x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel16.lean ====
abbrev S16384x2304 : Shape := ⟨2, ![16384, 2304]⟩
abbrev S512 : Shape := ⟨1, ![512]⟩
abbrev S1x512 : Shape := ⟨2, ![1, 512]⟩
abbrev S16384x512 : Shape := ⟨2, ![16384, 512]⟩
abbrev S512x512 : Shape := ⟨2, ![512, 512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2304, .f32⟩
  | .hbm, ⟨1, _⟩ => ⟨S512, .f32⟩
  | .hbm, ⟨2, _⟩ => ⟨S1x512, .f32⟩
  | .hbm, ⟨3, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | _, _ => ⟨S16384x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S16384x2304 : Shape := ⟨2, ![16384, 2304]⟩
abbrev S512 : Shape := ⟨1, ![512]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S16384x2304, .f32⟩
  | .hbm, ⟨1, _⟩ => ⟨S512, .f32⟩
  | .hbm, ⟨2, _⟩ => ⟨S16384x512, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x512, .f32⟩
  | .hbm, ⟨15, _⟩ => ⟨S16384x512, .f32⟩
  | .hbm, ⟨16, _⟩ => ⟨S1x512, .f32⟩
  | .hbm, ⟨17, _⟩ => ⟨S16384x512, .f32⟩
  | .hbm, ⟨18, _⟩ => ⟨S16384x512, .f32⟩
  | .hbm, ⟨19, _⟩ => ⟨S16384x512, .bf16⟩
  | _, _ => ⟨S16384x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel17.lean ====
abbrev S16384x2304 : Shape := ⟨2, ![16384, 2304]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S16384x128 : Shape := ⟨2, ![16384, 128]⟩
abbrev S512x128 : Shape := ⟨2, ![512, 128]⟩

abbrev nBuf : Space → Nat
  | .hbm => 36
  | .vmem => 10
  | .smem => 0
  | _ => 0

abbrev bufTy : (tb : Table) → Fin (tcTables nBuf tb) → BufTy
  | .hbm, ⟨0, _⟩ => ⟨S16384x2304, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S_, .f32⟩
  | .hbm, ⟨26, _⟩ => ⟨S2048x64, .f32⟩
  | .hbm, ⟨27, _⟩ => ⟨S_, .f32⟩
  | .hbm, ⟨28, _⟩ => ⟨S2048x64, .f32⟩
  | .hbm, ⟨29, _⟩ => ⟨S_, .f32⟩
  | .hbm, ⟨30, _⟩ => ⟨S2048x32, .f32⟩
  | .hbm, ⟨31, _⟩ => ⟨S2048x128, .f32⟩
  | .hbm, ⟨32, _⟩ => ⟨S2048x32, .f32⟩
  | .hbm, ⟨33, _⟩ => ⟨S2048x128, .f32⟩
  | .hbm, ⟨34, _⟩ => ⟨S2048x128, .f32⟩
  | .hbm, ⟨35, _⟩ => ⟨S16384x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | _, _ => ⟨S16384x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_cst_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S16384x2304 : Shape := ⟨2, ![16384, 2304]⟩
abbrev S16384x128 : Shape := ⟨2, ![16384, 128]⟩
abbrev S8x2048x1x128 : Shape := ⟨4, ![8, 2048, 1, 128]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x1x32 : Shape := ⟨4, ![8, 2048, 1, 32]⟩
abbrev S8x2048x1x64 : Shape := ⟨4, ![8, 2048, 1, 64]⟩

abbrev nBuf : Space → Nat
  | .hbm => 44
  | .vmem => 0
  | .smem => 0
  | _ => 0

abbrev bufTy : (tb : Table) → Fin (tcTables nBuf tb) → BufTy
  | .hbm, ⟨0, _⟩ => ⟨S16384x2304, .f32⟩
  | .hbm, ⟨1, _⟩ => ⟨S16384x128, .f32⟩
  | .hbm, ⟨2, _⟩ => ⟨S8x2048x1x128, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S1x2048x1x32, .f32⟩
  | .hbm, ⟨27, _⟩ => ⟨S2048x32, .f32⟩
  | .hbm, ⟨28, _⟩ => ⟨S1x2048x1x32, .f32⟩
  | .hbm, ⟨29, _⟩ => ⟨S8x2048x1x32, .f32⟩
  | .hbm, ⟨30, _⟩ => ⟨S8x2048x1x32, .f32⟩
  | .hbm, ⟨31, _⟩ => ⟨S8x2048x1x32, .f32⟩
  | .hbm, ⟨32, _⟩ => ⟨S8x2048x1x32, .f32⟩
  | .hbm, ⟨33, _⟩ => ⟨S8x2048x1x32, .f32⟩
  | .hbm, ⟨34, _⟩ => ⟨S8x2048x1x32, .f32⟩
  | .hbm, ⟨35, _⟩ => ⟨S8x2048x1x32, .f32⟩
  | .hbm, ⟨36, _⟩ => ⟨S8x2048x1x32, .f32⟩
  | .hbm, ⟨37, _⟩ => ⟨S8x2048x1x32, .f32⟩
  | .hbm, ⟨38, _⟩ => ⟨S8x2048x1x32, .f32⟩
  | .hbm, ⟨39, _⟩ => ⟨S8x2048x1x32, .f32⟩
  | .hbm, ⟨40, _⟩ => ⟨S8x2048x1x32, .f32⟩
  | .hbm, ⟨41, _⟩ => ⟨S8x2048x1x64, .f32⟩
  | .hbm, ⟨42, _⟩ => ⟨S8x2048x1x128, .f32⟩
  | .hbm, ⟨43, _⟩ => ⟨S16384x128, .f32⟩
  | _, _ => ⟨S16384x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Kernel18.lean ====
abbrev S8x2048x4096 : Shape := ⟨3, ![8, 2048, 4096]⟩
abbrev S4096 : Shape := ⟨1, ![4096]⟩
abbrev S6x4096 : Shape := ⟨2, ![6, 4096]⟩
abbrev S4096x256 : Shape := ⟨2, ![4096, 256]⟩
abbrev S4096x512 : Shape := ⟨2, ![4096, 512]⟩
abbrev S4096x128 : Shape := ⟨2, ![4096, 128]⟩
abbrev S1x4096 : Shape := ⟨2, ![1, 4096]⟩
abbrev S8x2048x256 : Shape := ⟨3, ![8, 2048, 256]⟩
abbrev S8x2048x512 : Shape := ⟨3, ![8, 2048, 512]⟩
abbrev S8x2048x128 : Shape := ⟨3, ![8, 2048, 128]⟩
abbrev S1x256x4096 : Shape := ⟨3, ![1, 256, 4096]⟩
abbrev S1x8x4096 : Shape := ⟨3, ![1, 8, 4096]⟩
abbrev S1x256x256 : Shape := ⟨3, ![1, 256, 256]⟩
abbrev S1x256x512 : Shape := ⟨3, ![1, 256, 512]⟩
abbrev S1x256x128 : Shape := ⟨3, ![1, 256, 128]⟩
abbrev S256x4096 : Shape := ⟨2, ![256, 4096]⟩
abbrev S256 : Shape := ⟨1, ![256]⟩
abbrev S256x1 : Shape := ⟨2, ![256, 1]⟩
abbrev S8x4096 : Shape := ⟨2, ![8, 4096]⟩
abbrev S8 : Shape := ⟨1, ![8]⟩
abbrev S8x1 : Shape := ⟨2, ![8, 1]⟩
abbrev S256x256 : Shape := ⟨2, ![256, 256]⟩
abbrev S256x512 : Shape := ⟨2, ![256, 512]⟩
abbrev S256x128 : Shape := ⟨2, ![256, 128]⟩

abbrev nBuf : Space → Nat
  | .hbm => 15
  | .vmem => 26
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S6x4096, .f32⟩
  | .hbm, ⟨3, _⟩ => ⟨S4096x256, .bf16⟩
  | .hbm, ⟨4, _⟩ => ⟨S4096x256, .bf16⟩
  | .hbm, ⟨5, _⟩ => ⟨S4096x512, .bf16⟩
  | .hbm, ⟨6, _⟩ => ⟨S4096x128, .bf16⟩
  | .hbm, ⟨7, _⟩ => ⟨S1x4096, .f32⟩
  | .hbm, ⟨8, _⟩ => ⟨S8x2048x4096, .bf16⟩
  | .hbm, ⟨9, _⟩ => ⟨S8x2048x4096, .bf16⟩
  | .hbm, ⟨10, _⟩ => ⟨S8x2048x4096, .bf16⟩
  | .hbm, ⟨11, _⟩ => ⟨S8x2048x256, .bf16⟩
  | .hbm, ⟨12, _⟩ => ⟨S8x2048x256, .bf16⟩
  | .hbm, ⟨13, _⟩ => ⟨S8x2048x512, .bf16⟩
  | .hbm, ⟨14, _⟩ => ⟨S8x2048x128, .bf16⟩
  | .local _ .vmem, ⟨0, _⟩ => ⟨S1x256x4096, .f32⟩
  | .local _ .vmem, ⟨1, _⟩ => ⟨S1x256x4096, .f32⟩
  | .local _ .vmem, ⟨2, _⟩ => ⟨S1x8x4096, .f32⟩
  | .local _ .vmem, ⟨3, _⟩ => ⟨S1x8x4096, .f32⟩
  | .local _ .vmem, ⟨4, _⟩ => ⟨S1x8x4096, .f32⟩
  | .local _ .vmem, ⟨5, _⟩ => ⟨S1x8x4096, .f32⟩
  | .local _ .vmem, ⟨6, _⟩ => ⟨S1x4096, .f32⟩
  | .local _ .vmem, ⟨7, _⟩ => ⟨S6x4096, .f32⟩
  | .local _ .vmem, ⟨8, _⟩ => ⟨S4096x256, .bf16⟩
  | .local _ .vmem, ⟨9, _⟩ => ⟨S4096x256, .bf16⟩
  | .local _ .vmem, ⟨10, _⟩ => ⟨S4096x512, .bf16⟩
  | .local _ .vmem, ⟨11, _⟩ => ⟨S4096x128, .bf16⟩
  | .local _ .vmem, ⟨12, _⟩ => ⟨S1x256x4096, .bf16⟩
  | .local _ .vmem, ⟨13, _⟩ => ⟨S1x256x4096, .bf16⟩
  | .local _ .vmem, ⟨14, _⟩ => ⟨S1x256x4096, .bf16⟩
  | .local _ .vmem, ⟨15, _⟩ => ⟨S1x256x4096, .bf16⟩
  | .local _ .vmem, ⟨16, _⟩ => ⟨S1x256x4096, .bf16⟩
  | .local _ .vmem, ⟨17, _⟩ => ⟨S1x256x4096, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x256, .bf16⟩
  | .local _ .vmem, ⟨22, _⟩ => ⟨S1x256x512, .bf16⟩
  | .local _ .vmem, ⟨23, _⟩ => ⟨S1x256x512, .bf16⟩
  | .local _ .vmem, ⟨24, _⟩ => ⟨S1x256x128, .bf16⟩
  | .local _ .vmem, ⟨25, _⟩ => ⟨S1x256x128, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S6x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference18Ideal.lean ====
abbrev S8x2048x4096 : Shape := ⟨3, ![8, 2048, 4096]⟩
abbrev S4096 : Shape := ⟨1, ![4096]⟩
abbrev S6x4096 : Shape := ⟨2, ![6, 4096]⟩
abbrev S4096x256 : Shape := ⟨2, ![4096, 256]⟩
abbrev S4096x512 : Shape := ⟨2, ![4096, 512]⟩
abbrev S4096x128 : Shape := ⟨2, ![4096, 128]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S8x2050x4096 : Shape := ⟨3, ![8, 2050, 4096]⟩
abbrev S1x4096 : Shape := ⟨2, ![1, 4096]⟩
abbrev S8x2048x256 : Shape := ⟨3, ![8, 2048, 256]⟩
abbrev S8x2048x512 : Shape := ⟨3, ![8, 2048, 512]⟩
abbrev S8x2048x128 : Shape := ⟨3, ![8, 2048, 128]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S6x4096, .f32⟩
  | .hbm, ⟨3, _⟩ => ⟨S4096x256, .bf16⟩
  | .hbm, ⟨4, _⟩ => ⟨S4096x256, .bf16⟩
  | .hbm, ⟨5, _⟩ => ⟨S4096x512, .bf16⟩
  | .hbm, ⟨6, _⟩ => ⟨S4096x128, .bf16⟩
  | .hbm, ⟨7, _⟩ => ⟨S8x2048x4096, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x4096, .f32⟩
  | .hbm, ⟨19, _⟩ => ⟨S8x2048x4096, .f32⟩
  | .hbm, ⟨20, _⟩ => ⟨S1x1x4096, .f32⟩
  | .hbm, ⟨21, _⟩ => ⟨S8x2048x4096, .f32⟩
  | .hbm, ⟨22, _⟩ => ⟨S8x2048x4096, .f32⟩
  | .hbm, ⟨23, _⟩ => ⟨S_, .i32⟩
  | .hbm, ⟨24, _⟩ => ⟨S_, .f32⟩
  | .hbm, ⟨25, _⟩ => ⟨S8x2050x4096, .f32⟩
  | .hbm, ⟨26, _⟩ => ⟨S8x2048x4096, .f32⟩
  | .hbm, ⟨27, _⟩ => ⟨S8x2048x4096, .f32⟩
  | .hbm, ⟨28, _⟩ => ⟨S8x2048x4096, .f32⟩
  | .hbm, ⟨29, _⟩ => ⟨S_, .f32⟩
  | .hbm, ⟨30, _⟩ => ⟨S8x2048x4096, .f32⟩
  | .hbm, ⟨31, _⟩ => ⟨S8x2048x4096, .f32⟩
  | .hbm, ⟨32, _⟩ => ⟨S8x2048x4096, .f32⟩
  | .hbm, ⟨33, _⟩ => ⟨S1x4096, .f32⟩
  | .hbm, ⟨34, _⟩ => ⟨S4096, .f32⟩
  | .hbm, ⟨35, _⟩ => ⟨S1x1x4096, .f32⟩
  | .hbm, ⟨36, _⟩ => ⟨S8x2048x4096, .f32⟩
  | .hbm, ⟨37, _⟩ => ⟨S8x2048x4096, .f32⟩
  | .hbm, ⟨38, _⟩ => ⟨S8x2048x4096, .f32⟩
  | .hbm, ⟨39, _⟩ => ⟨S8x2048x4096, .bf16⟩
  | .hbm, ⟨40, _⟩ => ⟨S1x4096, .f32⟩
  | .hbm, ⟨41, _⟩ => ⟨S4096, .f32⟩
  | .hbm, ⟨42, _⟩ => ⟨S1x1x4096, .f32⟩
  | .hbm, ⟨43, _⟩ => ⟨S8x2048x4096, .f32⟩
  | .hbm, ⟨44, _⟩ => ⟨S8x2048x4096, .f32⟩
  | .hbm, ⟨45, _⟩ => ⟨S8x2048x4096, .f32⟩
  | .hbm, ⟨46, _⟩ => ⟨S8x2048x4096, .bf16⟩
  | .hbm, ⟨47, _⟩ => ⟨S1x4096, .f32⟩
  | .hbm, ⟨48, _⟩ => ⟨S4096, .f32⟩
  | .hbm, ⟨49, _⟩ => ⟨S1x1x4096, .f32⟩
  | .hbm, ⟨50, _⟩ => ⟨S8x2048x4096, .f32⟩
  | .hbm, ⟨51, _⟩ => ⟨S8x2048x4096, .f32⟩
  | .hbm, ⟨52, _⟩ => ⟨S8x2048x4096, .f32⟩
  | .hbm, ⟨53, _⟩ => ⟨S8x2048x4096, .bf16⟩
  | .hbm, ⟨54, _⟩ => ⟨S1x4096, .f32⟩
  | .hbm, ⟨55, _⟩ => ⟨S4096, .f32⟩
  | .hbm, ⟨56, _⟩ => ⟨S1x1x4096, .f32⟩
  | .hbm, ⟨57, _⟩ => ⟨S8x2048x4096, .f32⟩
  | .hbm, ⟨58, _⟩ => ⟨S8x2048x4096, .f32⟩
  | .hbm, ⟨59, _⟩ => ⟨S8x2048x4096, .f32⟩
  | .hbm, ⟨60, _⟩ => ⟨S8x2048x4096, .bf16⟩
  | .hbm, ⟨61, _⟩ => ⟨S1x4096, .f32⟩
  | .hbm, ⟨62, _⟩ => ⟨S4096, .f32⟩
  | .hbm, ⟨63, _⟩ => ⟨S1x1x4096, .f32⟩
  | .hbm, ⟨64, _⟩ => ⟨S8x2048x4096, .f32⟩
  | .hbm, ⟨65, _⟩ => ⟨S8x2048x4096, .f32⟩
  | .hbm, ⟨66, _⟩ => ⟨S8x2048x4096, .f32⟩
  | .hbm, ⟨67, _⟩ => ⟨S8x2048x4096, .bf16⟩
  | .hbm, ⟨68, _⟩ => ⟨S1x4096, .f32⟩
  | .hbm, ⟨69, _⟩ => ⟨S4096, .f32⟩
  | .hbm, ⟨70, _⟩ => ⟨S1x1x4096, .f32⟩
  | .hbm, ⟨71, _⟩ => ⟨S8x2048x4096, .f32⟩
  | .hbm, ⟨72, _⟩ => ⟨S8x2048x4096, .f32⟩
  | .hbm, ⟨73, _⟩ => ⟨S8x2048x4096, .f32⟩
  | .hbm, ⟨74, _⟩ => ⟨S8x2048x4096, .bf16⟩
  | .hbm, ⟨75, _⟩ => ⟨S8x2048x4096, .f32⟩
  | .hbm, ⟨76, _⟩ => ⟨S4096x256, .f32⟩
  | .hbm, ⟨77, _⟩ => ⟨S8x2048x256, .f32⟩
  | .hbm, ⟨78, _⟩ => ⟨S8x2048x256, .f32⟩
  | .hbm, ⟨79, _⟩ => ⟨S8x2048x256, .bf16⟩
  | .hbm, ⟨80, _⟩ => ⟨S8x2048x4096, .f32⟩
  | .hbm, ⟨81, _⟩ => ⟨S4096x256, .f32⟩
  | .hbm, ⟨82, _⟩ => ⟨S8x2048x256, .f32⟩
  | .hbm, ⟨83, _⟩ => ⟨S8x2048x256, .bf16⟩
  | .hbm, ⟨84, _⟩ => ⟨S8x2048x4096, .f32⟩
  | .hbm, ⟨85, _⟩ => ⟨S4096x512, .f32⟩
  | .hbm, ⟨86, _⟩ => ⟨S8x2048x512, .f32⟩
  | .hbm, ⟨87, _⟩ => ⟨S8x2048x512, .f32⟩
  | .hbm, ⟨88, _⟩ => ⟨S8x2048x512, .f32⟩
  | .hbm, ⟨89, _⟩ => ⟨S_, .f32⟩
  | .hbm, ⟨90, _⟩ => ⟨S8x2048x512, .f32⟩
  | .hbm, ⟨91, _⟩ => ⟨S8x2048x512, .f32⟩
  | .hbm, ⟨92, _⟩ => ⟨S_, .f32⟩
  | .hbm, ⟨93, _⟩ => ⟨S8x2048x512, .f32⟩
  | .hbm, ⟨94, _⟩ => ⟨S8x2048x512, .f32⟩
  | .hbm, ⟨95, _⟩ => ⟨S8x2048x512, .bf16⟩
  | .hbm, ⟨96, _⟩ => ⟨S8x2048x4096, .f32⟩
  | .hbm, ⟨97, _⟩ => ⟨S4096x128, .f32⟩
  | .hbm, ⟨98, _⟩ => ⟨S8x2048x128, .f32⟩
  | .hbm, ⟨99, _⟩ => ⟨S8x2048x128, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_3 : Ref sig .tc := ⟨.hbm, 89, rfl⟩
abbrev main_v76 : Ref sig .tc := ⟨.hbm, 90, rfl⟩
abbrev main_v77 : Ref sig .tc := ⟨.hbm, 91, rfl⟩
abbrev main_cst_4 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩

abbrev nD : Nat := 1
abbrev τ : Topo := Topo.v7x

variable {F : FTy → Type} [FloatOps F]
-- ==== Kernel19.lean ====
abbrev S8x2048x4096 : Shape := ⟨3, ![8, 2048, 4096]⟩
abbrev S4096 : Shape := ⟨1, ![4096]⟩
abbrev S6x4096 : Shape := ⟨2, ![6, 4096]⟩
abbrev S4096x256 : Shape := ⟨2, ![4096, 256]⟩
abbrev S4096x512 : Shape := ⟨2, ![4096, 512]⟩
abbrev S1x4096 : Shape := ⟨2, ![1, 4096]⟩
abbrev S8x2048x256 : Shape := ⟨3, ![8, 2048, 256]⟩
abbrev S8x2048x512 : Shape := ⟨3, ![8, 2048, 512]⟩
abbrev S1x256x4096 : Shape := ⟨3, ![1, 256, 4096]⟩
abbrev S1x8x4096 : Shape := ⟨3, ![1, 8, 4096]⟩
abbrev S1x256x256 : Shape := ⟨3, ![1, 256, 256]⟩
abbrev S1x256x512 : Shape := ⟨3, ![1, 256, 512]⟩
abbrev S256x4096 : Shape := ⟨2, ![256, 4096]⟩
abbrev S256 : Shape := ⟨1, ![256]⟩
abbrev S256x1 : Shape := ⟨2, ![256, 1]⟩
abbrev S8x4096 : Shape := ⟨2, ![8, 4096]⟩
abbrev S8 : Shape := ⟨1, ![8]⟩
abbrev S8x1 : Shape := ⟨2, ![8, 1]⟩
abbrev S256x256 : Shape := ⟨2, ![256, 256]⟩
abbrev S256x512 : Shape := ⟨2, ![256, 512]⟩

abbrev nBuf : Space → Nat
  | .hbm => 13
  | .vmem => 23
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S6x4096, .f32⟩
  | .hbm, ⟨3, _⟩ => ⟨S4096x256, .bf16⟩
  | .hbm, ⟨4, _⟩ => ⟨S4096x256, .bf16⟩
  | .hbm, ⟨5, _⟩ => ⟨S4096x512, .bf16⟩
  | .hbm, ⟨6, _⟩ => ⟨S1x4096, .f32⟩
  | .hbm, ⟨7, _⟩ => ⟨S8x2048x4096, .bf16⟩
  | .hbm, ⟨8, _⟩ => ⟨S8x2048x4096, .bf16⟩
  | .hbm, ⟨9, _⟩ => ⟨S8x2048x4096, .bf16⟩
  | .hbm, ⟨10, _⟩ => ⟨S8x2048x256, .bf16⟩
  | .hbm, ⟨11, _⟩ => ⟨S8x2048x256, .bf16⟩
  | .hbm, ⟨12, _⟩ => ⟨S8x2048x512, .bf16⟩
  | .local _ .vmem, ⟨0, _⟩ => ⟨S1x256x4096, .f32⟩
  | .local _ .vmem, ⟨1, _⟩ => ⟨S1x256x4096, .f32⟩
  | .local _ .vmem, ⟨2, _⟩ => ⟨S1x8x4096, .f32⟩
  | .local _ .vmem, ⟨3, _⟩ => ⟨S1x8x4096, .f32⟩
  | .local _ .vmem, ⟨4, _⟩ => ⟨S1x8x4096, .f32⟩
  | .local _ .vmem, ⟨5, _⟩ => ⟨S1x8x4096, .f32⟩
  | .local _ .vmem, ⟨6, _⟩ => ⟨S1x4096, .f32⟩
  | .local _ .vmem, ⟨7, _⟩ => ⟨S6x4096, .f32⟩
  | .local _ .vmem, ⟨8, _⟩ => ⟨S4096x256, .bf16⟩
  | .local _ .vmem, ⟨9, _⟩ => ⟨S4096x256, .bf16⟩
  | .local _ .vmem, ⟨10, _⟩ => ⟨S4096x512, .bf16⟩
  | .local _ .vmem, ⟨11, _⟩ => ⟨S1x256x4096, .bf16⟩
  | .local _ .vmem, ⟨12, _⟩ => ⟨S1x256x4096, .bf16⟩
  | .local _ .vmem, ⟨13, _⟩ => ⟨S1x256x4096, .bf16⟩
  | .local _ .vmem, ⟨14, _⟩ => ⟨S1x256x4096, .bf16⟩
  | .local _ .vmem, ⟨15, _⟩ => ⟨S1x256x4096, .bf16⟩
  | .local _ .vmem, ⟨16, _⟩ => ⟨S1x256x4096, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x512, .bf16⟩
  | .local _ .vmem, ⟨22, _⟩ => ⟨S1x256x512, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S6x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference19Ideal.lean ====
abbrev S8x2048x4096 : Shape := ⟨3, ![8, 2048, 4096]⟩
abbrev S4096 : Shape := ⟨1, ![4096]⟩
abbrev S6x4096 : Shape := ⟨2, ![6, 4096]⟩
abbrev S4096x256 : Shape := ⟨2, ![4096, 256]⟩
abbrev S4096x512 : Shape := ⟨2, ![4096, 512]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S8x2050x4096 : Shape := ⟨3, ![8, 2050, 4096]⟩
abbrev S1x4096 : Shape := ⟨2, ![1, 4096]⟩
abbrev S8x2048x256 : Shape := ⟨3, ![8, 2048, 256]⟩
abbrev S8x2048x512 : Shape := ⟨3, ![8, 2048, 512]⟩

abbrev nBuf : Space → Nat
  | .hbm => 95
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S6x4096, .f32⟩
  | .hbm, ⟨3, _⟩ => ⟨S4096x256, .bf16⟩
  | .hbm, ⟨4, _⟩ => ⟨S4096x256, .bf16⟩
  | .hbm, ⟨5, _⟩ => ⟨S4096x512, .bf16⟩
  | .hbm, ⟨6, _⟩ => ⟨S8x2048x4096, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x4096, .f32⟩
  | .hbm, ⟨18, _⟩ => ⟨S8x2048x4096, .f32⟩
  | .hbm, ⟨19, _⟩ => ⟨S1x1x4096, .f32⟩
  | .hbm, ⟨20, _⟩ => ⟨S8x2048x4096, .f32⟩
  | .hbm, ⟨21, _⟩ => ⟨S8x2048x4096, .f32⟩
  | .hbm, ⟨22, _⟩ => ⟨S_, .i32⟩
  | .hbm, ⟨23, _⟩ => ⟨S_, .f32⟩
  | .hbm, ⟨24, _⟩ => ⟨S8x2050x4096, .f32⟩
  | .hbm, ⟨25, _⟩ => ⟨S8x2048x4096, .f32⟩
  | .hbm, ⟨26, _⟩ => ⟨S8x2048x4096, .f32⟩
  | .hbm, ⟨27, _⟩ => ⟨S8x2048x4096, .f32⟩
  | .hbm, ⟨28, _⟩ => ⟨S_, .f32⟩
  | .hbm, ⟨29, _⟩ => ⟨S8x2048x4096, .f32⟩
  | .hbm, ⟨30, _⟩ => ⟨S8x2048x4096, .f32⟩
  | .hbm, ⟨31, _⟩ => ⟨S8x2048x4096, .f32⟩
  | .hbm, ⟨32, _⟩ => ⟨S1x4096, .f32⟩
  | .hbm, ⟨33, _⟩ => ⟨S4096, .f32⟩
  | .hbm, ⟨34, _⟩ => ⟨S1x1x4096, .f32⟩
  | .hbm, ⟨35, _⟩ => ⟨S8x2048x4096, .f32⟩
  | .hbm, ⟨36, _⟩ => ⟨S8x2048x4096, .f32⟩
  | .hbm, ⟨37, _⟩ => ⟨S8x2048x4096, .f32⟩
  | .hbm, ⟨38, _⟩ => ⟨S8x2048x4096, .bf16⟩
  | .hbm, ⟨39, _⟩ => ⟨S1x4096, .f32⟩
  | .hbm, ⟨40, _⟩ => ⟨S4096, .f32⟩
  | .hbm, ⟨41, _⟩ => ⟨S1x1x4096, .f32⟩
  | .hbm, ⟨42, _⟩ => ⟨S8x2048x4096, .f32⟩
  | .hbm, ⟨43, _⟩ => ⟨S8x2048x4096, .f32⟩
  | .hbm, ⟨44, _⟩ => ⟨S8x2048x4096, .f32⟩
  | .hbm, ⟨45, _⟩ => ⟨S8x2048x4096, .bf16⟩
  | .hbm, ⟨46, _⟩ => ⟨S1x4096, .f32⟩
  | .hbm, ⟨47, _⟩ => ⟨S4096, .f32⟩
  | .hbm, ⟨48, _⟩ => ⟨S1x1x4096, .f32⟩
  | .hbm, ⟨49, _⟩ => ⟨S8x2048x4096, .f32⟩
  | .hbm, ⟨50, _⟩ => ⟨S8x2048x4096, .f32⟩
  | .hbm, ⟨51, _⟩ => ⟨S8x2048x4096, .f32⟩
  | .hbm, ⟨52, _⟩ => ⟨S8x2048x4096, .bf16⟩
  | .hbm, ⟨53, _⟩ => ⟨S1x4096, .f32⟩
  | .hbm, ⟨54, _⟩ => ⟨S4096, .f32⟩
  | .hbm, ⟨55, _⟩ => ⟨S1x1x4096, .f32⟩
  | .hbm, ⟨56, _⟩ => ⟨S8x2048x4096, .f32⟩
  | .hbm, ⟨57, _⟩ => ⟨S8x2048x4096, .f32⟩
  | .hbm, ⟨58, _⟩ => ⟨S8x2048x4096, .f32⟩
  | .hbm, ⟨59, _⟩ => ⟨S8x2048x4096, .bf16⟩
  | .hbm, ⟨60, _⟩ => ⟨S1x4096, .f32⟩
  | .hbm, ⟨61, _⟩ => ⟨S4096, .f32⟩
  | .hbm, ⟨62, _⟩ => ⟨S1x1x4096, .f32⟩
  | .hbm, ⟨63, _⟩ => ⟨S8x2048x4096, .f32⟩
  | .hbm, ⟨64, _⟩ => ⟨S8x2048x4096, .f32⟩
  | .hbm, ⟨65, _⟩ => ⟨S8x2048x4096, .f32⟩
  | .hbm, ⟨66, _⟩ => ⟨S8x2048x4096, .bf16⟩
  | .hbm, ⟨67, _⟩ => ⟨S1x4096, .f32⟩
  | .hbm, ⟨68, _⟩ => ⟨S4096, .f32⟩
  | .hbm, ⟨69, _⟩ => ⟨S1x1x4096, .f32⟩
  | .hbm, ⟨70, _⟩ => ⟨S8x2048x4096, .f32⟩
  | .hbm, ⟨71, _⟩ => ⟨S8x2048x4096, .f32⟩
  | .hbm, ⟨72, _⟩ => ⟨S8x2048x4096, .f32⟩
  | .hbm, ⟨73, _⟩ => ⟨S8x2048x4096, .bf16⟩
  | .hbm, ⟨74, _⟩ => ⟨S8x2048x4096, .f32⟩
  | .hbm, ⟨75, _⟩ => ⟨S4096x256, .f32⟩
  | .hbm, ⟨76, _⟩ => ⟨S8x2048x256, .f32⟩
  | .hbm, ⟨77, _⟩ => ⟨S8x2048x256, .f32⟩
  | .hbm, ⟨78, _⟩ => ⟨S8x2048x256, .bf16⟩
  | .hbm, ⟨79, _⟩ => ⟨S8x2048x4096, .f32⟩
  | .hbm, ⟨80, _⟩ => ⟨S4096x256, .f32⟩
  | .hbm, ⟨81, _⟩ => ⟨S8x2048x256, .f32⟩
  | .hbm, ⟨82, _⟩ => ⟨S8x2048x256, .bf16⟩
  | .hbm, ⟨83, _⟩ => ⟨S8x2048x4096, .f32⟩
  | .hbm, ⟨84, _⟩ => ⟨S4096x512, .f32⟩
  | .hbm, ⟨85, _⟩ => ⟨S8x2048x512, .f32⟩
  | .hbm, ⟨86, _⟩ => ⟨S8x2048x512, .f32⟩
  | .hbm, ⟨87, _⟩ => ⟨S8x2048x512, .f32⟩
  | .hbm, ⟨88, _⟩ => ⟨S_, .f32⟩
  | .hbm, ⟨89, _⟩ => ⟨S8x2048x512, .f32⟩
  | .hbm, ⟨90, _⟩ => ⟨S8x2048x512, .f32⟩
  | .hbm, ⟨91, _⟩ => ⟨S_, .f32⟩
  | .hbm, ⟨92, _⟩ => ⟨S8x2048x512, .f32⟩
  | .hbm, ⟨93, _⟩ => ⟨S8x2048x512, .f32⟩
  | .hbm, ⟨94, _⟩ => ⟨S8x2048x512, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_3 : Ref sig .tc := ⟨.hbm, 88, rfl⟩
abbrev main_v76 : Ref sig .tc := ⟨.hbm, 89, rfl⟩
abbrev main_v77 : Ref sig .tc := ⟨.hbm, 90, rfl⟩
abbrev main_cst_4 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩

abbrev nD : Nat := 1
abbrev τ : Topo := Topo.v7x

variable {F : FTy → Type} [FloatOps F]
-- ==== Proof.Attn.Online.lean ====
module

public import Idealize.ShloMosaic.Lib.Pipeline.ValueKit

/-!
The arithmetic of an attention that reads its keys piece by piece, in real numbers, free of any program.

A row of attention has real scores `σ k` and, for each coordinate `d`, real values `ν d k`. Reading the keys in pieces one keeps a
shift `m` and weighted sums `acc d`; after `T` keys they are `m = μ` and `acc d = ∑ k < T, 2 ^ (σ k - μ) * ν d k` for SOME real `μ`
(`Upto`). Which `μ` does not matter, for the quotient of two such sums is the same at every `μ` (`Upto.quotient`).
-/

@[expose] public section
noncomputable section
namespace Cert.Attn
open Idealize.ShloMosaic

/-- A coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern of minus infinity. -/
theorem ofBits_neg_inf_f32 : Ideal.ofBits .f32 0xFF800000#32 = ⊥ := by simp [Ideal.ofBits, Ideal.ieee]

/-- The logarithm of the pattern of two. -/
theorem log_two : Ideal.log (Ideal.ofBits .f32 1073741824#32) = (Real.log 2 : EReal) := by
  rw [show Ideal.ofBits .f32 1073741824#32 = ((2 : ℝ) : EReal) from by simp [Ideal.ofBits, Ideal.ieee]; rw [← EReal.coe_mul]; norm_num, Ideal.log_coe, if_neg (by norm_num)]

/-- The pattern of infinity, in the half format. -/
theorem ofBits_inf_bf16 : Ideal.ofBits .bf16 0x7F80#16 = ⊤ := by simp [Ideal.ofBits, Ideal.ieee]

/-- The larger of two, one of them a real and the other a real or `-∞`, is a real. -/
theorem max_real {a b : EReal} (ha : a = ⊥ ∨ ∃ r : ℝ, a = r) (hb : ∃ r : ℝ, b = r) : ∃ r : ℝ, max a b = r := by
  obtain ⟨s, rfl⟩ := hb
  rcases ha with rfl | ⟨r, rfl⟩
  · exact ⟨s, by simp⟩
  · exact ⟨max r s, (EReal.coe_strictMono.monotone.map_max).symm⟩

/-- The largest of reals is a real or `-∞`. -/
theorem fold_max_or {ι : Type} (s : Finset ι) (f : ι → EReal) (hf : ∀ i, ∃ r : ℝ, f i = r) :
    s.fold max ⊥ f = ⊥ ∨ ∃ r : ℝ, s.fold max ⊥ f = r := by
  classical
  induction s using Finset.induction_on with
  | empty => exact .inl (by simp)
  | insert a s ha ih =>
    rw [Finset.fold_insert ha, max_comm]
    exact .inr (max_real ih (hf a))

/-- The largest of reals, at least one of them there, is a real. -/
theorem fold_max_real {ι : Type} (s : Finset ι) (hs : s.Nonempty) (f : ι → EReal) (hf : ∀ i, ∃ r : ℝ, f i = r) :
    ∃ r : ℝ, s.fold max ⊥ f = r := by
  classical
  obtain ⟨a, ha⟩ := hs
  rw [← Finset.insert_erase ha, Finset.fold_insert (Finset.notMem_erase a s), max_comm]
  exact max_real (fold_max_or _ f hf) (hf a)

/-- What is kept after the first `T` keys: nothing yet, or the sums of the first `T` keys at some real shift. -/
def Upto {ι : Type} (T : ℕ) (σ : ℕ → ℝ) (ν : ι → ℕ → ℝ) (m : EReal) (acc : ι → EReal) : Prop :=
  (T = 0 ∧ m = ⊥ ∧ ∀ d, acc d = 0) ∨
    ∃ μ : ℝ, m = μ ∧ ∀ d, acc d = ((∑ k ∈ Finset.range T, Real.rpow 2 (σ k - μ) * ν d k : ℝ) : EReal)

/-- Before any key. -/
theorem Upto.start {ι : Type} (σ : ℕ → ℝ) (ν : ι → ℕ → ℝ) : Upto 0 σ ν ⊥ (fun _ => 0) := .inl ⟨rfl, rfl, fun _ => rfl⟩

/-- Changing the shift multiplies a term by a power of two. -/
theorem rpow_shift (a b x : ℝ) : Real.rpow 2 (a - b) * Real.rpow 2 (x - a) = Real.rpow 2 (x - b) := by
  show (2 : ℝ) ^ (a - b) * (2 : ℝ) ^ (x - a) = (2 : ℝ) ^ (x - b)
  rw [← Real.rpow_add two_pos]; congr 1; ring

/-- ONE PIECE of `n` more keys: the shift becomes the larger of itself and the piece's scores, the old sums are multiplied by the
    power of two that the change of shift asks for, and the piece's terms are added. -/
theorem Upto.step {ι : Type} {T n : ℕ} (hn : 0 < n) {σ : ℕ → ℝ} {ν : ι → ℕ → ℝ} {m : EReal} {acc : ι → EReal}
    (h : Upto T σ ν m acc) (s : Fin n → EReal) (v : ι → Fin n → EReal) (hs : ∀ k : Fin n, s k = (σ (T + k) : EReal))
    (hv : ∀ d (k : Fin n), v d k = (ν d (T + k) : EReal)) :
    Upto (T + n) σ ν (max m (Finset.univ.fold max ⊥ s))
      (fun d => Ideal.exp2 (m - max m (Finset.univ.fold max ⊥ s)) * acc d
        + ∑ k, v d k * Ideal.exp2 (s k - max m (Finset.univ.fold max ⊥ s))) := by
  haveI : Nonempty (Fin n) := ⟨⟨0, hn⟩⟩
  obtain ⟨μ', hμ'⟩ : ∃ r : ℝ, max m (Finset.univ.fold max ⊥ s) = r := by
    refine max_real ?_ (fold_max_real _ Finset.univ_nonempty s fun k => ⟨_, hs k⟩)
    rcases h with ⟨-, hm, -⟩ | ⟨μ, hm, -⟩
    · exact .inl hm
    · exact .inr ⟨μ, hm⟩
  right
  refine ⟨μ', hμ', fun d => ?_⟩
  rw [hμ']
  have hnew : ∑ k, v d k * Ideal.exp2 (s k - (μ' : EReal))
      = ((∑ k : Fin n, Real.rpow 2 (σ (T + k) - μ') * ν d (T + k) : ℝ) : EReal) := by
    rw [coe_sum]
    refine Finset.sum_congr rfl fun k _ => ?_
    rw [hs k, hv d k, ← EReal.coe_sub, Ideal.exp2_coe, ← EReal.coe_mul, mul_comm]
  show _ + _ = _
  rw [hnew, Finset.sum_range_add, Finset.sum_range (fun k => Real.rpow 2 (σ (T + k) - μ') * ν d (T + k)),
    EReal.coe_add]
  congr 1
  rcases h with ⟨hT, hm, ha⟩ | ⟨μ, hm, ha⟩
  · rw [ha d, hT]; simp
  · rw [ha d, hm, ← EReal.coe_sub, Ideal.exp2_coe, ← EReal.coe_mul, Finset.mul_sum]
    congr 1
    refine Finset.sum_congr rfl fun k _ => ?_
    rw [← mul_assoc, rpow_shift]

/-- THE QUOTIENT after all keys: a coordinate's sum by that of a coordinate whose values are all one is the average of the values
    by the weights `exp (σ k * log 2)`, whatever the shift was. -/
theorem Upto.quotient {ι : Type} {T : ℕ} (hT : 0 < T) {σ : ℕ → ℝ} {ν : ι → ℕ → ℝ} {m : EReal} {acc : ι → EReal}
    (h : Upto T σ ν m acc) (d l : ι) (hl : ∀ k, k < T → ν l k = 1) :
    Ideal.div (acc d) (acc l)
      = (((∑ k ∈ Finset.range T, Real.exp (σ k * Real.log 2) * ν d k) / ∑ k ∈ Finset.range T, Real.exp (σ k * Real.log 2) : ℝ) : EReal) := by
  rcases h with ⟨h0, -, -⟩ | ⟨μ, -, ha⟩
  · omega
  have e : ∀ k, Real.rpow 2 (σ k - μ) = Real.exp (-(μ * Real.log 2)) * Real.exp (σ k * Real.log 2) := fun k => by
    show (2 : ℝ) ^ (σ k - μ) = _
    rw [Real.rpow_def_of_pos two_pos, ← Real.exp_add]; congr 1; ring
  have hd : ∑ k ∈ Finset.range T, Real.rpow 2 (σ k - μ) * ν d k
      = Real.exp (-(μ * Real.log 2)) * ∑ k ∈ Finset.range T, Real.exp (σ k * Real.log 2) * ν d k := by
    rw [Finset.mul_sum]; exact Finset.sum_congr rfl fun k _ => by rw [e k, mul_assoc]
  have hL : ∑ k ∈ Finset.range T, Real.rpow 2 (σ k - μ) * ν l k
      = Real.exp (-(μ * Real.log 2)) * ∑ k ∈ Finset.range T, Real.exp (σ k * Real.log 2) := by
    rw [Finset.mul_sum]; exact Finset.sum_congr rfl fun k hk => by rw [hl k (Finset.mem_range.mp hk), mul_one, e k]
  have hS : (0 : ℝ) < ∑ k ∈ Finset.range T, Real.exp (σ k * Real.log 2) :=
    Finset.sum_pos (fun k _ => Real.exp_pos _) ⟨0, Finset.mem_range.mpr hT⟩
  rw [ha d, ha l, hd, hL, Ideal.div_coe (mul_pos (Real.exp_pos _) hS).ne', ← EReal.coe_mul]
  congr 1
  rw [mul_one_div, mul_div_mul_left _ _ (Real.exp_pos _).ne']

/-- THE ROW OF A SOFTMAX, shifted by any real: the weights `exp (x k - M)` by their sum, times values, summed, is the average of
    the values by the weights `exp (ξ k)`. -/
theorem softmax_row {n : ℕ} (hn : 0 < n) (ξ ν : ℕ → ℝ) (x : Fin n → EReal) (v : Fin n → EReal) (M : EReal) (hM : ∃ r : ℝ, M = r)
    (hx : ∀ k : Fin n, x k = (ξ k : EReal)) (hv : ∀ k : Fin n, v k = (ν k : EReal)) :
    ∑ k, v k * Ideal.div (Ideal.exp (x k - M)) (∑ j, Ideal.exp (x j - M))
      = (((∑ k ∈ Finset.range n, Real.exp (ξ k) * ν k) / ∑ k ∈ Finset.range n, Real.exp (ξ k) : ℝ) : EReal) := by
  obtain ⟨μ, rfl⟩ := hM
  have e : ∀ k : Fin n, Ideal.exp (x k - μ) = ((Real.exp (-μ) * Real.exp (ξ k) : ℝ) : EReal) := fun k => by
    rw [hx k, ← EReal.coe_sub, Ideal.exp_coe, ← Real.exp_add]; congr 2; ring
  have hsum : ∑ j, Ideal.exp (x j - μ) = ((Real.exp (-μ) * ∑ k ∈ Finset.range n, Real.exp (ξ k) : ℝ) : EReal) := by
    rw [Finset.mul_sum, Finset.sum_range (fun k => Real.exp (-μ) * Real.exp (ξ k)), coe_sum]
    exact Finset.sum_congr rfl fun k _ => e k
  have hS : (0 : ℝ) < ∑ k ∈ Finset.range n, Real.exp (ξ k) :=
    Finset.sum_pos (fun k _ => Real.exp_pos _) ⟨0, Finset.mem_range.mpr hn⟩
  rw [hsum, Finset.sum_div, Finset.sum_range (fun k => Real.exp (ξ k) * ν k / ∑ j ∈ Finset.range n, Real.exp (ξ j)), coe_sum]
  refine Finset.sum_congr rfl fun k _ => ?_
  rw [e k, hv k, Ideal.div_coe (mul_pos (Real.exp_pos _) hS).ne', ← EReal.coe_mul, ← EReal.coe_mul, mul_one_div,
    mul_div_mul_left _ _ (Real.exp_pos _).ne']
  congr 1; ring

end Cert.Attn
end
-- ==== Proof.Attn.Finite.lean ====
module

public import proofs.«01_k».proof.Proof.Attn.Online
public import proofs.«01_k».proof.Pre_finite
public import Idealize.ShloMosaic.Lib.Pipeline.ValueKit

/-!
What the stated finiteness of the arguments says of their elements: each is a real number.
-/

@[expose] public section
noncomputable section
namespace Cert.Attn
open Idealize.ShloMosaic

/-- An extended real whose absolute value is below `+∞` is a real. -/
theorem real_of_abs_lt {x : EReal} (h : max x (-x) < ⊤) : x = (x.toReal : EReal) := by
  refine (EReal.coe_toReal ?_ ?_).symm
  · rintro rfl; simp at h
  · rintro rfl; simp at h

/-- An array compared below the pattern of infinity throughout is an array of reals. -/
theorem real_of_olt {s : Shape} (x inf : FVec Ideal s .bf16) (hinf : ∀ i, inf i = Ideal.ofBits .bf16 0x7F80#16)
    (h : cmpf .olt (Host.absf x) inf = fun _ => 1#1) (i : s.Idx) : x i = ((x i : EReal).toReal : EReal) := by
  have hi : Ideal.cmp .olt (max (x i : EReal) (-(x i : EReal))) (inf i : EReal) = 1#1 := congrFun h i
  rw [hinf i, ofBits_inf_bf16] at hi
  apply real_of_abs_lt
  by_contra hc
  simp [Ideal.cmp, hc] at hi

/-- The witnesses of the predicate's stated shape facts. -/
theorem finite_facts : Cert.Pre_finite.Facts := ⟨by decide, by decide⟩

/-- Arguments of which the predicate holds are arrays of reals. -/
theorem finite_real (q : FVec Ideal Cert.Pre_finite.S8x2048x16384 .bf16) (kv : FVec Ideal Cert.Pre_finite.S8x2048x24576 .bf16)
    (h : letI := finite_facts; (Cert.Pre_finite.fn (F := Ideal) q kv).1 = (fun _ => 1#1) ∧ (Cert.Pre_finite.fn (F := Ideal) q kv).2 = (fun _ => 1#1)) :
    (∀ i, q i = ((q i : EReal).toReal : EReal)) ∧ ∀ i, kv i = ((kv i : EReal).toReal : EReal) :=
  ⟨real_of_olt q _ (fun _ => rfl) h.1, real_of_olt kv _ (fun _ => rfl) h.2⟩

end Cert.Attn
end
-- ==== Proof.Mla.Block.lean ====
module

public import proofs.«01_k».proof.Proof.Gen.KernelIdeal.Frame
public import proofs.«01_k».proof.Proof.Attn.Online

/-!
What one grid point of the attention stores, in real numbers: the block's 2048 keys are read in eight pieces of 256, each piece one
step of `Cert.Attn.Upto`, and the stored quotient is the average of the values by the weights `exp (score * log 2)`.
-/

@[expose] public section
set_option maxRecDepth 16384
noncomputable section
namespace Cert.KernelIdeal.Value
open Cert.KernelIdeal Cert.KernelIdeal.Gen Idealize.ShloMosaic Idealize.ShloMosaic.TcCoe Idealize.SL.Sem
open Cert.Attn

/-- The shift after a piece with scores `s`. -/
abbrev stepM (m : FVec Ideal S1x512 .f32) (s : FVec Ideal S256x512 .f32) : FVec Ideal S1x512 .f32 :=
  maximumf m (shapeCast S1x512 (multiReduction .maximumf [0] S512 s 0xFF800000#32 reduces_S256x512_S512 (.inl rfl) rfl) shapeCasts_S512_S1x512)

/-- The sums after a piece with scores `s` and values `v`. -/
abbrev stepA (m : FVec Ideal S1x512 .f32) (s : FVec Ideal S256x512 .f32) (v : FVec Ideal S1x144x256 .bf16) (acc : FVec Ideal S144x512 .f32) : FVec Ideal S144x512 .f32 :=
  addf (mulf (broadcastTo S144x512 (exp2 (subf m (stepM m s))) broadcasts_S1x512_S144x512) acc)
    (matmul dot_S144x256_S256x512_S144x512_1_0_0_1_n_n none (shapeCast S144x256 v shapeCasts_S1x144x256_S144x256)
      (truncf .bf16 (exp2 (subf s (broadcastTo S256x512 (stepM m s) broadcasts_S1x512_S256x512))) bitsLt_bf16_f32) (constant S144x512 .f32 0x00000000#32))

/-- The shift after a piece, at a query. -/
theorem stepM_at (m : FVec Ideal S1x512 .f32) (s : FVec Ideal S256x512 .f32) (q : Fin 512) :
    stepM m s (ix2 0 q) = max (m (ix2 0 q)) (Finset.univ.fold max ⊥ fun k : Fin 256 => s (ix2 k q)) := by
  pointwise [stepM]
  rw [ofBits_neg_inf_f32]

/-- The sums after a piece, at a coordinate and a query. -/
theorem stepA_at (m : FVec Ideal S1x512 .f32) (s : FVec Ideal S256x512 .f32) (v : FVec Ideal S1x144x256 .bf16) (acc : FVec Ideal S144x512 .f32)
    (d : Fin 144) (q : Fin 512) :
    stepA m s v acc (ix2 d q)
      = Ideal.exp2 (m (ix2 0 q) - max (m (ix2 0 q)) (Finset.univ.fold max ⊥ fun k : Fin 256 => s (ix2 k q))) * acc (ix2 d q)
        + ∑ k : Fin 256, v (ix3 0 d k) * Ideal.exp2 (s (ix2 k q) - max (m (ix2 0 q)) (Finset.univ.fold max ⊥ fun k : Fin 256 => s (ix2 k q))) := by
  pointwise [stepA, stepM]
  rw [ofBits_neg_inf_f32]
  rfl

/-- The kept words of every query after the first `T` keys. -/
def Kept (T : ℕ) (σ : ℕ → Fin 512 → ℝ) (ν : Fin 144 → ℕ → ℝ) (m : FVec Ideal S1x512 .f32) (a : FVec Ideal S144x512 .f32) : Prop :=
  ∀ q : Fin 512, Upto T (fun k => σ k q) ν (m (ix2 0 q)) (fun d => a (ix2 d q))

/-- One piece more. -/
theorem Kept.step {T : ℕ} {σ : ℕ → Fin 512 → ℝ} {ν : Fin 144 → ℕ → ℝ} {m : FVec Ideal S1x512 .f32} {a : FVec Ideal S144x512 .f32}
    (h : Kept T σ ν m a) (s : FVec Ideal S256x512 .f32) (v : FVec Ideal S1x144x256 .bf16)
    (hs : ∀ (k : Fin 256) (q : Fin 512), s (ix2 k q) = (σ (T + k) q : EReal))
    (hv : ∀ (d : Fin 144) (k : Fin 256), v (ix3 0 d k) = (ν d (T + k) : EReal)) :
    Kept (T + 256) σ ν (stepM m s) (stepA m s v a) := fun q => by
  have := (h q).step (n := 256) (by norm_num) (fun k => s (ix2 k q)) (fun d k => v (ix3 0 d k)) (fun k => hs k q) hv
  rw [stepM_at]
  simpa only [stepA_at] using this

/-- Before any key: `-∞` and zeros. -/
theorem Kept.start (σ : ℕ → Fin 512 → ℝ) (ν : Fin 144 → ℕ → ℝ) : Kept 0 σ ν (k0_pay8 (F := Ideal) (k0_pay5 (F := Ideal))) (k0_pay9 (F := Ideal) (k0_pay6 (F := Ideal))) := fun q => by
  have h1 : k0_pay8 (F := Ideal) (k0_pay5 (F := Ideal)) (ix2 0 q) = (⊥ : EReal) := by
    pointwise [k0_pay8, k0_pay5]
    exact ofBits_neg_inf_f32
  have h2 : ∀ d : Fin 144, k0_pay9 (F := Ideal) (k0_pay6 (F := Ideal)) (ix2 d q) = (0 : EReal) := fun d => by
    pointwise [k0_pay9, k0_pay6]
  exact .inl ⟨rfl, h1, h2⟩

/-- The scores of a piece, at a key and a query: the product of the piece's keys with the queries. -/
theorem score_at (x0 : FVec Ideal S1x512x256 .bf16) (k : FVec Ideal S1x256x256 .bf16) (j : Fin 256) (q : Fin 512) :
    k0_pay10 (F := Ideal) x0 k (ix2 j q) = ∑ x : Fin 256, k (ix3 0 j x) * x0 (ix3 0 q x) := by
  pointwise [k0_pay10, k0_pay7]

/-- The stored quotient, from the two parts of the sums. -/
theorem quot_at (A B : FVec Ideal S144x512 .f32) (q : Fin 512) (e : Fin 128) :
    (k0_pay4 (F := Ideal) A B (ix3 0 q e) : EReal)
      = Ideal.div (k0_pay1 (F := Ideal) A B (ix2 ⟨e, by omega⟩ q)) (k0_pay1 (F := Ideal) A B (ix2 128 q)) := by
  pointwise [k0_pay4, k0_pay1]

/-- The eight pieces' payloads are eight steps: the stored quotient's dividend and divisor are rows of the sums after them. -/
theorem steps_eq (m0 : FVec Ideal S1x512 .f32) (a0 : FVec Ideal S144x512 .f32) (s0 s1 s2 s3 s4 s5 s6 s7 : FVec Ideal S256x512 .f32)
    (v0 v1 v2 v3 v4 v5 v6 v7 : FVec Ideal S1x144x256 .bf16) :
    k0_pay1 (k0_pay30 s5 s6 s7 (k0_pay24 s2 s3 s4 (k0_pay19 m0 s0 s1))
        (k0_pay25 s2 s3 s4 (k0_pay19 m0 s0 s1) (k0_pay20 m0 a0 s0 s1 v0) (k0_pay21 m0 s0 s1 v1) v2 v3)
        (k0_pay26 s2 s3 s4 (k0_pay19 m0 s0 s1) v4) v5 v6)
      (k0_pay31 s5 s6 s7 (k0_pay24 s2 s3 s4 (k0_pay19 m0 s0 s1)) v7)
    = (stepA (stepM (stepM (stepM (stepM (stepM (stepM (stepM m0 s0) s1) s2) s3) s4) s5) s6) s7 v7 (stepA (stepM (stepM (stepM (stepM (stepM (stepM m0 s0) s1) s2) s3) s4) s5) s6 v6 (stepA (stepM (stepM (stepM (stepM (stepM m0 s0) s1) s2) s3) s4) s5 v5 (stepA (stepM (stepM (stepM (stepM m0 s0) s1) s2) s3) s4 v4 (stepA (stepM (stepM (stepM m0 s0) s1) s2) s3 v3 (stepA (stepM (stepM m0 s0) s1) s2 v2 (stepA (stepM m0 s0) s1 v1 (stepA m0 s0 v0 a0)))))))) := by
  rfl

/-- The piece of 256 keys from key `o` on, at a key and a coordinate. -/
theorem keys_at (x1 : FVec Ideal S1x2048x256 .bf16) (o : ℕ) (inb) (k : Fin 256) (x : Fin 256) (h : o + k < 2048) :
    (View.ld (Val := Elt Ideal) (e' := .bf16) x1 (Rect.unit (s := S1x2048x256) ![0, o, 0] ![1, 256, 256] inb) : FVec Ideal S1x256x256 .bf16) (ix3 0 k x)
      = x1 (ix3 0 ⟨o + k, h⟩ x) := by
  refine View.ld_unit_apply_of (Val := Elt Ideal) (e := .bf16) x1 _ _ inb _ _ fun a => ?_
  match a with
  | 0 => rfl
  | 1 => rfl
  | 2 => exact (Nat.zero_add _).symm

/-- The piece of 256 values from key `o` on, at a coordinate and a key. -/
theorem values_at (x2 : FVec Ideal S1x144x2048 .bf16) (o : ℕ) (inb) (d : Fin 144) (k : Fin 256) (h : o + k < 2048) :
    (View.ld (Val := Elt Ideal) (e' := .bf16) x2 (Rect.unit (s := S1x144x2048) ![0, 0, o] ![1, 144, 256] inb) : FVec Ideal S1x144x256 .bf16) (ix3 0 d k)
      = x2 (ix3 0 d ⟨o + k, h⟩) := by
  refine View.ld_unit_apply_of (Val := Elt Ideal) (e := .bf16) x2 _ _ inb _ _ fun a => ?_
  match a with
  | 0 => rfl
  | 1 => exact (Nat.zero_add _).symm
  | 2 => rfl

/-- The scores of the piece from key `o` on are the block's. -/
theorem scores_of (x0 : FVec Ideal S1x512x256 .bf16) (x1 : FVec Ideal S1x2048x256 .bf16) (σ : ℕ → Fin 512 → ℝ)
    (hS : ∀ (k : Fin 2048) (q : Fin 512), ∑ x : Fin 256, x1 (ix3 0 k x) * x0 (ix3 0 q x) = (σ k q : EReal))
    (o : ℕ) (inb : ∀ a, (![0, o, 0] : Fin 3 → ℕ) a + (![1, 256, 256] : Fin 3 → ℕ) a ≤ S1x2048x256.size a) (k : Fin 256) (q : Fin 512) :
    k0_pay10 (F := Ideal) x0 (View.ld (Val := Elt Ideal) (e' := .bf16) x1 (Rect.unit (s := S1x2048x256) ![0, o, 0] ![1, 256, 256] inb) : FVec Ideal S1x256x256 .bf16) (ix2 k q)
      = (σ (o + k) q : EReal) := by
  have ho : o + 256 ≤ 2048 := inb 1
  rw [score_at, ← hS ⟨o + k, by omega⟩ q]
  exact Finset.sum_congr rfl fun x _ => by rw [keys_at x1 o inb k x (by omega)]

/-- The values of the piece from key `o` on are the block's. -/
theorem values_of (x2 : FVec Ideal S1x144x2048 .bf16) (ν : Fin 144 → ℕ → ℝ)
    (hV : ∀ (d : Fin 144) (k : Fin 2048), x2 (ix3 0 d k) = (ν d k : EReal))
    (o : ℕ) (inb : ∀ a, (![0, 0, o] : Fin 3 → ℕ) a + (![1, 144, 256] : Fin 3 → ℕ) a ≤ S1x144x2048.size a) (d : Fin 144) (k : Fin 256) :
    (View.ld (Val := Elt Ideal) (e' := .bf16) x2 (Rect.unit (s := S1x144x2048) ![0, 0, o] ![1, 144, 256] inb) : FVec Ideal S1x144x256 .bf16) (ix3 0 d k)
      = (ν d (o + k) : EReal) := by
  have ho : o + 256 ≤ 2048 := inb 2
  rw [values_at x2 o inb d k (by omega), ← hV d ⟨o + k, by omega⟩]

/-- What a grid point stores, from the real scores and the real values of its block, the row 128 of the values being ones. -/
theorem stored_at (c : Dev nD) (i : grid0.Coords) (arg4 : Memref sig .tc .vmem S1x512x256 .bf16) (harg4 : arg4.IsWhole) (arg5 : Memref sig .tc .vmem S1x2048x256 .bf16) (harg5 : arg5.IsWhole) (arg6 : Memref sig .tc .vmem S1x144x2048 .bf16) (harg6 : arg6.IsWhole) (arg7 : Memref sig .tc .vmem S1x512x128 .bf16) (harg7 : arg7.IsWhole) (arg8 : Memref sig .tc .vmem S1x1x512 .f32) (harg8 : arg8.IsWhole) (arg9 : Memref sig .tc .vmem S1x144x512 .f32) (harg9 : arg9.IsWhole) (hc0 : cond0_0 i) (hc1 : cond0_1 i)
    (x0 : FVec Ideal S1x512x256 .bf16) (x1 : FVec Ideal S1x2048x256 .bf16) (x2 : FVec Ideal S1x144x2048 .bf16)
    (σ : ℕ → Fin 512 → ℝ) (ν : Fin 144 → ℕ → ℝ)
    (hS : ∀ (k : Fin 2048) (q : Fin 512), ∑ x : Fin 256, x1 (ix3 0 k x) * x0 (ix3 0 q x) = (σ k q : EReal))
    (hV : ∀ (d : Fin 144) (k : Fin 2048), x2 (ix3 0 d k) = (ν d k : EReal)) (hl : ∀ k, k < 2048 → ν 128 k = 1)
    (q : Fin 512) (e : Fin 128) :
    (out0_A_3 (F := Ideal) c i arg4 harg4 arg5 harg5 arg6 harg6 arg7 harg7 arg8 harg8 arg9 harg9 hc0 hc1 x0 x1 x2 (ix3 0 q e) : EReal)
      = (((∑ k ∈ Finset.range 2048, Real.exp (σ k q * Real.log 2) * ν ⟨e, by omega⟩ k)
          / ∑ k ∈ Finset.range 2048, Real.exp (σ k q * Real.log 2) : ℝ) : EReal) := by
  have h1 : Kept 256 σ ν _ _ := (Kept.start σ ν).step _ _ (scores_of x0 x1 σ hS 0 inb_S1x2048x256_S1x256x256_0_0_0) (values_of x2 ν hV 0 inb_S1x144x2048_S1x144x256_0_0_0)
  have h2 : Kept 512 σ ν _ _ := h1.step _ _ (scores_of x0 x1 σ hS 256 inb_S1x2048x256_S1x256x256_0_256_0) (values_of x2 ν hV 256 inb_S1x144x2048_S1x144x256_0_0_256)
  have h3 : Kept 768 σ ν _ _ := h2.step _ _ (scores_of x0 x1 σ hS 512 inb_S1x2048x256_S1x256x256_0_512_0) (values_of x2 ν hV 512 inb_S1x144x2048_S1x144x256_0_0_512)
  have h4 : Kept 1024 σ ν _ _ := h3.step _ _ (scores_of x0 x1 σ hS 768 inb_S1x2048x256_S1x256x256_0_768_0) (values_of x2 ν hV 768 inb_S1x144x2048_S1x144x256_0_0_768)
  have h5 : Kept 1280 σ ν _ _ := h4.step _ _ (scores_of x0 x1 σ hS 1024 inb_S1x2048x256_S1x256x256_0_1024_0) (values_of x2 ν hV 1024 inb_S1x144x2048_S1x144x256_0_0_1024)
  have h6 : Kept 1536 σ ν _ _ := h5.step _ _ (scores_of x0 x1 σ hS 1280 inb_S1x2048x256_S1x256x256_0_1280_0) (values_of x2 ν hV 1280 inb_S1x144x2048_S1x144x256_0_0_1280)
  have h7 : Kept 1792 σ ν _ _ := h6.step _ _ (scores_of x0 x1 σ hS 1536 inb_S1x2048x256_S1x256x256_0_1536_0) (values_of x2 ν hV 1536 inb_S1x144x2048_S1x144x256_0_0_1536)
  have h8 : Kept 2048 σ ν _ _ := h7.step _ _ (scores_of x0 x1 σ hS 1792 inb_S1x2048x256_S1x256x256_0_1792_0) (values_of x2 ν hV 1792 inb_S1x144x2048_S1x144x256_0_0_1792)
  have hq := (h8 q).quotient (by norm_num) (⟨e, by omega⟩ : Fin 144) 128 hl
  rw [← hq]
  frame_out
  refine (quot_at _ _ q e).trans ?_
  refine congrArg₂ Ideal.div ?_ ?_
  · exact congrFun (steps_eq _ _ _ _ _ _ _ _ _ _ _ _ _ _ _ _ _ _) _
  · exact congrFun (steps_eq _ _ _ _ _ _ _ _ _ _ _ _ _ _ _ _ _ _) _

end Cert.KernelIdeal.Value
end
-- ==== Proof.Mla.Spec.lean ====
module

public import proofs.«01_k».proof.Proof.Attn.Online

/-!
The attention in real numbers: the score of a query and a key is the product of their 256 coordinates, a query's result the average
of the values by the weights `exp (score * log 2)`. The arguments are given as functions of batch, position and coordinate.
-/

@[expose] public section
noncomputable section
namespace Cert.Attn
open Idealize.ShloMosaic

/-- The score of query `t` and key `k` in head `h` of batch `b`. -/
def score (Q : Fin 8 → Fin 2048 → Fin 16384 → EReal) (KV : Fin 8 → Fin 2048 → Fin 24576 → EReal) (b : Fin 8) (h : Fin 64) (t : Fin 2048) (k : ℕ) : ℝ :=
  ∑ x : Fin 256, (KV b ⟨k % 2048, Nat.mod_lt _ (by norm_num)⟩ ⟨h * 256 + x, by omega⟩).toReal * (Q b t ⟨h * 256 + x, by omega⟩).toReal

/-- Coordinate `e` of the value of key `k` in head `h` of batch `b`; past the value's 128 coordinates the constant one. -/
def value (KV : Fin 8 → Fin 2048 → Fin 24576 → EReal) (b : Fin 8) (h : Fin 64) (e : Fin 144) (k : ℕ) : ℝ :=
  if he : (e : ℕ) < 128 then (KV b ⟨k % 2048, Nat.mod_lt _ (by norm_num)⟩ ⟨16384 + (h * 128 + e), by omega⟩).toReal else 1

/-- Coordinate `e` of the result of query `t` in head `h` of batch `b`. -/
def attended (Q : Fin 8 → Fin 2048 → Fin 16384 → EReal) (KV : Fin 8 → Fin 2048 → Fin 24576 → EReal) (b : Fin 8) (h : Fin 64) (t : Fin 2048) (e : Fin 128) : ℝ :=
  (∑ k ∈ Finset.range 2048, Real.exp (score Q KV b h t k * Real.log 2) * value KV b h ⟨e, by omega⟩ k)
    / ∑ k ∈ Finset.range 2048, Real.exp (score Q KV b h t k * Real.log 2)

variable {Q : Fin 8 → Fin 2048 → Fin 16384 → EReal} {KV : Fin 8 → Fin 2048 → Fin 24576 → EReal}

/-- The 256 products of finite arguments add to the score. -/
theorem score_eq (hQ : ∀ b t x, Q b t x = (Q b t x).toReal) (hKV : ∀ b t x, KV b t x = (KV b t x).toReal) (b : Fin 8) (h : Fin 64) (t k : Fin 2048) :
    ∑ x : Fin 256, KV b k ⟨h * 256 + x, by omega⟩ * Q b t ⟨h * 256 + x, by omega⟩ = (score Q KV b h t k : EReal) := by
  have hk : (⟨(k : ℕ) % 2048, Nat.mod_lt _ (by norm_num)⟩ : Fin 2048) = k := Fin.ext (Nat.mod_eq_of_lt k.isLt)
  rw [score, hk, coe_sum]
  exact Finset.sum_congr rfl fun x _ => by rw [EReal.coe_mul, ← hQ, ← hKV]

/-- The score, taken in two halves of 128 products. -/
theorem score_halves (hQ : ∀ b t x, Q b t x = (Q b t x).toReal) (hKV : ∀ b t x, KV b t x = (KV b t x).toReal) (b : Fin 8) (h : Fin 64) (t k : Fin 2048) :
    (∑ x : Fin 128, Q b t ⟨h * 256 + x, by omega⟩ * KV b k ⟨h * 256 + x, by omega⟩
      + ∑ x : Fin 128, Q b t ⟨h * 256 + (128 + x), by omega⟩ * KV b k ⟨h * 256 + (128 + x), by omega⟩) = (score Q KV b h t k : EReal) := by
  rw [← score_eq hQ hKV]
  refine Eq.trans ?_ (Fin.sum_univ_add (a := 128) (b := 128) fun x : Fin (128 + 128) => KV b k ⟨h * 256 + x, by omega⟩ * Q b t ⟨h * 256 + x, by omega⟩).symm
  refine congrArg₂ (· + ·) ?_ ?_ <;> exact Finset.sum_congr rfl fun x _ => mul_comm _ _

/-- A finite argument's value coordinate. -/
theorem value_eq (hKV : ∀ b t x, KV b t x = (KV b t x).toReal) (b : Fin 8) (h : Fin 64) (e : Fin 128) (k : Fin 2048) :
    KV b k ⟨16384 + (h * 128 + e), by omega⟩ = (value KV b h ⟨e, by omega⟩ k : EReal) := by
  have hk : (⟨(k : ℕ) % 2048, Nat.mod_lt _ (by norm_num)⟩ : Fin 2048) = k := Fin.ext (Nat.mod_eq_of_lt k.isLt)
  rw [value, dif_pos e.isLt, hk]
  exact hKV _ _ _

/-- The coordinates past the value's are ones. -/
theorem value_one (b : Fin 8) (h : Fin 64) (e : Fin 144) (he : 128 ≤ (e : ℕ)) (k : ℕ) : value KV b h e k = 1 := dif_neg (by omega)

/-- The attention at coordinates of equal values. -/
theorem attended_congr (Q : Fin 8 → Fin 2048 → Fin 16384 → EReal) (KV : Fin 8 → Fin 2048 → Fin 24576 → EReal) {b b' : Fin 8} {h h' : Fin 64}
    {t t' : Fin 2048} {e e' : Fin 128} (hb : (b : ℕ) = b') (hh : (h : ℕ) = h') (ht : (t : ℕ) = t') (he : (e : ℕ) = e') :
    attended Q KV b h t e = attended Q KV b' h' t' e' := by
  rw [Fin.ext hb, Fin.ext hh, Fin.ext ht, Fin.ext he]

end Cert.Attn
end
-- ==== Proof.Mla.Index.lean ====
module

public import proofs.«01_k».proof.Proof.Gen.KernelIdeal.Frame
public import Idealize.ShloMosaic.Lib.Pipeline.ValueKit
public import Idealize.ShloMosaic.Lib.Pipeline.Covers
public import Idealize.ShloMosaic.Lib.Claim

/-!
Where the blocks of the attention's grid points lie.
-/

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)

/-- The windows' block indices at every grid point, from the point's coordinates. -/
theorem idx : ∀ t : Fin cfg0.N, win0_0.index t = ![t.val / 256, t.val % 4, t.val / 4 % 64] ∧ win0_1.index t = ![t.val / 256, 0, t.val / 4 % 64]
    ∧ win0_2.index t = ![t.val / 256, t.val / 4 % 64, 0] ∧ win0_3.index t = ![t.val / 256, t.val % 4, t.val / 4 % 64] :=
  (by decide +kernel : ∀ t : Fin grid0.N, _)

/-- The output's blocks tile its array. -/
theorem covers : (cfg0.win 3).Covers :=
  (cfg0.win 3).covers_of_index_surj rfl (by decide) fun β => by
    have h0 : (β 0 : ℕ) < 8 := (β 0).isLt
    have h1 : (β 1 : ℕ) < 4 := (β 1).isLt
    have h2 : (β 2 : ℕ) < 64 := (β 2).isLt
    refine ⟨⟨(β 0 : ℕ) * 256 + (β 2 : ℕ) * 4 + (β 1 : ℕ), by show _ < 2048; omega⟩, fun a => ?_⟩
    refine (congrFun (idx ⟨(β 0 : ℕ) * 256 + (β 2 : ℕ) * 4 + (β 1 : ℕ), by show _ < 2048; omega⟩).2.2.2 a).trans ?_
    match a with
    | 0 => show ((β 0 : ℕ) * 256 + (β 2 : ℕ) * 4 + (β 1 : ℕ)) / 256 = (β 0 : ℕ); omega
    | 1 => show ((β 0 : ℕ) * 256 + (β 2 : ℕ) * 4 + (β 1 : ℕ)) % 4 = (β 1 : ℕ); omega
    | 2 => show ((β 0 : ℕ) * 256 + (β 2 : ℕ) * 4 + (β 1 : ℕ)) / 4 % 64 = (β 2 : ℕ); omega

end Cert.KernelIdeal.Value
end
-- ==== Proof.Mla.Array.lean ====
module

public import proofs.«01_k».proof.Proof.Gen.KernelIdeal.Value
public import proofs.«01_k».proof.Proof.Mla.Block
public import proofs.«01_k».proof.Proof.Mla.Spec
public import proofs.«01_k».proof.Proof.Mla.Index
public import Idealize.ShloMosaic.Lib.Pipeline.ValueKit
public import Idealize.ShloMosaic.Lib.Pipeline.Covers
public import Idealize.ShloMosaic.Lib.Claim

/-!
The attention's array after the run, from the blocks its grid points store.
-/

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)
open Cert.Attn
variable (m : (ℓ : Loc nD τ sig) → Buf (Elt Ideal) ℓ)

/-- The queries of a device, by batch, position and coordinate. -/
abbrev QA (c : Dev nD) (b : Fin 8) (t : Fin 2048) (x : Fin 16384) : EReal := (m ((c : Thread nD τ).loc main_arg0) : FVec Ideal S8x2048x16384 .bf16) (ix3 b t x)

/-- The keys and values of a device, by batch, position and coordinate. -/
abbrev KVA (c : Dev nD) (b : Fin 8) (t : Fin 2048) (x : Fin 24576) : EReal := (m ((c : Thread nD τ).loc main_arg1) : FVec Ideal S8x2048x24576 .bf16) (ix3 b t x)

/-- A point's queries. -/
theorem q_at (c : Dev nD) (t : Fin cfg0.N) (b : Fin 8) (h : Fin 64) (i : Fin 4) (hb : t.val / 256 = b) (hh : t.val / 4 % 64 = h) (hi : t.val % 4 = i)
    (q : Fin 512) (x : Fin 256) :
    ((iblk m c 0 t : FVec Ideal S1x512x256 .bf16) (ix3 0 q x) : EReal) = QA m c b ⟨i * 512 + q, by omega⟩ ⟨h * 256 + x, by omega⟩ := by
  blk_ext [iblk, V, idx t]

/-- A point's keys. -/
theorem k_at (c : Dev nD) (t : Fin cfg0.N) (b : Fin 8) (h : Fin 64) (hb : t.val / 256 = b) (hh : t.val / 4 % 64 = h) (k : Fin 2048) (x : Fin 256) :
    ((iblk m c 1 t : FVec Ideal S1x2048x256 .bf16) (ix3 0 k x) : EReal) = KVA m c b k ⟨h * 256 + x, by omega⟩ := by
  blk_ext [iblk, V, idx t]

/-- The block of the values at a grid point, of any contents of the buffers. -/
theorem blk_values (c : Dev nD) (W : (b : Ref sig .tc) → Buf (Elt Ideal) ((c : Thread nD τ).loc b)) (t : Fin cfg0.N) (b : Fin 8) (h : Fin 64)
    (hb : t.val / 256 = b) (hh : t.val / 4 % 64 = h) (d : Fin 144) (k : Fin 2048) :
    ((((cfg0.win 2).blk t).view.read (Elt Ideal) (W (Pipeline.arrRef spec0 2)) : FVec Ideal S1x144x2048 .bf16) (ix3 0 d k) : EReal)
      = (W main_v5 : FVec Ideal S8x9216x2048 .bf16) (ix3 b ⟨h * 144 + d, by omega⟩ k) := by
  blk_ext [idx t]

/-- The prepared values: the transposed values and sixteen rows of ones for every head. -/
theorem vt_at (c : Dev nD) (b : Fin 8) (h : Fin 64) (d : Fin 144) (k : Fin 2048) :
    ((V m c main_v5 : FVec Ideal S8x9216x2048 .bf16) (ix3 b ⟨h * 144 + d, by omega⟩ k) : EReal)
      = if hd : (d : ℕ) < 128 then KVA m c b k ⟨16384 + (h * 128 + d), by omega⟩ else 1 := by
  entry_read
  pointwise

/-- A point's values. -/
theorem v_at (c : Dev nD) (t : Fin cfg0.N) (b : Fin 8) (h : Fin 64) (hb : t.val / 256 = b) (hh : t.val / 4 % 64 = h) (d : Fin 144) (k : Fin 2048) :
    ((iblk m c 2 t : FVec Ideal S1x144x2048 .bf16) (ix3 0 d k) : EReal) = if hd : (d : ℕ) < 128 then KVA m c b k ⟨16384 + (h * 128 + d), by omega⟩ else 1 :=
  (blk_values c (V m c) t b h hb hh d k).trans (vt_at m c b h d k)

/-- What a grid point stores is the attention of its queries. -/
theorem point (c : Dev nD) (hq : ∀ b t x, QA m c b t x = ((QA m c b t x).toReal : EReal)) (hkv : ∀ b t x, KVA m c b t x = ((KVA m c b t x).toReal : EReal))
    (t : Fin cfg0.N) (b : Fin 8) (h : Fin 64) (i : Fin 4) (hb : t.val / 256 = b) (hh : t.val / 4 % 64 = h) (hi : t.val % 4 = i) (y : S1x512x128.Idx) :
    (out0_A_3 (F := Ideal) c (grid0.coords t) (ms0_0 t) (hs0_0 t) (ms0_1 t) (hs0_1 t) (ms0_2 t) (hs0_2 t) (ms0_3 t) (hs0_3 t) scM0_0 (Memref.isWhole_whole _)
        scM0_1 (Memref.isWhole_whole _) (hcond0_0 t) (hcond0_1 t) (iblk m c 0 t) (iblk m c 1 t) (iblk m c 2 t) y : EReal)
      = (attended (QA m c) (KVA m c) b h ⟨i * 512 + (y 1 : ℕ), by have h : (y 1 : ℕ) < 512 := (y 1).isLt; omega⟩ (y 2) : EReal) := by
  obtain ⟨z, q, e, rfl⟩ : ∃ (z : Fin 1) (q : Fin 512) (e : Fin 128), y = ix3 z q e := ⟨y 0, y 1, y 2, by blk_ext⟩
  obtain rfl : z = 0 := Subsingleton.elim _ _
  refine (stored_at c _ _ _ _ _ _ _ _ _ _ _ _ _ _ _ _ _ _
    (fun (k : ℕ) (q : Fin 512) => score (QA m c) (KVA m c) b h ⟨(i * 512 + q) % 2048, Nat.mod_lt _ (by norm_num)⟩ k) (fun (e : Fin 144) (k : ℕ) => value (KVA m c) b h e k)
    (fun k q => by
      rw [show (⟨(i * 512 + q : ℕ) % 2048, Nat.mod_lt _ (by norm_num)⟩ : Fin 2048) = ⟨i * 512 + q, by omega⟩ from Fin.ext (Nat.mod_eq_of_lt (by omega)), ← score_eq hq hkv]
      exact Finset.sum_congr rfl fun x _ => congrArg₂ (· * ·) (k_at m c t b h hb hh k x) (q_at m c t b h i hb hh hi q x))
    (fun d k => by
      refine (v_at m c t b h hb hh d k).trans ?_
      by_cases hd : (d : ℕ) < 128
      · rw [dif_pos hd]
        exact value_eq hkv b h ⟨d, hd⟩ k
      · rw [dif_neg hd, value_one b h d (by omega)]
        rfl) (fun k _ => value_one b h 128 (le_refl _) k) q e).trans ?_
  rw [show (⟨(i * 512 + q : ℕ) % 2048, Nat.mod_lt _ (by norm_num)⟩ : Fin 2048) = ⟨i * 512 + q, by omega⟩ from Fin.ext (Nat.mod_eq_of_lt (by omega))]
  rfl

/-- The attention's array after the run, at finite arguments. -/
theorem final (c : Dev nD) (hq : ∀ b t x, QA m c b t x = ((QA m c b t x).toReal : EReal)) (hkv : ∀ b t x, KVA m c b t x = ((KVA m c b t x).toReal : EReal)) :
    (dats m 0 c).arrAt 3 (cfgs 0).N
      = (fun i => (attended (QA m c) (KVA m c) (i 0) ⟨(i 2 : ℕ) / 128, by have := (i 2).isLt; show _ < 64; change (i 2 : ℕ) < 8192 at this; omega⟩ (i 1) ⟨(i 2 : ℕ) % 128, Nat.mod_lt _ (by norm_num)⟩ : EReal) : FVec Ideal S8x2048x8192 .bf16) := by
  refine (dats m 0 c).arrAt_eq_of_covers 3 _ covers fun t _ y => ?_
  blk_simp
  rw [after0_3]
  unfold outsAt0
  have ht : t.val < 2048 := t.isLt
  refine (point m c hq hkv t ⟨t.val / 256, by omega⟩ ⟨t.val / 4 % 64, by omega⟩ ⟨t.val % 4, by omega⟩ rfl rfl rfl y).trans ?_
  have h2 : ((y 2 : ℕ)) < 128 := (y 2).isLt
  refine congrArg _ (attended_congr _ _ ?_ ?_ ?_ ?_)
  · blk_simp [idx t]
  · blk_simp [idx t]
    show (t : ℕ) / 4 % 64 = ((t : ℕ) / 4 % 64 * 128 + (y 2 : ℕ)) / 128
    omega
  · blk_simp [idx t]
  · blk_simp [idx t]
    show (y 2 : ℕ) = ((t : ℕ) / 4 % 64 * 128 + (y 2 : ℕ)) % 128
    omega

end Cert.KernelIdeal.Value
end
-- ==== Proof.Attn.RowMax.lean ====
module

public import proofs.«01_k».proof.Proof.Attn.Online

/-!
The largest along one axis of an array of reals is a real.
-/

@[expose] public section
noncomputable section
namespace Cert.Attn
open Idealize.ShloMosaic

/-- The largest along an axis, from `-∞` on, of an array of reals. -/
theorem reduce_max_real {s t u : Shape} {a : Fin s.rank} (x : FVec Ideal s .f32) (init : FVec Ideal u .f32)
    (h' : s.ReducesTo [a] t) (h : s.Reduces [a] t) (hu : 0 < u.numel) (hx : ∀ i, ∃ r : ℝ, x i = (r : EReal)) (ha : 0 < s.size a)
    (hi : init (Shape.Idx.first hu) = (⊥ : EReal)) (j : t.Idx) : ∃ r : ℝ, Host.reduce FloatOps.maximumf x init h' hu j = (r : EReal) := by
  haveI : Nonempty (Fin (s.size a)) := ⟨⟨0, ha⟩⟩
  have e := Host.reduce_eq_fold_single (α := EReal) max x init h' h hu j
  rw [hi] at e
  obtain ⟨r, hr⟩ := fold_max_real Finset.univ Finset.univ_nonempty (x ∘ h.lift j) fun i => hx _
  exact ⟨r, Eq.trans e hr⟩

/-- The larger of `-∞` and a real, in arrays. -/
theorem maximumf_real {s : Shape} (a b : FVec Ideal s .f32) (j : s.Idx) (ha : a j = (⊥ : EReal)) (hb : ∃ r : ℝ, b j = (r : EReal)) :
    ∃ r : ℝ, maximumf a b j = (r : EReal) := max_real (.inl ha) hb

end Cert.Attn
end
-- ==== Proof.Mla.Reference.lean ====
module

public import proofs.«01_k».proof.Proof.Gen.ReferenceIdeal.Run
public import Idealize.ShloMosaic.Lib.Pipeline.ValueKit
public import proofs.«01_k».proof.Proof.Mla.Spec
public import proofs.«01_k».proof.Proof.Attn.RowMax

/-!
The attention's reference in four stages: scores, exponentials, weights, averages.
-/

@[expose] public section
set_option maxRecDepth 16384
noncomputable section
namespace Cert.ReferenceIdeal.Value
open Cert.ReferenceIdeal Cert.ReferenceIdeal.Gen Idealize.ShloMosaic Idealize.ShloMosaic.TcCoe Idealize.SL.Sem
open Cert.Attn

/-- The reference's scores, times `log 2`. -/
def SC (q : FVec Ideal S8x2048x16384 .bf16) (kv : FVec Ideal S8x2048x24576 .bf16) : FVec Ideal S8x64x2048x2048 .f32 :=
 (mulf (addf (Host.dotGeneral dot_S8x2048x64x128_S8x2048x64x128_S8x64x2048x2048_3_3_1_1_02_02 none (extractStridedSlice S8x2048x64x128 ![0, 0, 0, 0] (shapeCast _ (extf .f32 q bitsLt_bf16_f32) shapeCasts_S8x2048x16384_S8x2048x64x256) slices_S8x2048x64x256_S8x2048x64x128_0_0_0_0) (extractStridedSlice S8x2048x64x128 ![0, 0, 0, 0] (shapeCast _ (extf .f32 (extractStridedSlice S8x2048x16384 ![0, 0, 0] kv slices_S8x2048x24576_S8x2048x16384_0_0_0) bitsLt_bf16_f32) shapeCasts_S8x2048x16384_S8x2048x64x256) slices_S8x2048x64x256_S8x2048x64x128_0_0_0_0)) (Host.dotGeneral dot_S8x2048x64x128_S8x2048x64x128_S8x64x2048x2048_3_3_1_1_02_02 none (extractStridedSlice S8x2048x64x128 ![0, 0, 0, 128] (shapeCast _ (extf .f32 q bitsLt_bf16_f32) shapeCasts_S8x2048x16384_S8x2048x64x256) slices_S8x2048x64x256_S8x2048x64x128_0_0_0_128) (extractStridedSlice S8x2048x64x128 ![0, 0, 0, 128] (shapeCast _ (extf .f32 (extractStridedSlice S8x2048x16384 ![0, 0, 0] kv slices_S8x2048x24576_S8x2048x16384_0_0_0) bitsLt_bf16_f32) shapeCasts_S8x2048x16384_S8x2048x64x256) slices_S8x2048x64x256_S8x2048x64x128_0_0_0_128))) (broadcastInDim S8x64x2048x2048 ![] bcast_S_S8x64x2048x2048 (Host.log (constant S_ .f32 0x40000000#32))))

/-- The largest score of every query. -/
def MX (x : FVec Ideal S8x64x2048x2048 .f32) : FVec Ideal S8x64x2048 .f32 :=
  (maximumf (broadcastInDim S8x64x2048 ![] bcast_S_S8x64x2048 (constant S_ .f32 0xFF800000#32)) (Host.reduce FloatOps.maximumf x (constant S_ .f32 0xFF800000#32) reducesTo_S8x64x2048x2048_S8x64x2048_d3 h_S_))

/-- The exponentials of the scores less the largest. -/
def EX (x : FVec Ideal S8x64x2048x2048 .f32) : FVec Ideal S8x64x2048x2048 .f32 :=
  (Host.exp (subf x (broadcastInDim S8x64x2048x2048 ![0, 1, 2, 3] bcast_S8x64x2048x1_S8x64x2048x2048_0_1_2_3 (broadcastInDim S8x64x2048x1 ![0, 1, 2] bcast_S8x64x2048_S8x64x2048x1_0_1_2 (MX x)))))

/-- The exponentials over their sum. -/
def PR (e : FVec Ideal S8x64x2048x2048 .f32) : FVec Ideal S8x64x2048x2048 .f32 :=
  (Host.divf e (broadcastInDim S8x64x2048x2048 ![0, 1, 2, 3] bcast_S8x64x2048x1_S8x64x2048x2048_0_1_2_3 (broadcastInDim S8x64x2048x1 ![0, 1, 2] bcast_S8x64x2048_S8x64x2048x1_0_1_2 (Host.reduceAdd e (constant S_ .f32 0x00000000#32) reducesTo_S8x64x2048x2048_S8x64x2048_d3 h_S_))))

/-- The averages of the values. -/
def OV (kv : FVec Ideal S8x2048x24576 .bf16) (p : FVec Ideal S8x64x2048x2048 .f32) : FVec Ideal S8x2048x8192 .bf16 :=
  truncf .bf16 (shapeCast S8x2048x8192 (transpose S8x2048x64x128 [0, 3, 1, 2] (Host.dotGeneral dot_S8x2048x64x128_S8x64x2048x2048_S8x64x128x2048_1_3_3_2_02_01 none (shapeCast _ (extf .f32 (extractStridedSlice S8x2048x8192 ![0, 0, 16384] kv slices_S8x2048x24576_S8x2048x8192_0_0_16384) bitsLt_bf16_f32) shapeCasts_S8x2048x8192_S8x2048x64x128) p) transposes_S8x64x128x2048_S8x2048x64x128_0_3_1_2) shapeCasts_S8x2048x64x128_S8x2048x8192) bitsLt_bf16_f32

/-- The reference's result is the four stages of its arguments. -/
theorem res_eq (m : (ℓ : Loc nD τ sig) → Buf (Elt Ideal) ℓ) (c : Dev nD) :
    res_out0 m c = OV (m (c.tc.loc main_arg1)) (PR (EX (SC (m (c.tc.loc main_arg0)) (m (c.tc.loc main_arg1))))) := by
  unfold res_out0 res_main_v32 OV PR EX MX SC
  rfl

/-- A score of the reference. -/
theorem SC_at (q : FVec Ideal S8x2048x16384 .bf16) (kv : FVec Ideal S8x2048x24576 .bf16) (b : Fin 8) (h : Fin 64) (t k : Fin 2048) :
    (SC q kv (ix4 b h t k) : EReal)
      = ((∑ x : Fin 128, q (ix3 b t ⟨h * 256 + x, by omega⟩) * kv (ix3 b k ⟨h * 256 + x, by omega⟩)
        + ∑ x : Fin 128, q (ix3 b t ⟨h * 256 + (128 + x), by omega⟩) * kv (ix3 b k ⟨h * 256 + (128 + x), by omega⟩) : EReal)
          * Ideal.log (Ideal.ofBits FTy.f32 1073741824#32)) := by
  pointwise [SC]

/-- An exponential of the reference. -/
theorem EX_at (x : FVec Ideal S8x64x2048x2048 .f32) (b : Fin 8) (h : Fin 64) (t k : Fin 2048) :
    (EX x (ix4 b h t k) : EReal) = Ideal.exp (x (ix4 b h t k) - MX x (ix3 b h t)) := by
  pointwise [EX]

/-- A weight of the reference. -/
theorem PR_at (x : FVec Ideal S8x64x2048x2048 .f32) (b : Fin 8) (h : Fin 64) (t k : Fin 2048) :
    (PR x (ix4 b h t k) : EReal) = Ideal.div (x (ix4 b h t k)) (∑ j : Fin 2048, x (ix4 b h t j)) := by
  pointwise [PR]

/-- An average of the reference. -/
theorem OV_at (kv : FVec Ideal S8x2048x24576 .bf16) (p : FVec Ideal S8x64x2048x2048 .f32) (b : Fin 8) (t : Fin 2048) (h : Fin 64) (e : Fin 128) :
    (OV kv p (ix3 b t ⟨h * 128 + e, by omega⟩) : EReal) = ∑ k : Fin 2048, kv (ix3 b k ⟨16384 + (h * 128 + e), by omega⟩) * p (ix4 b h t k) := by
  pointwise [OV]

/-- The largest of a row of reals is a real. -/
theorem MX_real (x : FVec Ideal S8x64x2048x2048 .f32) (hx : ∀ i, ∃ r : ℝ, x i = (r : EReal)) (j : S8x64x2048.Idx) : ∃ r : ℝ, MX x j = (r : EReal) := by
  have hb : (broadcastInDim S8x64x2048 ![] bcast_S_S8x64x2048 (constant (F := Ideal) S_ .f32 0xFF800000#32) j : EReal) = ⊥ := by
    pointwise
    exact ofBits_neg_inf_f32
  unfold MX
  exact maximumf_real _ _ j hb (reduce_max_real x _ reducesTo_S8x64x2048x2048_S8x64x2048_d3 (by decide) h_S_ hx (by decide) ofBits_neg_inf_f32 j)

/-- The reference's result at finite arguments is the attention in real numbers. -/
theorem res_at (q : FVec Ideal S8x2048x16384 .bf16) (kv : FVec Ideal S8x2048x24576 .bf16)
    (hq : ∀ i, q i = ((q i : EReal).toReal : EReal)) (hkv : ∀ i, kv i = ((kv i : EReal).toReal : EReal))
    (b : Fin 8) (t : Fin 2048) (h : Fin 64) (e : Fin 128) :
    (OV kv (PR (EX (SC q kv))) (ix3 b t ⟨h * 128 + e, by omega⟩) : EReal)
      = (attended (fun b t x => q (ix3 b t x)) (fun b k x => kv (ix3 b k x)) b h t e : EReal) := by
  have hs : ∀ b h t (k : Fin 2048), (SC q kv (ix4 b h t k) : EReal)
      = ((score (fun b t x => q (ix3 b t x)) (fun b k x => kv (ix3 b k x)) b h t k * Real.log 2 : ℝ) : EReal) := fun b h t k => by
    rw [SC_at, score_halves (Q := fun b t x => q (ix3 b t x)) (KV := fun b k x => kv (ix3 b k x)) (fun _ _ _ => hq _) (fun _ _ _ => hkv _) b h t k,
      log_two, EReal.coe_mul]
  have hr : ∀ i, ∃ r : ℝ, SC q kv i = (r : EReal) := fun i => by
    rw [show i = ix4 (i 0) (i 1) (i 2) (i 3) from by blk_ext]
    exact ⟨_, hs _ _ _ _⟩
  rw [OV_at]
  simp only [PR_at, EX_at]
  exact softmax_row (n := 2048) (by norm_num) _ _ (fun k => SC q kv (ix4 b h t k)) (fun k => kv (ix3 b k ⟨16384 + (h * 128 + e), by omega⟩)) _
    (MX_real _ hr _) (hs b h t) (fun k => value_eq (KV := fun b k x => kv (ix3 b k x)) (fun _ _ _ => hkv _) b h e k)

/-- The reference's result at finite arguments, as an array. -/
theorem res_fun (q : FVec Ideal S8x2048x16384 .bf16) (kv : FVec Ideal S8x2048x24576 .bf16)
    (hq : ∀ i, q i = ((q i : EReal).toReal : EReal)) (hkv : ∀ i, kv i = ((kv i : EReal).toReal : EReal)) :
    OV kv (PR (EX (SC q kv))) = (fun i => (attended (fun b t x => q (ix3 b t x)) (fun b k x => kv (ix3 b k x)) (i 0)
      ⟨(i 2 : ℕ) / 128, by have := (i 2).isLt; show _ < 64; change (i 2 : ℕ) < 8192 at this; omega⟩ (i 1)
      ⟨(i 2 : ℕ) % 128, Nat.mod_lt _ (by norm_num)⟩ : EReal) : FVec Ideal S8x2048x8192 .bf16) := by
  funext i
  have h2 : (i 2 : ℕ) < 8192 := (i 2).isLt
  refine Eq.trans ?_ (res_at q kv hq hkv (i 0) (i 1) ⟨(i 2 : ℕ) / 128, by omega⟩ ⟨(i 2 : ℕ) % 128, Nat.mod_lt _ (by norm_num)⟩)
  refine congrArg (OV kv (PR (EX (SC q kv)))) ?_
  funext a
  match a with
  | 0 => rfl
  | 1 => rfl
  | 2 => exact Fin.ext (Nat.div_add_mod' _ _).symm

end Cert.ReferenceIdeal.Value
end
-- ==== Proof.Ffn.Up.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.Covers
public import Idealize.ShloMosaic.Lib.Claim
public import Idealize.ShloMosaic.Lib.Quiescent

/-!
The feed-forward layer's first product with its gate: kernel and reference agree.
-/

@[expose] public section
set_option maxRecDepth 16384
noncomputable section
namespace Cert.Kernel2Ideal.Value
open Cert.Kernel2Ideal Cert.Kernel2Ideal.Gen Idealize.ShloMosaic Idealize.ShloMosaic.TcCoe Idealize.SL.Sem
open Idealize.ShloMosaic.Pipeline (Dat)
variable (m : (ℓ : Loc nD τ sig) → Buf (Elt Ideal) ℓ)

/-- The reference's result, from its arguments. -/
abbrev REF (X0 : FVec Ideal S16384x4096 .bf16) (X1 : FVec Ideal S4096x22016 .bf16) : FVec Ideal S16384x11008 .bf16 :=
  truncf .bf16 (mulf (mulf (extractStridedSlice Cert.Reference2Ideal.S16384x11008 ![0, 0] (Host.dotGeneral Cert.Reference2Ideal.dot_S16384x4096_S4096x22016_S16384x22016_1_0_0_1_n_n none (extf .f32 X0 Cert.Reference2Ideal.Gen.bitsLt_bf16_f32) (extf .f32 X1 Cert.Reference2Ideal.Gen.bitsLt_bf16_f32)) Cert.Reference2Ideal.Gen.slices_S16384x22016_S16384x11008_0_0) (Host.divf (broadcastInDim Cert.Reference2Ideal.S16384x11008 ![] Cert.Reference2Ideal.Gen.bcast_S_S16384x11008 (constant Cert.Reference2Ideal.S_ .f32 0x3F800000#32)) (addf (broadcastInDim Cert.Reference2Ideal.S16384x11008 ![] Cert.Reference2Ideal.Gen.bcast_S_S16384x11008 (constant Cert.Reference2Ideal.S_ .f32 0x3F800000#32)) (Host.exp (Host.negf (extractStridedSlice Cert.Reference2Ideal.S16384x11008 ![0, 0] (Host.dotGeneral Cert.Reference2Ideal.dot_S16384x4096_S4096x22016_S16384x22016_1_0_0_1_n_n none (extf .f32 X0 Cert.Reference2Ideal.Gen.bitsLt_bf16_f32) (extf .f32 X1 Cert.Reference2Ideal.Gen.bitsLt_bf16_f32)) Cert.Reference2Ideal.Gen.slices_S16384x22016_S16384x11008_0_0)))))) (extractStridedSlice Cert.Reference2Ideal.S16384x11008 ![0, 11008] (Host.dotGeneral Cert.Reference2Ideal.dot_S16384x4096_S4096x22016_S16384x22016_1_0_0_1_n_n none (extf .f32 X0 Cert.Reference2Ideal.Gen.bitsLt_bf16_f32) (extf .f32 X1 Cert.Reference2Ideal.Gen.bitsLt_bf16_f32)) Cert.Reference2Ideal.Gen.slices_S16384x22016_S16384x11008_0_11008)) Cert.Reference2Ideal.Gen.bitsLt_bf16_f32

/-- The windows' block indices at every grid point. -/
theorem idx : ∀ t : Fin cfg0.N, win0_0.index t = ![t.val / 43, 0] ∧ win0_1.index t = ![0, t.val % 43] ∧ win0_2.index t = ![0, t.val % 43 + 43] ∧ win0_3.index t = ![t.val / 43, t.val % 43] :=
  (by decide +kernel : ∀ t : Fin grid0.N, _)

/-- The output's blocks tile its array. -/
theorem covers : (cfg0.win 3).Covers :=
  (cfg0.win 3).covers_of_index_surj rfl (by decide) fun β => by
    have h0 : (β 0 : ℕ) < 8 := (β 0).isLt
    have h1 : (β 1 : ℕ) < 43 := (β 1).isLt
    refine ⟨⟨(β 0 : ℕ) * 43 + (β 1 : ℕ), by show _ < 344; omega⟩, fun a => ?_⟩
    refine (congrFun (idx ⟨(β 0 : ℕ) * 43 + (β 1 : ℕ), by show _ < 344; omega⟩).2.2.2 a).trans ?_
    match a with
    | 0 => show ((β 0 : ℕ) * 43 + (β 1 : ℕ)) / 43 = (β 0 : ℕ); omega
    | 1 => show ((β 0 : ℕ) * 43 + (β 1 : ℕ)) % 43 = (β 1 : ℕ); omega

/-- What a grid point stores is its block of the reference's result. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (((cfg0.win 3).blk t).view.emb y) := by
  pointwise [k0_pay1, REF]
  simp only [Ideal.logistic]
  blk_point [iblk, V, idx t]

/-- The array of the gated product after the run. -/
theorem final (c : Dev nD) : (dats m 0 c).arrAt 3 (cfgs 0).N = REF (m ((c : Thread nD τ).loc main_arg0)) (m ((c : Thread nD τ).loc main_arg1)) := by
  refine (dats m 0 c).arrAt_eq_of_covers 3 _ covers fun t _ y => ?_
  blk_simp
  rw [after0_3]
  frame_out
  exact point m c t y

end Cert.Kernel2Ideal.Value

namespace Cert.Reference2Ideal.Value
open Idealize.ShloMosaic Idealize.SL.Sem

/-- The reference of the gated product ends with every counter at zero and its arguments unchanged. -/
theorem frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run (F := Ideal) m g)

/-- The kernel of the gated product and its reference end with equal results. -/
theorem equal : Cert.algebraic_Kernel2Ideal_Reference2Ideal (hKernel2Ideal := Cert.Kernel2Ideal.Gen.facts) (hReference2Ideal := Cert.Reference2Ideal.Gen.facts) := by
  intro m g m' g' hpre hag
  refine ⟨fun c => (Cert.Kernel2Ideal.Gen.dats m 0 c).arrAt 3 Cert.Kernel2Ideal.cfg0.N, ?_, ?_⟩
  · exact Cert.Kernel2Ideal.Value.run_blocks m g
  · refine (θ_run Cert.Reference2Ideal.defs _ _).mono (fun r h c => ⟨(h c).1.trans ?_, (h c).2⟩) (Cert.Reference2Ideal.Value.run (F := Ideal) m' g')
    refine Eq.trans ?_ (Cert.Kernel2Ideal.Value.final m c).symm
    rw [(hag c).1, (hag c).2]

end Cert.Reference2Ideal.Value
end
-- ==== Proof.Ffn.Down.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.Covers
public import Idealize.ShloMosaic.Lib.Claim
public import Idealize.ShloMosaic.Lib.Quiescent

/-!
The feed-forward layer's second product, added to the residual: kernel and reference agree.
-/

@[expose] public section
set_option maxRecDepth 16384
noncomputable section
namespace Cert.Kernel3Ideal.Value
open Cert.Kernel3Ideal Cert.Kernel3Ideal.Gen Idealize.ShloMosaic Idealize.ShloMosaic.TcCoe Idealize.SL.Sem
open Idealize.ShloMosaic.Pipeline (Dat)
variable (m : (ℓ : Loc nD τ sig) → Buf (Elt Ideal) ℓ)

/-- The reference's result, from its arguments. -/
abbrev REF (X0 : FVec Ideal S16384x11008 .bf16) (X1 : FVec Ideal S11008x4096 .bf16) (X2 : FVec Ideal S16384x4096 .f32) : FVec Ideal S16384x4096 .f32 :=
  addf X2 (Host.dotGeneral Cert.Reference3Ideal.dot_S16384x11008_S11008x4096_S16384x4096_1_0_0_1_n_n none (extf .f32 X0 Cert.Reference3Ideal.Gen.bitsLt_bf16_f32) (extf .f32 X1 Cert.Reference3Ideal.Gen.bitsLt_bf16_f32))

/-- The windows' block indices at every grid point. -/
theorem idx : ∀ t : Fin cfg0.N, win0_0.index t = ![t.val / 16, 0] ∧ win0_1.index t = ![0, t.val % 16] ∧ win0_2.index t = ![t.val / 16, t.val % 16] ∧ win0_3.index t = ![t.val / 16, t.val % 16] :=
  (by decide +kernel : ∀ t : Fin grid0.N, _)

/-- The output's blocks tile its array. -/
theorem covers : (cfg0.win 3).Covers :=
  (cfg0.win 3).covers_of_index_surj rfl (by decide) fun β => by
    have h0 : (β 0 : ℕ) < 32 := (β 0).isLt
    have h1 : (β 1 : ℕ) < 16 := (β 1).isLt
    refine ⟨⟨(β 0 : ℕ) * 16 + (β 1 : ℕ), by show _ < 512; omega⟩, fun a => ?_⟩
    refine (congrFun (idx ⟨(β 0 : ℕ) * 16 + (β 1 : ℕ), by show _ < 512; omega⟩).2.2.2 a).trans ?_
    match a with
    | 0 => show ((β 0 : ℕ) * 16 + (β 1 : ℕ)) / 16 = (β 0 : ℕ); omega
    | 1 => show ((β 0 : ℕ) * 16 + (β 1 : ℕ)) % 16 = (β 1 : ℕ); omega

/-- What a grid point stores is its block of the reference's result. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The array of the feed-forward layer's second product after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ covers fun t _ y => ?_
  blk_simp
  rw [after0_3]
  frame_out
  exact point m c t y

end Cert.Kernel3Ideal.Value

namespace Cert.Reference3Ideal.Value
open Idealize.ShloMosaic Idealize.SL.Sem

/-- The reference of the feed-forward layer's second product ends with every counter at zero and its arguments unchanged. -/
theorem frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run Cert.Reference3Ideal.defs _ _).mono (fun r h => ⟨fun c => (h c).2, Idealize.ShloMosaic.sem_eq_zero_of_no_sems (by decide) r.2⟩)
    (Cert.Reference3Ideal.Value.run (F := Ideal) m g)

/-- The kernel of the feed-forward layer's second product and its reference end with equal results. -/
theorem equal : Cert.algebraic_Kernel3Ideal_Reference3Ideal (hKernel3Ideal := Cert.Kernel3Ideal.Gen.facts) (hReference3Ideal := Cert.Reference3Ideal.Gen.facts) := by
  intro m g m' g' hpre hag
  refine ⟨fun c => (Cert.Kernel3Ideal.Gen.dats m 0 c).arrAt 3 Cert.Kernel3Ideal.cfg0.N, ?_, ?_⟩
  · exact Cert.Kernel3Ideal.Value.run_blocks m g
  · refine (θ_run Cert.Reference3Ideal.defs _ _).mono (fun r h c => ⟨(h c).1.trans ?_, (h c).2⟩) (Cert.Reference3Ideal.Value.run (F := Ideal) m' g')
    refine Eq.trans ?_ (Cert.Kernel3Ideal.Value.final m c).symm
    rw [(hag c).1, (hag c).2.1, (hag c).2.2]

end Cert.Reference3Ideal.Value
end
-- ==== Proof.Diff.Spec.lean ====
module

public import proofs.«01_k».proof.Proof.Attn.Online

/-!
The differential attention in real numbers: two maps of scores, each a product of 128 coordinates; a query's row is the average of
the values by the first map's weights less `λ` times that by the second's, and is then normalised.
-/

@[expose] public section
noncomputable section
namespace Cert.Attn
open Idealize.ShloMosaic

/-- The average of `n` values by the weights `exp (score * log 2)`. -/
def average (n : ℕ) (σ ν : ℕ → ℝ) : ℝ :=
  (∑ k ∈ Finset.range n, Real.exp (σ k * Real.log 2) * ν k) / ∑ k ∈ Finset.range n, Real.exp (σ k * Real.log 2)

/-- The factor `λ` of the second map, from four vectors. -/
def lamOf (L : Fin 4 → Fin 128 → EReal) : EReal :=
  Ideal.exp (∑ i, L 0 i * L 1 i) - Ideal.exp (∑ i, L 2 i * L 3 i) + Ideal.ofBits .f32 0x3EF1014C#32

/-- Coordinate `e` of a row over the root of its mean square, times the gain `g` and a constant. -/
def normed (o : Fin 256 → EReal) (g : EReal) (e : Fin 256) : EReal :=
  o e * Ideal.rsqrt (Ideal.div (∑ i, o i * o i) (Ideal.ofBits .f32 0x43800000#32) + Ideal.ofBits .f32 0x3727C5AC#32) * g
    * Ideal.ofBits .f32 0x3F077F5A#32

/-- Products of reals add to a real. -/
theorem sum_mul_real {n : ℕ} (a b : Fin n → EReal) (ha : ∀ i, a i = ((a i).toReal : EReal)) (hb : ∀ i, b i = ((b i).toReal : EReal)) :
    ∃ r : ℝ, ∑ i, a i * b i = (r : EReal) :=
  ⟨∑ i, (a i).toReal * (b i).toReal, by
    rw [coe_sum]
    exact Finset.sum_congr rfl fun i _ => by rw [EReal.coe_mul, ← ha, ← hb]⟩

/-- The factor of the second map is real when the four vectors are. -/
theorem lamOf_real (L : Fin 4 → Fin 128 → EReal) (h : ∀ a i, L a i = ((L a i).toReal : EReal)) : ∃ r : ℝ, lamOf L = (r : EReal) := by
  obtain ⟨a, ha⟩ := sum_mul_real (L 0) (L 1) (h 0) (h 1)
  obtain ⟨b, hb⟩ := sum_mul_real (L 2) (L 3) (h 2) (h 3)
  obtain ⟨d, hd⟩ : ∃ d : ℝ, Ideal.ofBits .f32 0x3EF1014C#32 = (d : EReal) := ⟨_, by simp [Ideal.ofBits, Ideal.ieee]; rfl⟩
  exact ⟨Real.exp a - Real.exp b + d, by rw [lamOf, ha, hb, hd, Ideal.exp_coe, Ideal.exp_coe, EReal.coe_add, EReal.coe_sub]⟩

/-- A weight of a softmax's row is real. -/
theorem weight_real {n : ℕ} (ξ : ℕ → ℝ) (x : Fin n → EReal) (M : EReal) (hM : ∃ r : ℝ, M = r) (hx : ∀ k : Fin n, x k = (ξ k : EReal)) (k : Fin n) :
    ∃ r : ℝ, Ideal.div (Ideal.exp (x k - M)) (∑ j, Ideal.exp (x j - M)) = (r : EReal) := by
  obtain ⟨μ, rfl⟩ := hM
  have e : ∀ k : Fin n, Ideal.exp (x k - μ) = ((Real.exp (ξ k - μ) : ℝ) : EReal) := fun k => by rw [hx k, ← EReal.coe_sub, Ideal.exp_coe]
  have hsum : ∑ j, Ideal.exp (x j - μ) = ((∑ j : Fin n, Real.exp (ξ j - μ) : ℝ) : EReal) := by
    rw [coe_sum]; exact Finset.sum_congr rfl fun k _ => e k
  have hS : (0 : ℝ) < ∑ j : Fin n, Real.exp (ξ j - μ) := Finset.sum_pos (fun k _ => Real.exp_pos _) ⟨k, Finset.mem_univ k⟩
  rw [hsum, e k, Ideal.div_coe hS.ne', ← EReal.coe_mul]
  exact ⟨_, rfl⟩

/-- Among reals a product with a difference of weights, summed, is the difference of the two sums. -/
theorem sum_mul_sub {n : ℕ} (v p r : Fin n → EReal) (l : EReal) (hl : ∃ s : ℝ, l = s) (hv : ∀ k, ∃ s : ℝ, v k = s) (hp : ∀ k, ∃ s : ℝ, p k = s)
    (hr : ∀ k, ∃ s : ℝ, r k = s) : ∑ k, v k * (p k - l * r k) = ∑ k, v k * p k - l * ∑ k, v k * r k := by
  obtain ⟨l, rfl⟩ := hl
  choose v' hv using hv
  choose p' hp using hp
  choose r' hr using hr
  simp only [hv, hp, hr, ← EReal.coe_mul, ← EReal.coe_sub, ← coe_sum]
  rw [Finset.mul_sum, ← Finset.sum_sub_distrib]
  exact congrArg _ (Finset.sum_congr rfl fun k _ => by ring)

/-- THE ROW OF A DIFFERENCE of two softmaxes, each shifted by any real, times values, summed. -/
theorem softmax_difference {n : ℕ} (hn : 0 < n) (σ τ ν : ℕ → ℝ) (x y v : Fin n → EReal) (l M N : EReal) (hl : ∃ r : ℝ, l = r) (hM : ∃ r : ℝ, M = r)
    (hN : ∃ r : ℝ, N = r) (hx : ∀ k : Fin n, x k = ((σ k * Real.log 2 : ℝ) : EReal)) (hy : ∀ k : Fin n, y k = ((τ k * Real.log 2 : ℝ) : EReal))
    (hv : ∀ k : Fin n, v k = (ν k : EReal)) :
    ∑ k, v k * (Ideal.div (Ideal.exp (x k - M)) (∑ j, Ideal.exp (x j - M)) - l * Ideal.div (Ideal.exp (y k - N)) (∑ j, Ideal.exp (y j - N)))
      = (average n σ ν : EReal) - l * (average n τ ν : EReal) := by
  rw [sum_mul_sub _ _ _ l hl (fun k => ⟨_, hv k⟩) (weight_real (fun k => σ k * Real.log 2) x M hM hx) (weight_real (fun k => τ k * Real.log 2) y N hN hy),
    softmax_row hn (fun k => σ k * Real.log 2) ν x v M hM hx hv, softmax_row hn (fun k => τ k * Real.log 2) ν y v N hN hy hv]
  rfl

/-- The score of query `t` and key `k` by map `a` in head `h` of batch `b`. -/
def score2 (X : Fin 8 → Fin 2048 → Fin 12288 → EReal) (b : Fin 8) (h : Fin 16) (a : Fin 2) (t : Fin 2048) (k : ℕ) : ℝ :=
  ∑ x : Fin 128, (X b ⟨k % 2048, Nat.mod_lt _ (by norm_num)⟩ ⟨4096 + (h * 256 + a * 128 + x), by omega⟩).toReal * (X b t ⟨h * 256 + a * 128 + x, by omega⟩).toReal

/-- Coordinate `e` of the value of key `k` in head `h` of batch `b`; past the value's 256 coordinates the constant one. -/
def value2 (X : Fin 8 → Fin 2048 → Fin 12288 → EReal) (b : Fin 8) (h : Fin 16) (e : Fin 272) (k : ℕ) : ℝ :=
  if he : (e : ℕ) < 256 then (X b ⟨k % 2048, Nat.mod_lt _ (by norm_num)⟩ ⟨8192 + (h * 256 + e), by omega⟩).toReal else 1

/-- The row of query `t` in head `h` of batch `b` before its normalisation. -/
def difference (X : Fin 8 → Fin 2048 → Fin 12288 → EReal) (l : EReal) (b : Fin 8) (h : Fin 16) (t : Fin 2048) (e : Fin 256) : EReal :=
  (average 2048 (score2 X b h 0 t) (value2 X b h ⟨e, by omega⟩) : EReal) - l * (average 2048 (score2 X b h 1 t) (value2 X b h ⟨e, by omega⟩) : EReal)

variable {X : Fin 8 → Fin 2048 → Fin 12288 → EReal}

/-- The 128 products of finite arguments add to the score. -/
theorem score2_eq (hX : ∀ b t x, X b t x = (X b t x).toReal) (b : Fin 8) (h : Fin 16) (a : Fin 2) (t k : Fin 2048) :
    ∑ x : Fin 128, X b k ⟨4096 + (h * 256 + a * 128 + x), by omega⟩ * X b t ⟨h * 256 + a * 128 + x, by omega⟩ = (score2 X b h a t k : EReal) := by
  have hk : (⟨(k : ℕ) % 2048, Nat.mod_lt _ (by norm_num)⟩ : Fin 2048) = k := Fin.ext (Nat.mod_eq_of_lt k.isLt)
  rw [score2, hk, coe_sum]
  exact Finset.sum_congr rfl fun x _ => by rw [EReal.coe_mul, ← hX, ← hX]

/-- A finite argument's value coordinate. -/
theorem value2_eq (hX : ∀ b t x, X b t x = (X b t x).toReal) (b : Fin 8) (h : Fin 16) (e : Fin 256) (k : Fin 2048) :
    X b k ⟨8192 + (h * 256 + e), by omega⟩ = (value2 X b h ⟨e, by omega⟩ k : EReal) := by
  have hk : (⟨(k : ℕ) % 2048, Nat.mod_lt _ (by norm_num)⟩ : Fin 2048) = k := Fin.ext (Nat.mod_eq_of_lt k.isLt)
  rw [value2, dif_pos e.isLt, hk]
  exact hX _ _ _

/-- The coordinates past the value's are ones. -/
theorem value2_one (b : Fin 8) (h : Fin 16) (e : Fin 272) (he : 256 ≤ (e : ℕ)) (k : ℕ) : value2 X b h e k = 1 := dif_neg (by omega)

/-- The normalised row at coordinates of equal values. -/
theorem normed_congr (X : Fin 8 → Fin 2048 → Fin 12288 → EReal) (l : EReal) (g : Fin 256 → EReal) {b b' : Fin 8} {h h' : Fin 16} {t t' : Fin 2048} {e e' : Fin 256}
    (hb : (b : ℕ) = b') (hh : (h : ℕ) = h') (ht : (t : ℕ) = t') (he : (e : ℕ) = e') :
    normed (difference X l b h t) (g e) e = normed (difference X l b' h' t') (g e') e' := by
  rw [Fin.ext hb, Fin.ext hh, Fin.ext ht, Fin.ext he]

end Cert.Attn
end
-- ==== Proof.Diff.Block.lean ====
module

public import proofs.«01_k».proof.Proof.Gen.Kernel4Ideal.Frame
public import proofs.«01_k».proof.Proof.Diff.Spec
public import Idealize.ShloMosaic.Lib.Pipeline.ReadBack

/-!
What one grid point of the differential attention stores, in real numbers: for each of the two maps the block's 2048 keys are read
in eight pieces of 256, each piece one step of `Cert.Attn.Upto`; the stored row is the normalised difference of the two averages.
-/

@[expose] public section
set_option maxRecDepth 16384
noncomputable section
namespace Cert.Kernel4Ideal.Value
open Cert.Kernel4Ideal Cert.Kernel4Ideal.Gen Idealize.ShloMosaic Idealize.ShloMosaic.TcCoe Idealize.SL.Sem
open Cert.Attn

/-- The shift after a piece with scores `s`. -/
abbrev stepM (m : FVec Ideal S1x512 .f32) (s : FVec Ideal S256x512 .f32) : FVec Ideal S1x512 .f32 :=
  maximumf m (shapeCast S1x512 (multiReduction .maximumf [0] S512 s 0xFF800000#32 reduces_S256x512_S512 (.inl rfl) rfl) shapeCasts_S512_S1x512)

/-- The sums after a piece with scores `s` and values `v`. -/
abbrev stepA (m : FVec Ideal S1x512 .f32) (s : FVec Ideal S256x512 .f32) (v : FVec Ideal S1x272x256 .bf16) (acc : FVec Ideal S272x512 .f32) : FVec Ideal S272x512 .f32 :=
  addf (mulf (broadcastTo S272x512 (exp2 (subf m (stepM m s))) broadcasts_S1x512_S272x512) acc)
    (matmul dot_S272x256_S256x512_S272x512_1_0_0_1_n_n none (shapeCast S272x256 v shapeCasts_S1x272x256_S272x256)
      (truncf .bf16 (exp2 (subf s (broadcastTo S256x512 (stepM m s) broadcasts_S1x512_S256x512))) bitsLt_bf16_f32) (constant S272x512 .f32 0x00000000#32))

/-- The shift after a piece, at a query. -/
theorem stepM_at (m : FVec Ideal S1x512 .f32) (s : FVec Ideal S256x512 .f32) (q : Fin 512) :
    stepM m s (ix2 0 q) = max (m (ix2 0 q)) (Finset.univ.fold max ⊥ fun k : Fin 256 => s (ix2 k q)) := by
  pointwise [stepM]
  rw [ofBits_neg_inf_f32]

/-- The sums after a piece, at a coordinate and a query. -/
theorem stepA_at (m : FVec Ideal S1x512 .f32) (s : FVec Ideal S256x512 .f32) (v : FVec Ideal S1x272x256 .bf16) (acc : FVec Ideal S272x512 .f32)
    (d : Fin 272) (q : Fin 512) :
    stepA m s v acc (ix2 d q)
      = Ideal.exp2 (m (ix2 0 q) - max (m (ix2 0 q)) (Finset.univ.fold max ⊥ fun k : Fin 256 => s (ix2 k q))) * acc (ix2 d q)
        + ∑ k : Fin 256, v (ix3 0 d k) * Ideal.exp2 (s (ix2 k q) - max (m (ix2 0 q)) (Finset.univ.fold max ⊥ fun k : Fin 256 => s (ix2 k q))) := by
  pointwise [stepA, stepM]
  rw [ofBits_neg_inf_f32]
  rfl

/-- The kept words of every query after the first `T` keys. -/
def Kept (T : ℕ) (σ : ℕ → Fin 512 → ℝ) (ν : Fin 272 → ℕ → ℝ) (m : FVec Ideal S1x512 .f32) (a : FVec Ideal S272x512 .f32) : Prop :=
  ∀ q : Fin 512, Upto T (fun k => σ k q) ν (m (ix2 0 q)) (fun d => a (ix2 d q))

/-- One piece more. -/
theorem Kept.step {T : ℕ} {σ : ℕ → Fin 512 → ℝ} {ν : Fin 272 → ℕ → ℝ} {m : FVec Ideal S1x512 .f32} {a : FVec Ideal S272x512 .f32}
    (h : Kept T σ ν m a) (s : FVec Ideal S256x512 .f32) (v : FVec Ideal S1x272x256 .bf16)
    (hs : ∀ (k : Fin 256) (q : Fin 512), s (ix2 k q) = (σ (T + k) q : EReal))
    (hv : ∀ (d : Fin 272) (k : Fin 256), v (ix3 0 d k) = (ν d (T + k) : EReal)) :
    Kept (T + 256) σ ν (stepM m s) (stepA m s v a) := fun q => by
  have := (h q).step (n := 256) (by norm_num) (fun k => s (ix2 k q)) (fun d k => v (ix3 0 d k)) (fun k => hs k q) hv
  rw [stepM_at]
  simpa only [stepA_at] using this

/-- Before any key: `-∞` and zeros. -/
theorem Kept.start (σ : ℕ → Fin 512 → ℝ) (ν : Fin 272 → ℕ → ℝ) (m : FVec Ideal S1x512 .f32) (a : FVec Ideal S272x512 .f32)
    (hm : ∀ q : Fin 512, m (ix2 0 q) = (⊥ : EReal)) (ha : ∀ (d : Fin 272) (q : Fin 512), a (ix2 d q) = (0 : EReal)) : Kept 0 σ ν m a :=
  fun q => .inl ⟨rfl, hm q, fun d => ha d q⟩

/-- The shift kept before any key, of either map. -/
theorem start_m (v : View sig .tc .vmem S2x1x512 .f32) (o : ℕ) (inb inb') (q : Fin 512) :
    ((shapeCast S1x512 (View.readCov (Val := Elt Ideal) v [⟨Rect.unit (s := S2x1x512) ![0, 0, 0] ![2, 1, 512] inb, k0_pay7 (F := Ideal)⟩]
      (Rect.unit (s := S2x1x512) ![o, 0, 0] ![1, 1, 512] inb').toLoadRect : FVec Ideal S1x1x512 .f32) shapeCasts_S1x1x512_S1x512 : FVec Ideal S1x512 .f32) (ix2 0 q) : EReal) = ⊥ := by
  refine (congrFun (congrArg (fun x => shapeCast S1x512 x shapeCasts_S1x1x512_S1x512) (View.readCov_fill (Val := Elt Ideal) v inb (k0_pay7 (F := Ideal)) [] _ (by decide))) _).trans ?_
  exact ofBits_neg_inf_f32

/-- The sums kept before any key, of either map. -/
theorem start_a (v : View sig .tc .vmem S2x272x512 .f32) (o : ℕ) (inb inb') (d : Fin 272) (q : Fin 512) :
    ((shapeCast S272x512 (View.readCov (Val := Elt Ideal) v [⟨Rect.unit (s := S2x272x512) ![0, 0, 0] ![2, 272, 512] inb, k0_pay8 (F := Ideal)⟩]
      (Rect.unit (s := S2x272x512) ![o, 0, 0] ![1, 272, 512] inb').toLoadRect : FVec Ideal S1x272x512 .f32) shapeCasts_S1x272x512_S272x512 : FVec Ideal S272x512 .f32) (ix2 d q) : EReal) = 0 := by
  refine (congrFun (congrArg (fun x => shapeCast S272x512 x shapeCasts_S1x272x512_S272x512) (View.readCov_fill (Val := Elt Ideal) v inb (k0_pay8 (F := Ideal)) [] _ (by decide))) _).trans ?_
  exact Ideal.ofBits_zero_f32

/-- The piece of 256 keys from key `o` on. -/
abbrev piece (x1 : FVec Ideal S1x2048x256 .bf16) (o : ℕ) (inb : ∀ a, (![0, o, 0] : Fin 3 → ℕ) a + (![1, 256, 256] : Fin 3 → ℕ) a ≤ S1x2048x256.size a) :
    FVec Ideal S1x256x256 .bf16 :=
  View.ld (Val := Elt Ideal) (e' := .bf16) x1 (Rect.unit (s := S1x2048x256) ![0, o, 0] ![1, 256, 256] inb)

/-- The piece of 256 keys from key `o` on, at a key and a coordinate. -/
theorem keys_at (x1 : FVec Ideal S1x2048x256 .bf16) (o : ℕ) (inb) (k : Fin 256) (x : Fin 256) (h : o + k < 2048) :
    piece x1 o inb (ix3 0 k x) = x1 (ix3 0 ⟨o + k, h⟩ x) := by
  refine View.ld_unit_apply_of (Val := Elt Ideal) (e := .bf16) x1 _ _ inb _ _ fun a => ?_
  match a with
  | 0 => rfl
  | 1 => rfl
  | 2 => exact (Nat.zero_add _).symm

/-- The scores of map 0 of a piece of keys. -/
abbrev sc0 (x0 : FVec Ideal S1x512x256 .bf16) (k : FVec Ideal S1x256x256 .bf16) : FVec Ideal S256x512 .f32 :=
  matmul dot_S256x128_S512x128_S256x512_1_1_0_0_n_n none
    (extractStridedSlice S256x128 ![0, 0] (shapeCast S256x256 k shapeCasts_S1x256x256_S256x256) slices_S256x256_o0_0_S256x128)
    (extractStridedSlice S512x128 ![0, 0] (shapeCast S512x256 x0 shapeCasts_S1x512x256_S512x256) slices_S512x256_o0_0_S512x128)
    (constant S256x512 .f32 0x00000000#32)

/-- The scores of map 0 of a piece, at a key and a query. -/
theorem sc0_at (x0 : FVec Ideal S1x512x256 .bf16) (k : FVec Ideal S1x256x256 .bf16) (j : Fin 256) (q : Fin 512) :
    sc0 x0 k (ix2 j q) = ∑ x : Fin 128, k (ix3 0 j ⟨x, by omega⟩) * x0 (ix3 0 q ⟨x, by omega⟩) := by
  pointwise [sc0]

/-- The scores of map 0 of the piece from key `o` on are the block's. -/
theorem scores0 (x0 : FVec Ideal S1x512x256 .bf16) (x1 : FVec Ideal S1x2048x256 .bf16) (σ : ℕ → Fin 512 → ℝ)
    (hS : ∀ (k : Fin 2048) (q : Fin 512), ∑ x : Fin 128, x1 (ix3 0 k ⟨x, by omega⟩) * x0 (ix3 0 q ⟨x, by omega⟩) = (σ k q : EReal))
    (o : ℕ) (inb : ∀ a, (![0, o, 0] : Fin 3 → ℕ) a + (![1, 256, 256] : Fin 3 → ℕ) a ≤ S1x2048x256.size a) (k : Fin 256) (q : Fin 512) :
    sc0 x0 (piece x1 o inb) (ix2 k q) = (σ (o + k) q : EReal) := by
  have ho : o + 256 ≤ 2048 := inb 1
  rw [sc0_at, ← hS ⟨o + k, by omega⟩ q]
  exact Finset.sum_congr rfl fun x _ => by rw [keys_at x1 o inb k _ (by omega)]

/-- The scores of map 1 of a piece of keys. -/
abbrev sc1 (x0 : FVec Ideal S1x512x256 .bf16) (k : FVec Ideal S1x256x256 .bf16) : FVec Ideal S256x512 .f32 :=
  matmul dot_S256x128_S512x128_S256x512_1_1_0_0_n_n none
    (extractStridedSlice S256x128 ![0, 128] (shapeCast S256x256 k shapeCasts_S1x256x256_S256x256) slices_S256x256_o0_128_S256x128)
    (extractStridedSlice S512x128 ![0, 128] (shapeCast S512x256 x0 shapeCasts_S1x512x256_S512x256) slices_S512x256_o0_128_S512x128)
    (constant S256x512 .f32 0x00000000#32)

/-- The scores of map 1 of a piece, at a key and a query. -/
theorem sc1_at (x0 : FVec Ideal S1x512x256 .bf16) (k : FVec Ideal S1x256x256 .bf16) (j : Fin 256) (q : Fin 512) :
    sc1 x0 k (ix2 j q) = ∑ x : Fin 128, k (ix3 0 j ⟨128 + x, by omega⟩) * x0 (ix3 0 q ⟨128 + x, by omega⟩) := by
  pointwise [sc1]

/-- The scores of map 1 of the piece from key `o` on are the block's. -/
theorem scores1 (x0 : FVec Ideal S1x512x256 .bf16) (x1 : FVec Ideal S1x2048x256 .bf16) (σ : ℕ → Fin 512 → ℝ)
    (hS : ∀ (k : Fin 2048) (q : Fin 512), ∑ x : Fin 128, x1 (ix3 0 k ⟨128 + x, by omega⟩) * x0 (ix3 0 q ⟨128 + x, by omega⟩) = (σ k q : EReal))
    (o : ℕ) (inb : ∀ a, (![0, o, 0] : Fin 3 → ℕ) a + (![1, 256, 256] : Fin 3 → ℕ) a ≤ S1x2048x256.size a) (k : Fin 256) (q : Fin 512) :
    sc1 x0 (piece x1 o inb) (ix2 k q) = (σ (o + k) q : EReal) := by
  have ho : o + 256 ≤ 2048 := inb 1
  rw [sc1_at, ← hS ⟨o + k, by omega⟩ q]
  exact Finset.sum_congr rfl fun x _ => by rw [keys_at x1 o inb k _ (by omega)]

/-- The piece of 256 values from key `o` on, at a coordinate and a key. -/
theorem values_at (x2 : FVec Ideal S1x272x2048 .bf16) (o : ℕ) (inb) (d : Fin 272) (k : Fin 256) (h : o + k < 2048) :
    (View.ld (Val := Elt Ideal) (e' := .bf16) x2 (Rect.unit (s := S1x272x2048) ![0, 0, o] ![1, 272, 256] inb) : FVec Ideal S1x272x256 .bf16) (ix3 0 d k)
      = x2 (ix3 0 d ⟨o + k, h⟩) := by
  refine View.ld_unit_apply_of (Val := Elt Ideal) (e := .bf16) x2 _ _ inb _ _ fun a => ?_
  match a with
  | 0 => rfl
  | 1 => exact (Nat.zero_add _).symm
  | 2 => rfl

/-- The values of the piece from key `o` on are the block's. -/
theorem values_of (x2 : FVec Ideal S1x272x2048 .bf16) (ν : Fin 272 → ℕ → ℝ)
    (hV : ∀ (d : Fin 272) (k : Fin 2048), x2 (ix3 0 d k) = (ν d k : EReal))
    (o : ℕ) (inb : ∀ a, (![0, 0, o] : Fin 3 → ℕ) a + (![1, 272, 256] : Fin 3 → ℕ) a ≤ S1x272x2048.size a) (d : Fin 272) (k : Fin 256) :
    (View.ld (Val := Elt Ideal) (e' := .bf16) x2 (Rect.unit (s := S1x272x2048) ![0, 0, o] ![1, 272, 256] inb) : FVec Ideal S1x272x256 .bf16) (ix3 0 d k)
      = (ν d (o + k) : EReal) := by
  have ho : o + 256 ≤ 2048 := inb 2
  rw [values_at x2 o inb d k (by omega), ← hV d ⟨o + k, by omega⟩]

/-- The eight pieces' payloads of map 0 are eight steps. -/
theorem steps0_eq (m0 : FVec Ideal S1x512 .f32) (a0 : FVec Ideal S272x512 .f32) (s0 s1 s2 s3 s4 s5 s6 s7 : FVec Ideal S256x512 .f32)
    (v0 v1 v2 v3 v4 v5 v6 v7 : FVec Ideal S1x272x256 .bf16) :
    (k0_pay76 s6 s7 (k0_pay67 s5 (k0_pay62 s3 s4 (k0_pay52 s1 s2 (k0_pay43 m0 s0))) (k0_pay63 s3 s4 (k0_pay52 s1 s2 (k0_pay43 m0 s0)) (k0_pay53 s1 s2 (k0_pay43 m0 s0) (k0_pay44 m0 a0 s0 v0) (k0_pay47 v1) v2) v3 v4) v5) (k0_pay70 v6) (k0_pay71 s5 s6 (k0_pay62 s3 s4 (k0_pay52 s1 s2 (k0_pay43 m0 s0)))) (k0_pay72 s5 s6 (k0_pay62 s3 s4 (k0_pay52 s1 s2 (k0_pay43 m0 s0)))) v7)
    = (stepA (stepM (stepM (stepM (stepM (stepM (stepM (stepM m0 s0) s1) s2) s3) s4) s5) s6) s7 v7 (stepA (stepM (stepM (stepM (stepM (stepM (stepM m0 s0) s1) s2) s3) s4) s5) s6 v6 (stepA (stepM (stepM (stepM (stepM (stepM m0 s0) s1) s2) s3) s4) s5 v5 (stepA (stepM (stepM (stepM (stepM m0 s0) s1) s2) s3) s4 v4 (stepA (stepM (stepM (stepM m0 s0) s1) s2) s3 v3 (stepA (stepM (stepM m0 s0) s1) s2 v2 (stepA (stepM m0 s0) s1 v1 (stepA m0 s0 v0 a0)))))))) := by
  rfl

/-- The eight pieces' payloads of map 1 are eight steps. -/
theorem steps1_eq (m0 : FVec Ideal S1x512 .f32) (a0 : FVec Ideal S272x512 .f32) (s0 s1 s2 s3 s4 s5 s6 s7 : FVec Ideal S256x512 .f32)
    (v0 v1 v2 v3 v4 v5 v6 v7 : FVec Ideal S1x272x256 .bf16) :
    (k0_pay78 s6 s7 (k0_pay68 s4 s5 (k0_pay59 s3 (k0_pay54 s1 s2 (k0_pay45 m0 s0)))) (k0_pay69 s4 s5 (k0_pay59 s3 (k0_pay54 s1 s2 (k0_pay45 m0 s0))) (k0_pay60 s3 (k0_pay50 s1 (k0_pay45 m0 s0) (k0_pay46 m0 a0 s0 v0) (k0_pay47 v1)) (k0_pay51 v2) (k0_pay54 s1 s2 (k0_pay45 m0 s0)) (k0_pay55 s1 s2 (k0_pay45 m0 s0)) (k0_pay56 s1 s2 (k0_pay45 m0 s0)) v3) (k0_pay61 v4) v5) (k0_pay70 v6) v7)
    = (stepA (stepM (stepM (stepM (stepM (stepM (stepM (stepM m0 s0) s1) s2) s3) s4) s5) s6) s7 v7 (stepA (stepM (stepM (stepM (stepM (stepM (stepM m0 s0) s1) s2) s3) s4) s5) s6 v6 (stepA (stepM (stepM (stepM (stepM (stepM m0 s0) s1) s2) s3) s4) s5 v5 (stepA (stepM (stepM (stepM (stepM m0 s0) s1) s2) s3) s4 v4 (stepA (stepM (stepM (stepM m0 s0) s1) s2) s3 v3 (stepA (stepM (stepM m0 s0) s1) s2 v2 (stepA (stepM m0 s0) s1 v1 (stepA m0 s0 v0 a0)))))))) := by
  rfl

/-- The stored row, from the sums of the two maps. -/
theorem stored_row (A B : FVec Ideal S272x512 .f32) (x3 : FVec Ideal S4x128 .f32) (x4 : FVec Ideal S1x256 .f32) (q : Fin 512) (e : Fin 256) :
    (k0_pay5 (F := Ideal) (k0_pay6 (F := Ideal) A B x3 x4) (ix3 0 q e) : EReal)
      = normed (fun e => Ideal.div (A (ix2 ⟨e, by omega⟩ q)) (A (ix2 256 q)) - lamOf (fun a i => x3 (ix2 a i)) * Ideal.div (B (ix2 ⟨e, by omega⟩ q)) (B (ix2 256 q)))
        (x4 (ix2 0 e)) e := by
  unfold normed lamOf
  pointwise [k0_pay5, k0_pay6]

/-- What a grid point stores, from the real scores and the real values of its block, the row 256 of the values being ones. -/
theorem stored_at (c : Dev nD) (i : grid0.Coords) (arg4 : Memref sig .tc .vmem S1x512x256 .bf16) (harg4 : arg4.IsWhole) (arg5 : Memref sig .tc .vmem S1x2048x256 .bf16) (harg5 : arg5.IsWhole) (arg6 : Memref sig .tc .vmem S1x272x2048 .bf16) (harg6 : arg6.IsWhole) (arg7 : Memref sig .tc .vmem S4x128 .f32) (harg7 : arg7.IsWhole) (arg8 : Memref sig .tc .vmem S1x256 .f32) (harg8 : arg8.IsWhole) (arg9 : Memref sig .tc .vmem S1x512x256 .bf16) (harg9 : arg9.IsWhole) (arg10 : Memref sig .tc .vmem S2x1x512 .f32) (harg10 : arg10.IsWhole) (arg11 : Memref sig .tc .vmem S2x272x512 .f32) (harg11 : arg11.IsWhole) (hc0 : cond0_0 i) (hc1 : cond0_1 i)
    (x0 : FVec Ideal S1x512x256 .bf16) (x1 : FVec Ideal S1x2048x256 .bf16) (x2 : FVec Ideal S1x272x2048 .bf16) (x3 : FVec Ideal S4x128 .f32) (x4 : FVec Ideal S1x256 .f32)
    (σ : Fin 2 → ℕ → Fin 512 → ℝ) (ν : Fin 272 → ℕ → ℝ)
    (hS0 : ∀ (k : Fin 2048) (q : Fin 512), ∑ x : Fin 128, x1 (ix3 0 k ⟨x, by omega⟩) * x0 (ix3 0 q ⟨x, by omega⟩) = (σ 0 k q : EReal))
    (hS1 : ∀ (k : Fin 2048) (q : Fin 512), ∑ x : Fin 128, x1 (ix3 0 k ⟨128 + x, by omega⟩) * x0 (ix3 0 q ⟨128 + x, by omega⟩) = (σ 1 k q : EReal))
    (hV : ∀ (d : Fin 272) (k : Fin 2048), x2 (ix3 0 d k) = (ν d k : EReal)) (hl : ∀ k, k < 2048 → ν 256 k = 1)
    (q : Fin 512) (e : Fin 256) :
    (out0_A_5 (F := Ideal) c i arg4 harg4 arg5 harg5 arg6 harg6 arg7 harg7 arg8 harg8 arg9 harg9 arg10 harg10 arg11 harg11 hc0 hc1 x0 x1 x2 x3 x4 (ix3 0 q e) : EReal)
      = normed (fun e => (average 2048 (fun k => σ 0 k q) (ν ⟨e, by omega⟩) : EReal)
          - lamOf (fun a i => x3 (ix2 a i)) * (average 2048 (fun k => σ 1 k q) (ν ⟨e, by omega⟩) : EReal)) (x4 (ix2 0 e)) e := by
  have h1 : Kept 256 (σ 0) ν _ _ := (Kept.start (σ 0) ν _ _ (start_m arg10.view 0 inb_S2x1x512_S2x1x512_0_0_0 inb_S2x1x512_S1x1x512_0_0_0) (start_a arg11.view 0 inb_S2x272x512_S2x272x512_0_0_0 inb_S2x272x512_S1x272x512_0_0_0)).step (k0_pay15 x0 (piece x1 0 inb_S1x2048x256_S1x256x256_0_0_0)) _ (scores0 x0 x1 (σ 0) hS0 0 inb_S1x2048x256_S1x256x256_0_0_0) (values_of x2 ν hV 0 inb_S1x272x2048_S1x272x256_0_0_0)
  have h2 : Kept 512 (σ 0) ν _ _ := h1.step (k0_pay18 x0 (piece x1 256 inb_S1x2048x256_S1x256x256_0_256_0)) _ (scores0 x0 x1 (σ 0) hS0 256 inb_S1x2048x256_S1x256x256_0_256_0) (values_of x2 ν hV 256 inb_S1x272x2048_S1x272x256_0_0_256)
  have h3 : Kept 768 (σ 0) ν _ _ := h2.step (k0_pay23 (k0_pay9 x0) (piece x1 512 inb_S1x2048x256_S1x256x256_0_512_0)) _ (scores0 x0 x1 (σ 0) hS0 512 inb_S1x2048x256_S1x256x256_0_512_0) (values_of x2 ν hV 512 inb_S1x272x2048_S1x272x256_0_0_512)
  have h4 : Kept 1024 (σ 0) ν _ _ := h3.step (k0_pay26 (k0_pay9 x0) (piece x1 768 inb_S1x2048x256_S1x256x256_0_768_0)) _ (scores0 x0 x1 (σ 0) hS0 768 inb_S1x2048x256_S1x256x256_0_768_0) (values_of x2 ν hV 768 inb_S1x272x2048_S1x272x256_0_0_768)
  have h5 : Kept 1280 (σ 0) ν _ _ := h4.step (k0_pay29 (k0_pay9 x0) (piece x1 1024 inb_S1x2048x256_S1x256x256_0_1024_0)) _ (scores0 x0 x1 (σ 0) hS0 1024 inb_S1x2048x256_S1x256x256_0_1024_0) (values_of x2 ν hV 1024 inb_S1x272x2048_S1x272x256_0_0_1024)
  have h6 : Kept 1536 (σ 0) ν _ _ := h5.step (k0_pay32 (k0_pay9 x0) (piece x1 1280 inb_S1x2048x256_S1x256x256_0_1280_0)) _ (scores0 x0 x1 (σ 0) hS0 1280 inb_S1x2048x256_S1x256x256_0_1280_0) (values_of x2 ν hV 1280 inb_S1x272x2048_S1x272x256_0_0_1280)
  have h7 : Kept 1792 (σ 0) ν _ _ := h6.step (k0_pay37 (k0_pay35 (piece x1 1536 inb_S1x2048x256_S1x256x256_0_1536_0)) (k0_pay36 (k0_pay9 x0))) _ (scores0 x0 x1 (σ 0) hS0 1536 inb_S1x2048x256_S1x256x256_0_1536_0) (values_of x2 ν hV 1536 inb_S1x272x2048_S1x272x256_0_0_1536)
  have h8 : Kept 2048 (σ 0) ν _ _ := h7.step (k0_pay40 (k0_pay9 x0) (piece x1 1792 inb_S1x2048x256_S1x256x256_0_1792_0)) _ (scores0 x0 x1 (σ 0) hS0 1792 inb_S1x2048x256_S1x256x256_0_1792_0) (values_of x2 ν hV 1792 inb_S1x272x2048_S1x272x256_0_0_1792)
  have g1 : Kept 256 (σ 1) ν _ _ := (Kept.start (σ 1) ν _ _ (start_m arg10.view 1 inb_S2x1x512_S2x1x512_0_0_0 inb_S2x1x512_S1x1x512_1_0_0) (start_a arg11.view 1 inb_S2x272x512_S2x272x512_0_0_0 inb_S2x272x512_S1x272x512_1_0_0)).step (k0_pay16 x0 (piece x1 0 inb_S1x2048x256_S1x256x256_0_0_0)) _ (scores1 x0 x1 (σ 1) hS1 0 inb_S1x2048x256_S1x256x256_0_0_0) (values_of x2 ν hV 0 inb_S1x272x2048_S1x272x256_0_0_0)
  have g2 : Kept 512 (σ 1) ν _ _ := g1.step (k0_pay21 (k0_pay19 (piece x1 256 inb_S1x2048x256_S1x256x256_0_256_0)) (k0_pay20 x0) (constant S256x512 .f32 0x00000000#32)) _ (scores1 x0 x1 (σ 1) hS1 256 inb_S1x2048x256_S1x256x256_0_256_0) (values_of x2 ν hV 256 inb_S1x272x2048_S1x272x256_0_0_256)
  have g3 : Kept 768 (σ 1) ν _ _ := g2.step (k0_pay24 (k0_pay9 x0) (piece x1 512 inb_S1x2048x256_S1x256x256_0_512_0)) _ (scores1 x0 x1 (σ 1) hS1 512 inb_S1x2048x256_S1x256x256_0_512_0) (values_of x2 ν hV 512 inb_S1x272x2048_S1x272x256_0_0_512)
  have g4 : Kept 1024 (σ 1) ν _ _ := g3.step (k0_pay27 (k0_pay9 x0) (piece x1 768 inb_S1x2048x256_S1x256x256_0_768_0)) _ (scores1 x0 x1 (σ 1) hS1 768 inb_S1x2048x256_S1x256x256_0_768_0) (values_of x2 ν hV 768 inb_S1x272x2048_S1x272x256_0_0_768)
  have g5 : Kept 1280 (σ 1) ν _ _ := g4.step (k0_pay30 (k0_pay9 x0) (piece x1 1024 inb_S1x2048x256_S1x256x256_0_1024_0)) _ (scores1 x0 x1 (σ 1) hS1 1024 inb_S1x2048x256_S1x256x256_0_1024_0) (values_of x2 ν hV 1024 inb_S1x272x2048_S1x272x256_0_0_1024)
  have g6 : Kept 1536 (σ 1) ν _ _ := g5.step (k0_pay33 (k0_pay9 x0) (piece x1 1280 inb_S1x2048x256_S1x256x256_0_1280_0)) _ (scores1 x0 x1 (σ 1) hS1 1280 inb_S1x2048x256_S1x256x256_0_1280_0) (values_of x2 ν hV 1280 inb_S1x272x2048_S1x272x256_0_0_1280)
  have g7 : Kept 1792 (σ 1) ν _ _ := g6.step (k0_pay38 (k0_pay9 x0) (k0_pay34 (piece x1 1536 inb_S1x2048x256_S1x256x256_0_1536_0))) _ (scores1 x0 x1 (σ 1) hS1 1536 inb_S1x2048x256_S1x256x256_0_1536_0) (values_of x2 ν hV 1536 inb_S1x272x2048_S1x272x256_0_0_1536)
  have g8 : Kept 2048 (σ 1) ν _ _ := g7.step (k0_pay41 (k0_pay9 x0) (piece x1 1792 inb_S1x2048x256_S1x256x256_0_1792_0)) _ (scores1 x0 x1 (σ 1) hS1 1792 inb_S1x2048x256_S1x256x256_0_1792_0) (values_of x2 ν hV 1792 inb_S1x272x2048_S1x272x256_0_0_1792)
  have hq := fun e : Fin 256 => (h8 q).quotient (by norm_num) (⟨e, by omega⟩ : Fin 272) 256 hl
  have gq := fun e : Fin 256 => (g8 q).quotient (by norm_num) (⟨e, by omega⟩ : Fin 272) 256 hl
  frame_out
  refine (stored_row _ _ _ _ q e).trans ?_
  refine congrArg (fun o => normed o _ e) (funext fun e => ?_)
  refine congrArg₂ (fun a b => a - _ * b) ((congrArg₂ Ideal.div ?_ ?_).trans (hq e)) ((congrArg₂ Ideal.div ?_ ?_).trans (gq e))
  · exact congrFun (steps0_eq _ _ _ _ _ _ _ _ _ _ _ _ _ _ _ _ _ _) _
  · exact congrFun (steps0_eq _ _ _ _ _ _ _ _ _ _ _ _ _ _ _ _ _ _) _
  · exact congrFun (steps1_eq _ _ _ _ _ _ _ _ _ _ _ _ _ _ _ _ _ _) _
  · exact congrFun (steps1_eq _ _ _ _ _ _ _ _ _ _ _ _ _ _ _ _ _ _) _

end Cert.Kernel4Ideal.Value
end
-- ==== Proof.Diff.Index.lean ====
module

public import proofs.«01_k».proof.Proof.Gen.Kernel4Ideal.Frame
public import Idealize.ShloMosaic.Lib.Pipeline.ValueKit
public import Idealize.ShloMosaic.Lib.Pipeline.Covers
public import Idealize.ShloMosaic.Lib.Claim

/-!
Where the blocks of the differential attention's grid points lie.
-/

@[expose] public section
set_option maxRecDepth 16384
noncomputable section
namespace Cert.Kernel4Ideal.Value
open Cert.Kernel4Ideal Cert.Kernel4Ideal.Gen Idealize.ShloMosaic Idealize.ShloMosaic.TcCoe Idealize.SL.Sem
open Idealize.ShloMosaic.Pipeline (Dat)

/-- The windows' block indices at every grid point, from the point's coordinates. -/
theorem idx : ∀ t : Fin cfg0.N, win0_0.index t = ![t.val / 64, t.val % 4, t.val / 4 % 16] ∧ win0_1.index t = ![t.val / 64, 0, 16 + t.val / 4 % 16]
    ∧ win0_2.index t = ![t.val / 64, t.val / 4 % 16, 0] ∧ win0_3.index t = ![0, 0] ∧ win0_4.index t = ![0, 0]
    ∧ win0_5.index t = ![t.val / 64, t.val % 4, t.val / 4 % 16] :=
  (by decide +kernel : ∀ t : Fin grid0.N, _)

/-- The output's blocks tile its array. -/
theorem covers : (cfg0.win 5).Covers :=
  (cfg0.win 5).covers_of_index_surj rfl (by decide) fun β => by
    have h0 : (β 0 : ℕ) < 8 := (β 0).isLt
    have h1 : (β 1 : ℕ) < 4 := (β 1).isLt
    have h2 : (β 2 : ℕ) < 16 := (β 2).isLt
    refine ⟨⟨(β 0 : ℕ) * 64 + (β 2 : ℕ) * 4 + (β 1 : ℕ), by show _ < 512; omega⟩, fun a => ?_⟩
    refine (congrFun (idx ⟨(β 0 : ℕ) * 64 + (β 2 : ℕ) * 4 + (β 1 : ℕ), by show _ < 512; omega⟩).2.2.2.2.2 a).trans ?_
    match a with
    | 0 => show ((β 0 : ℕ) * 64 + (β 2 : ℕ) * 4 + (β 1 : ℕ)) / 64 = (β 0 : ℕ); omega
    | 1 => show ((β 0 : ℕ) * 64 + (β 2 : ℕ) * 4 + (β 1 : ℕ)) % 4 = (β 1 : ℕ); omega
    | 2 => show ((β 0 : ℕ) * 64 + (β 2 : ℕ) * 4 + (β 1 : ℕ)) / 4 % 16 = (β 2 : ℕ); omega

end Cert.Kernel4Ideal.Value
end
-- ==== Proof.Diff.Array.lean ====
module

public import proofs.«01_k».proof.Proof.Gen.Kernel4Ideal.Value
public import proofs.«01_k».proof.Proof.Diff.Block
public import proofs.«01_k».proof.Proof.Diff.Index

/-!
The differential attention's array after the run, from the blocks its grid points store.
-/

@[expose] public section
set_option maxRecDepth 16384
noncomputable section
namespace Cert.Kernel4Ideal.Value
open Cert.Kernel4Ideal Cert.Kernel4Ideal.Gen Idealize.ShloMosaic Idealize.ShloMosaic.TcCoe Idealize.SL.Sem
open Idealize.ShloMosaic.Pipeline (Dat)
open Cert.Attn
variable (m : (ℓ : Loc nD τ sig) → Buf (Elt Ideal) ℓ)

/-- The queries, keys and values of a device, by batch, position and coordinate. -/
abbrev XA (c : Dev nD) (b : Fin 8) (t : Fin 2048) (x : Fin 12288) : EReal := (m ((c : Thread nD τ).loc main_arg0) : FVec Ideal S8x2048x12288 .bf16) (ix3 b t x)

/-- The four vectors of a device. -/
abbrev LA (c : Dev nD) (a : Fin 4) (i : Fin 128) : EReal := (m ((c : Thread nD τ).loc main_arg1) : FVec Ideal S4x128 .f32) (ix2 a i)

/-- The gains of a device. -/
abbrev GA (c : Dev nD) (e : Fin 256) : EReal := (m ((c : Thread nD τ).loc main_arg2) : FVec Ideal S256 .f32) (ix1 e)

/-- A point's queries. -/
theorem q_at (c : Dev nD) (t : Fin cfg0.N) (b : Fin 8) (h : Fin 16) (i : Fin 4) (hb : t.val / 64 = b) (hh : t.val / 4 % 16 = h) (hi : t.val % 4 = i)
    (q : Fin 512) (x : Fin 256) :
    ((iblk m c 0 t : FVec Ideal S1x512x256 .bf16) (ix3 0 q x) : EReal) = XA m c b ⟨i * 512 + q, by omega⟩ ⟨h * 256 + x, by omega⟩ := by
  blk_ext [iblk, V, idx t]

/-- A point's keys. -/
theorem k_at (c : Dev nD) (t : Fin cfg0.N) (b : Fin 8) (h : Fin 16) (hb : t.val / 64 = b) (hh : t.val / 4 % 16 = h) (k : Fin 2048) (x : Fin 256) :
    ((iblk m c 1 t : FVec Ideal S1x2048x256 .bf16) (ix3 0 k x) : EReal) = XA m c b k ⟨4096 + (h * 256 + x), by omega⟩ := by
  blk_ext [iblk, V, idx t]

/-- A point's four vectors. -/
theorem l_at (c : Dev nD) (t : Fin cfg0.N) (a : Fin 4) (i : Fin 128) : ((iblk m c 3 t : FVec Ideal S4x128 .f32) (ix2 a i) : EReal) = LA m c a i := by
  blk_ext [iblk, V, idx t]

/-- The block of the values at a grid point, of any contents of the buffers. -/
theorem blk_values (c : Dev nD) (W : (b : Ref sig .tc) → Buf (Elt Ideal) ((c : Thread nD τ).loc b)) (t : Fin cfg0.N) (b : Fin 8) (h : Fin 16)
    (hb : t.val / 64 = b) (hh : t.val / 4 % 16 = h) (d : Fin 272) (k : Fin 2048) :
    ((((cfg0.win 2).blk t).view.read (Elt Ideal) (W (Pipeline.arrRef spec0 2)) : FVec Ideal S1x272x2048 .bf16) (ix3 0 d k) : EReal)
      = (W main_v6 : FVec Ideal S8x4352x2048 .bf16) (ix3 b ⟨h * 272 + d, by omega⟩ k) := by
  blk_ext [idx t]

/-- The block of the gains at a grid point, of any contents of the buffers. -/
theorem blk_gains (c : Dev nD) (W : (b : Ref sig .tc) → Buf (Elt Ideal) ((c : Thread nD τ).loc b)) (t : Fin cfg0.N) (e : Fin 256) :
    ((((cfg0.win 4).blk t).view.read (Elt Ideal) (W (Pipeline.arrRef spec0 4)) : FVec Ideal S1x256 .f32) (ix2 0 e) : EReal)
      = (W main_v1 : FVec Ideal S1x256 .f32) (ix2 0 e) := by
  blk_ext [idx t]

/-- The prepared values: the transposed values and sixteen rows of ones for every head. -/
theorem vt_at (c : Dev nD) (b : Fin 8) (h : Fin 16) (d : Fin 272) (k : Fin 2048) :
    ((V m c main_v6 : FVec Ideal S8x4352x2048 .bf16) (ix3 b ⟨h * 272 + d, by omega⟩ k) : EReal)
      = if hd : (d : ℕ) < 256 then XA m c b k ⟨8192 + (h * 256 + d), by omega⟩ else 1 := by
  entry_read
  pointwise

/-- The prepared gains. -/
theorem gt_at (c : Dev nD) (e : Fin 256) : ((V m c main_v1 : FVec Ideal S1x256 .f32) (ix2 0 e) : EReal) = GA m c e := by
  entry_read
  pointwise

/-- A point's values. -/
theorem v_at (c : Dev nD) (t : Fin cfg0.N) (b : Fin 8) (h : Fin 16) (hb : t.val / 64 = b) (hh : t.val / 4 % 16 = h) (d : Fin 272) (k : Fin 2048) :
    ((iblk m c 2 t : FVec Ideal S1x272x2048 .bf16) (ix3 0 d k) : EReal) = if hd : (d : ℕ) < 256 then XA m c b k ⟨8192 + (h * 256 + d), by omega⟩ else 1 :=
  (blk_values c (V m c) t b h hb hh d k).trans (vt_at m c b h d k)

/-- A point's gains. -/
theorem g_at (c : Dev nD) (t : Fin cfg0.N) (e : Fin 256) : ((iblk m c 4 t : FVec Ideal S1x256 .f32) (ix2 0 e) : EReal) = GA m c e :=
  (blk_gains c (V m c) t e).trans (gt_at m c e)

/-- What a grid point stores is the differential attention of its queries. -/
theorem point (c : Dev nD) (hX : ∀ b t x, XA m c b t x = ((XA m c b t x).toReal : EReal))
    (t : Fin cfg0.N) (b : Fin 8) (h : Fin 16) (i : Fin 4) (hb : t.val / 64 = b) (hh : t.val / 4 % 16 = h) (hi : t.val % 4 = i) (y : S1x512x256.Idx) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
        scM0_0 (Memref.isWhole_whole _) scM0_1 (Memref.isWhole_whole _) (hcond0_0 t) (hcond0_1 t)
        (iblk m c 0 t) (iblk m c 1 t) (iblk m c 2 t) (iblk m c 3 t) (iblk m c 4 t) y : EReal)
      = normed (difference (XA m c) (lamOf (LA m c)) b h ⟨i * 512 + (y 1 : ℕ), by have h : (y 1 : ℕ) < 512 := (y 1).isLt; omega⟩) (GA m c (y 2)) (y 2) := by
  obtain ⟨z, q, e, rfl⟩ : ∃ (z : Fin 1) (q : Fin 512) (e : Fin 256), y = ix3 z q e := ⟨y 0, y 1, y 2, by blk_ext⟩
  obtain rfl : z = 0 := Subsingleton.elim _ _
  have hl : (fun a i => ((iblk m c 3 t : FVec Ideal S4x128 .f32) (ix2 a i) : EReal)) = LA m c := funext fun a => funext fun i => l_at m c t a i
  have hm : ∀ q : Fin 512, (⟨(i * 512 + q : ℕ) % 2048, Nat.mod_lt _ (by norm_num)⟩ : Fin 2048) = ⟨i * 512 + q, by omega⟩ := fun q => Fin.ext (Nat.mod_eq_of_lt (by omega))
  refine (stored_at c _ _ _ _ _ _ _ _ _ _ _ _ _ _ _ _ _ _ _ _ _ _ _ _
    (fun (a : Fin 2) (k : ℕ) (q : Fin 512) => score2 (XA m c) b h a ⟨(i * 512 + q) % 2048, Nat.mod_lt _ (by norm_num)⟩ k) (fun (e : Fin 272) (k : ℕ) => value2 (XA m c) b h e k)
    (fun k q => by
      rw [hm, ← score2_eq hX]
      refine Finset.sum_congr rfl fun x _ => congrArg₂ (· * ·) ((k_at m c t b h hb hh k _).trans ?_) ((q_at m c t b h i hb hh hi q _).trans ?_) <;>
        exact congrArg (XA m c b _) (Fin.ext (by simp)))
    (fun k q => by
      rw [hm, ← score2_eq hX]
      refine Finset.sum_congr rfl fun x _ => congrArg₂ (· * ·) ((k_at m c t b h hb hh k _).trans ?_) ((q_at m c t b h i hb hh hi q _).trans ?_) <;>
        exact congrArg (XA m c b _) (Fin.ext (by simp; try omega)))
    (fun d k => by
      refine (v_at m c t b h hb hh d k).trans ?_
      by_cases hd : (d : ℕ) < 256
      · rw [dif_pos hd]
        exact value2_eq hX b h ⟨d, hd⟩ k
      · rw [dif_neg hd, value2_one b h d (by omega)]
        rfl) (fun k _ => value2_one b h 256 (le_refl _) k) q e).trans ?_
  rw [hm, g_at m c t e, hl]
  rfl

/-- The differential attention's array after the run, at finite arguments. -/
theorem final (c : Dev nD) (hX : ∀ b t x, XA m c b t x = ((XA m c b t x).toReal : EReal)) :
    (dats m 0 c).arrAt 5 (cfgs 0).N
      = (fun i => normed (difference (XA m c) (lamOf (LA m c)) (i 0) ⟨(i 2 : ℕ) / 256, by have := (i 2).isLt; show _ < 16; change (i 2 : ℕ) < 4096 at this; omega⟩ (i 1))
          (GA m c ⟨(i 2 : ℕ) % 256, Nat.mod_lt _ (by norm_num)⟩) ⟨(i 2 : ℕ) % 256, Nat.mod_lt _ (by norm_num)⟩ : FVec Ideal S8x2048x4096 .bf16) := by
  refine (dats m 0 c).arrAt_eq_of_covers 5 _ covers fun t _ y => ?_
  blk_simp
  rw [after0_5]
  unfold outsAt0
  have ht : t.val < 512 := t.isLt
  refine (point m c hX t ⟨t.val / 64, by omega⟩ ⟨t.val / 4 % 16, by omega⟩ ⟨t.val % 4, by omega⟩ rfl rfl rfl y).trans ?_
  have h2 : ((y 2 : ℕ)) < 256 := (y 2).isLt
  refine normed_congr _ _ (GA m c) ?_ ?_ ?_ ?_
  · blk_simp [idx t]
  · blk_simp [idx t]
    show (t : ℕ) / 4 % 16 = ((t : ℕ) / 4 % 16 * 256 + (y 2 : ℕ)) / 256
    omega
  · blk_simp [idx t]
  · blk_simp [idx t]
    show (y 2 : ℕ) = ((t : ℕ) / 4 % 16 * 256 + (y 2 : ℕ)) % 256
    omega

end Cert.Kernel4Ideal.Value
end
-- ==== Proof.Diff.Reference.lean ====
module

public import proofs.«01_k».proof.Proof.Gen.Reference4Ideal.Run
public import Idealize.ShloMosaic.Lib.Pipeline.ValueKit
public import proofs.«01_k».proof.Proof.Diff.Spec
public import proofs.«01_k».proof.Proof.Attn.RowMax

/-!
The differential attention's reference in stages: scores, exponentials, weights, the difference's averages, the normalised rows.
-/

@[expose] public section
set_option maxRecDepth 16384
noncomputable section
namespace Cert.Reference4Ideal.Value
open Cert.Reference4Ideal Cert.Reference4Ideal.Gen Idealize.ShloMosaic Idealize.ShloMosaic.TcCoe Idealize.SL.Sem
open Cert.Attn

/-- The reference's scores by both maps, times `log 2`. -/
def SC (x : FVec Ideal S8x2048x12288 .bf16) : FVec Ideal S8x16x2x2048x2048 .f32 :=
  (mulf (Host.dotGeneral dot_S8x2048x16x2x128_S8x2048x16x2x128_S8x16x2x2048x2048_4_4_1_1_023_023 none (shapeCast _ (extractStridedSlice S8x2048x4096 ![0, 0, 0] (extf .f32 x bitsLt_bf16_f32) slices_S8x2048x12288_S8x2048x4096_0_0_0) shapeCasts_S8x2048x4096_S8x2048x16x2x128) (shapeCast _ (extractStridedSlice S8x2048x4096 ![0, 0, 4096] (extf .f32 x bitsLt_bf16_f32) slices_S8x2048x12288_S8x2048x4096_0_0_4096) shapeCasts_S8x2048x4096_S8x2048x16x2x128)) (broadcastInDim S8x16x2x2048x2048 ![] bcast_S_S8x16x2x2048x2048 (Host.log (constant S_ .f32 0x40000000#32))))

/-- The largest score of every query. -/
def MX (x : FVec Ideal S8x16x2x2048x2048 .f32) : FVec Ideal S8x16x2x2048 .f32 :=
  (maximumf (broadcastInDim S8x16x2x2048 ![] bcast_S_S8x16x2x2048 (constant S_ .f32 0xFF800000#32)) (Host.reduce FloatOps.maximumf x (constant S_ .f32 0xFF800000#32) reducesTo_S8x16x2x2048x2048_S8x16x2x2048_d4 h_S_))

/-- The exponentials of the scores less the largest. -/
def EX (x : FVec Ideal S8x16x2x2048x2048 .f32) : FVec Ideal S8x16x2x2048x2048 .f32 :=
  (Host.exp (subf x (broadcastInDim S8x16x2x2048x2048 ![0, 1, 2, 3, 4] bcast_S8x16x2x2048x1_S8x16x2x2048x2048_0_1_2_3_4 (broadcastInDim S8x16x2x2048x1 ![0, 1, 2, 3] bcast_S8x16x2x2048_S8x16x2x2048x1_0_1_2_3 (MX x)))))

/-- The exponentials over their sum. -/
def PR (e : FVec Ideal S8x16x2x2048x2048 .f32) : FVec Ideal S8x16x2x2048x2048 .f32 :=
  (Host.divf e (broadcastInDim S8x16x2x2048x2048 ![0, 1, 2, 3, 4] bcast_S8x16x2x2048x1_S8x16x2x2048x2048_0_1_2_3_4 (broadcastInDim S8x16x2x2048x1 ![0, 1, 2, 3] bcast_S8x16x2x2048_S8x16x2x2048x1_0_1_2_3 (Host.reduceAdd e (constant S_ .f32 0x00000000#32) reducesTo_S8x16x2x2048x2048_S8x16x2x2048_d4 h_S_))))

/-- The factor of the second map. -/
def LL (l : FVec Ideal S4x128 .f32) : FVec Ideal S_ .f32 :=
  (addf (subf (Host.exp (Host.reduceAdd (mulf (shapeCast _ (extractStridedSlice S1x128 ![0, 0] l slices_S4x128_S1x128_0_0) shapeCasts_S1x128_S128) (shapeCast _ (extractStridedSlice S1x128 ![1, 0] l slices_S4x128_S1x128_1_0) shapeCasts_S1x128_S128)) (constant S_ .f32 0x00000000#32) reducesTo_S128_S_d0 h_S_)) (Host.exp (Host.reduceAdd (mulf (shapeCast _ (extractStridedSlice S1x128 ![2, 0] l slices_S4x128_S1x128_2_0) shapeCasts_S1x128_S128) (shapeCast _ (extractStridedSlice S1x128 ![3, 0] l slices_S4x128_S1x128_3_0) shapeCasts_S1x128_S128)) (constant S_ .f32 0x00000000#32) reducesTo_S128_S_d0 h_S_))) (constant S_ .f32 0x3EF1014C#32))

/-- The difference of the two maps. -/
def DM (l : FVec Ideal S_ .f32) (p : FVec Ideal S8x16x2x2048x2048 .f32) : FVec Ideal S8x16x2048x2048 .f32 :=
  (subf (shapeCast _ (extractStridedSlice S8x16x1x2048x2048 ![0, 0, 0, 0, 0] p slices_S8x16x2x2048x2048_S8x16x1x2048x2048_0_0_0_0_0) shapeCasts_S8x16x1x2048x2048_S8x16x2048x2048) (mulf (broadcastInDim S8x16x2048x2048 ![] bcast_S_S8x16x2048x2048 l) (shapeCast _ (extractStridedSlice S8x16x1x2048x2048 ![0, 0, 1, 0, 0] p slices_S8x16x2x2048x2048_S8x16x1x2048x2048_0_0_1_0_0) shapeCasts_S8x16x1x2048x2048_S8x16x2048x2048)))

/-- The averages of the values by the difference. -/
def OV (x : FVec Ideal S8x2048x12288 .bf16) (d : FVec Ideal S8x16x2048x2048 .f32) : FVec Ideal S8x2048x16x256 .f32 :=
  (transpose S8x2048x16x256 [0, 3, 1, 2] (Host.dotGeneral dot_S8x2048x16x256_S8x16x2048x2048_S8x16x256x2048_1_3_3_2_02_01 none (shapeCast _ (extractStridedSlice S8x2048x4096 ![0, 0, 8192] (extf .f32 x bitsLt_bf16_f32) slices_S8x2048x12288_S8x2048x4096_0_0_8192) shapeCasts_S8x2048x4096_S8x2048x16x256) d) transposes_S8x16x256x2048_S8x2048x16x256_0_3_1_2)

/-- The normalised rows. -/
def NO (o : FVec Ideal S8x2048x16x256 .f32) (g : FVec Ideal S256 .f32) : FVec Ideal S8x2048x4096 .bf16 :=
  truncf .bf16 (shapeCast S8x2048x4096 (mulf (mulf (mulf o (broadcastInDim S8x2048x16x256 ![0, 1, 2, 3] bcast_S8x2048x16x1_S8x2048x16x256_0_1_2_3 (Host.rsqrt (addf (Host.divf (broadcastInDim S8x2048x16x1 ![0, 1, 2] bcast_S8x2048x16_S8x2048x16x1_0_1_2 (Host.reduceAdd (mulf o o) (constant S_ .f32 0x00000000#32) reducesTo_S8x2048x16x256_S8x2048x16_d3 h_S_)) (broadcastInDim S8x2048x16x1 ![] bcast_S_S8x2048x16x1 (constant S_ .f32 0x43800000#32))) (broadcastInDim S8x2048x16x1 ![] bcast_S_S8x2048x16x1 (constant S_ .f32 0x3727C5AC#32)))))) (broadcastInDim S8x2048x16x256 ![0, 1, 2, 3] bcast_S1x1x1x256_S8x2048x16x256_0_1_2_3 (broadcastInDim S1x1x1x256 ![3] bcast_S256_S1x1x1x256_3 g))) (broadcastInDim S8x2048x16x256 ![] bcast_S_S8x2048x16x256 (constant S_ .f32 0x3F077F5A#32))) shapeCasts_S8x2048x16x256_S8x2048x4096) bitsLt_bf16_f32

/-- The reference's result is the stages of its arguments. -/
theorem res_eq (m : (ℓ : Loc nD τ sig) → Buf (Elt Ideal) ℓ) (c : Dev nD) :
    res_out0 m c = NO (OV (m (c.tc.loc main_arg0)) (DM (LL (m (c.tc.loc main_arg1))) (PR (EX (SC (m (c.tc.loc main_arg0))))))) (m (c.tc.loc main_arg2)) := by
  unfold res_out0 res_main_v63 NO OV DM LL PR EX MX SC
  rfl

/-- A score of the reference. -/
theorem SC_at (X : FVec Ideal S8x2048x12288 .bf16) (b : Fin 8) (h : Fin 16) (a : Fin 2) (t k : Fin 2048) :
    (SC X (ix5 b h a t k) : EReal)
      = (∑ x : Fin 128, X (ix3 b t ⟨h * 256 + a * 128 + x, by omega⟩) * X (ix3 b k ⟨4096 + (h * 256 + a * 128 + x), by omega⟩) : EReal)
          * Ideal.log (Ideal.ofBits FTy.f32 1073741824#32) := by
  pointwise [SC]

/-- An exponential of the reference. -/
theorem EX_at (x : FVec Ideal S8x16x2x2048x2048 .f32) (b : Fin 8) (h : Fin 16) (a : Fin 2) (t k : Fin 2048) :
    (EX x (ix5 b h a t k) : EReal) = Ideal.exp (x (ix5 b h a t k) - MX x (ix4 b h a t)) := by
  pointwise [EX]

/-- A weight of the reference. -/
theorem PR_at (x : FVec Ideal S8x16x2x2048x2048 .f32) (b : Fin 8) (h : Fin 16) (a : Fin 2) (t k : Fin 2048) :
    (PR x (ix5 b h a t k) : EReal) = Ideal.div (x (ix5 b h a t k)) (∑ j : Fin 2048, x (ix5 b h a t j)) := by
  pointwise [PR]

/-- The reference's factor of the second map. -/
theorem LL_at (l : FVec Ideal S4x128 .f32) (i : S_.Idx) : (LL l i : EReal) = lamOf (fun a j => l (ix2 a j)) := by
  pointwise [LL, lamOf]

/-- A difference of the reference's weights. -/
theorem DM_at (l : FVec Ideal S_ .f32) (p : FVec Ideal S8x16x2x2048x2048 .f32) (b : Fin 8) (h : Fin 16) (t k : Fin 2048) :
    (DM l p (ix4 b h t k) : EReal) = p (ix5 b h 0 t k) - l ix0 * p (ix5 b h 1 t k) := by
  pointwise [DM]

/-- An average of the reference. -/
theorem OV_at (x : FVec Ideal S8x2048x12288 .bf16) (d : FVec Ideal S8x16x2048x2048 .f32) (b : Fin 8) (t : Fin 2048) (h : Fin 16) (e : Fin 256) :
    (OV x d (ix4 b t h e) : EReal) = ∑ k : Fin 2048, x (ix3 b k ⟨8192 + (h * 256 + e), by omega⟩) * d (ix4 b h t k) := by
  pointwise [OV]

/-- A normalised coordinate of the reference. -/
theorem NO_at (o : FVec Ideal S8x2048x16x256 .f32) (g : FVec Ideal S256 .f32) (b : Fin 8) (t : Fin 2048) (h : Fin 16) (e : Fin 256) :
    (NO o g (ix3 b t ⟨h * 256 + e, by omega⟩) : EReal) = normed (fun e => o (ix4 b t h e)) (g (ix1 e)) e := by
  pointwise [NO, normed]

/-- The largest of a row of reals is a real. -/
theorem MX_real (x : FVec Ideal S8x16x2x2048x2048 .f32) (hx : ∀ i, ∃ r : ℝ, x i = (r : EReal)) (j : S8x16x2x2048.Idx) : ∃ r : ℝ, MX x j = (r : EReal) := by
  have hb : (broadcastInDim S8x16x2x2048 ![] bcast_S_S8x16x2x2048 (constant (F := Ideal) S_ .f32 0xFF800000#32) j : EReal) = ⊥ := by
    pointwise
    exact ofBits_neg_inf_f32
  unfold MX
  exact maximumf_real _ _ j hb (reduce_max_real x _ reducesTo_S8x16x2x2048x2048_S8x16x2x2048_d4 (by decide) h_S_ hx (by decide) ofBits_neg_inf_f32 j)

/-- An average of the reference at finite arguments. -/
theorem row_at (X : FVec Ideal S8x2048x12288 .bf16) (l : FVec Ideal S4x128 .f32)
    (hX : ∀ i, X i = ((X i : EReal).toReal : EReal)) (hl : ∀ i, l i = ((l i : EReal).toReal : EReal))
    (b : Fin 8) (t : Fin 2048) (h : Fin 16) (e : Fin 256) :
    (OV X (DM (LL l) (PR (EX (SC X)))) (ix4 b t h e) : EReal)
      = difference (fun b t x => X (ix3 b t x)) (lamOf (fun a j => l (ix2 a j))) b h t e := by
  have hs : ∀ b h a t (k : Fin 2048), (SC X (ix5 b h a t k) : EReal)
      = ((score2 (fun b t x => X (ix3 b t x)) b h a t k * Real.log 2 : ℝ) : EReal) := fun b h a t k => by
    rw [SC_at, EReal.coe_mul, ← score2_eq (X := fun b t x => X (ix3 b t x)) (fun _ _ _ => hX _) b h a t k, log_two]
    exact congrArg (· * _) (Finset.sum_congr rfl fun x _ => mul_comm _ _)
  have hr : ∀ i, ∃ r : ℝ, SC X i = (r : EReal) := fun i => by
    rw [show i = ix5 (i 0) (i 1) (i 2) (i 3) (i 4) from by blk_ext]
    exact ⟨_, hs _ _ _ _ _⟩
  rw [OV_at]
  simp only [DM_at, PR_at, EX_at, LL_at]
  exact softmax_difference (n := 2048) (by norm_num) _ _ _ (fun k => SC X (ix5 b h 0 t k)) (fun k => SC X (ix5 b h 1 t k))
    (fun k => X (ix3 b k ⟨8192 + (h * 256 + e), by omega⟩)) _ _ _ (lamOf_real _ fun a i => hl _) (MX_real _ hr _) (MX_real _ hr _)
    (hs b h 0 t) (hs b h 1 t) (fun k => value2_eq (X := fun b t x => X (ix3 b t x)) (fun _ _ _ => hX _) b h e k)

/-- The reference's result at finite arguments, as an array. -/
theorem res_fun (X : FVec Ideal S8x2048x12288 .bf16) (l : FVec Ideal S4x128 .f32) (g : FVec Ideal S256 .f32)
    (hX : ∀ i, X i = ((X i : EReal).toReal : EReal)) (hl : ∀ i, l i = ((l i : EReal).toReal : EReal)) :
    NO (OV X (DM (LL l) (PR (EX (SC X))))) g
      = (fun i => normed (difference (fun b t x => X (ix3 b t x)) (lamOf (fun a j => l (ix2 a j))) (i 0)
          ⟨(i 2 : ℕ) / 256, by have := (i 2).isLt; show _ < 16; change (i 2 : ℕ) < 4096 at this; omega⟩ (i 1))
          (g (ix1 ⟨(i 2 : ℕ) % 256, Nat.mod_lt _ (by norm_num)⟩)) ⟨(i 2 : ℕ) % 256, Nat.mod_lt _ (by norm_num)⟩ : FVec Ideal S8x2048x4096 .bf16) := by
  funext i
  have h2 : (i 2 : ℕ) < 4096 := (i 2).isLt
  have e := NO_at (OV X (DM (LL l) (PR (EX (SC X))))) g (i 0) (i 1) ⟨(i 2 : ℕ) / 256, by omega⟩ ⟨(i 2 : ℕ) % 256, Nat.mod_lt _ (by norm_num)⟩
  refine Eq.trans (congrArg (NO (OV X (DM (LL l) (PR (EX (SC X))))) g) ?_)
    (e.trans (congrArg (fun o => normed o _ _) (funext fun e => row_at X l hX hl _ _ _ e)))
  funext a
  match a with
  | 0 => rfl
  | 1 => rfl
  | 2 => exact Fin.ext (Nat.div_add_mod' _ _).symm

end Cert.Reference4Ideal.Value
end
-- ==== Proof.Diff.Equal.lean ====
module

public import proofs.«01_k».proof.Defs
public import proofs.«01_k».proof.Proof.Gen.Kernel4
public import proofs.«01_k».proof.Proof.Attn.Finite
public import proofs.«01_k».proof.Proof.Diff.Array
public import proofs.«01_k».proof.Proof.Diff.Reference
public import Idealize.ShloMosaic.Adequacy
public import Idealize.ShloMosaic.Init
public import Idealize.ShloMosaic.Lib.Claim
public import Idealize.ShloMosaic.Lib.Quiescent

/-!
The differential attention's kernel and reference have equal results at finite arguments.
-/

@[expose] public section
noncomputable section
namespace Cert.Diff
open Idealize.ShloMosaic Idealize.SL.Sem

/-- The witnesses of the predicate's stated shape facts. -/
theorem finite_facts : Cert.Pre_finite4.Facts := ⟨by decide, by decide⟩

/-- The pattern of `+∞` in single precision. -/
theorem ofBits_inf_f32 : Ideal.ofBits .f32 0x7F800000#32 = ⊤ := by simp [Ideal.ofBits, Ideal.ieee]

/-- An array in single precision compared below the pattern of infinity throughout is an array of reals. -/
theorem real_of_olt32 {s : Shape} (x inf : FVec Ideal s .f32) (hinf : ∀ i, inf i = Ideal.ofBits .f32 0x7F800000#32)
    (h : cmpf .olt (Host.absf x) inf = fun _ => 1#1) (i : s.Idx) : x i = ((x i : EReal).toReal : EReal) := by
  have hi : Ideal.cmp .olt (max (x i : EReal) (-(x i : EReal))) (inf i : EReal) = 1#1 := congrFun h i
  rw [hinf i, ofBits_inf_f32] at hi
  apply Cert.Attn.real_of_abs_lt
  by_contra hc
  simp [Ideal.cmp, hc] at hi

/-- Arguments of which the predicate holds: the first two are arrays of reals. -/
theorem finite_real (X : FVec Ideal Cert.Pre_finite4.S8x2048x12288 .bf16) (l : FVec Ideal Cert.Pre_finite4.S4x128 .f32) (g : FVec Ideal Cert.Pre_finite4.S256 .f32)
    (h : letI := finite_facts; (Cert.Pre_finite4.fn (F := Ideal) X l g).1 = (fun _ => 1#1) ∧ (Cert.Pre_finite4.fn (F := Ideal) X l g).2 = (fun _ => 1#1)) :
    (∀ i, X i = ((X i : EReal).toReal : EReal)) ∧ ∀ i, l i = ((l i : EReal).toReal : EReal) :=
  ⟨Cert.Attn.real_of_olt X _ (fun _ => rfl) h.1, real_of_olt32 l _ (fun _ => rfl) h.2⟩

end Cert.Diff

namespace Cert.Reference4Ideal.Value
open Idealize.ShloMosaic Idealize.SL.Sem

/-- The reference ends with every counter at zero and its arguments unchanged. -/
theorem frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run Cert.Reference4Ideal.defs _ _).mono (fun r h => ⟨fun c => (h c).2, Idealize.ShloMosaic.sem_eq_zero_of_no_sems (by decide) r.2⟩)
    (run (F := Ideal) m g)

/-- The kernel and its reference end with equal results, at finite arguments. -/
theorem equal : Cert.algebraic_Kernel4Ideal_Reference4Ideal_pre_finite4 (hKernel4Ideal := Cert.Kernel4Ideal.Gen.facts)
    (hReference4Ideal := Cert.Reference4Ideal.Gen.facts) (hPre_finite4 := Cert.Diff.finite_facts) := by
  intro m g m' g' hpre hag
  refine ⟨fun c => (Cert.Kernel4Ideal.Gen.dats m 0 c).arrAt 5 Cert.Kernel4Ideal.cfg0.N, ?_, ?_⟩
  · exact Cert.Kernel4Ideal.Value.run_blocks m g
  · refine (θ_run Cert.Reference4Ideal.defs _ _).mono (fun r h c => ⟨(h c).1.trans ?_, (h c).2⟩) (run (F := Ideal) m' g')
    obtain ⟨hX, hl⟩ := Cert.Diff.finite_real _ _ _ (hpre c)
    refine Eq.trans ?_ (Cert.Kernel4Ideal.Value.final m c (fun b t x => hX _)).symm
    refine (res_eq m' c).trans ?_
    rw [(hag c).1, (hag c).2.1, (hag c).2.2]
    exact res_fun _ _ _ hX hl

end Cert.Reference4Ideal.Value
end
-- ==== Proof.Proj.Recurrent.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.Covers
public import Idealize.ShloMosaic.Lib.Claim
public import Idealize.ShloMosaic.Lib.Quiescent

/-!
A projection of the recurrent layer: kernel and reference agree.
-/

@[expose] public section
set_option maxRecDepth 16384
noncomputable section
namespace Cert.Kernel5Ideal.Value
open Cert.Kernel5Ideal Cert.Kernel5Ideal.Gen Idealize.ShloMosaic Idealize.ShloMosaic.TcCoe Idealize.SL.Sem
open Idealize.ShloMosaic.Pipeline (Dat)
variable (m : (ℓ : Loc nD τ sig) → Buf (Elt Ideal) ℓ)

/-- The reference's result, from its arguments. -/
abbrev REF (X0 : FVec Ideal S16384x4096 .bf16) (X1 : FVec Ideal S4096x4096 .bf16) : FVec Ideal S16384x4096 .f32 :=
  Host.dotGeneral Cert.Reference5Ideal.dot_S16384x4096_S4096x4096_S16384x4096_1_0_0_1_n_n none (extf .f32 X0 Cert.Reference5Ideal.Gen.bitsLt_bf16_f32) (extf .f32 X1 Cert.Reference5Ideal.Gen.bitsLt_bf16_f32)

/-- The windows' block indices at every grid point. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

/-- The output's blocks tile its array. -/
theorem covers : (cfg0.win 2).Covers :=
  (cfg0.win 2).covers_of_index_surj rfl (by decide) fun β => by
    have h0 : (β 0 : ℕ) < 16 := (β 0).isLt
    have h1 : (β 1 : ℕ) < 8 := (β 1).isLt
    refine ⟨⟨(β 0 : ℕ) * 8 + (β 1 : ℕ), by show _ < 128; omega⟩, fun a => ?_⟩
    refine (congrFun (idx ⟨(β 0 : ℕ) * 8 + (β 1 : ℕ), by show _ < 128; omega⟩).2.2 a).trans ?_
    match a with
    | 0 => show ((β 0 : ℕ) * 8 + (β 1 : ℕ)) / 8 = (β 0 : ℕ); omega
    | 1 => show ((β 0 : ℕ) * 8 + (β 1 : ℕ)) % 8 = (β 1 : ℕ); omega

/-- What a grid point stores is its block of the reference's result. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array of the recurrent layer's projection after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ covers fun t _ y => ?_
  blk_simp
  rw [after0_2]
  frame_out
  exact point m c t y

end Cert.Kernel5Ideal.Value

namespace Cert.Reference5Ideal.Value
open Idealize.ShloMosaic Idealize.SL.Sem

/-- The reference of the recurrent layer's projection ends with every counter at zero and its arguments unchanged. -/
theorem frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2, Idealize.ShloMosaic.sem_eq_zero_of_no_sems (by decide) r.2⟩)
    (Cert.Reference5Ideal.Value.run (F := Ideal) m g)

/-- The kernel of the recurrent layer's projection and its reference end with equal results. -/
theorem equal : Cert.algebraic_Kernel5Ideal_Reference5Ideal (hKernel5Ideal := Cert.Kernel5Ideal.Gen.facts) (hReference5Ideal := Cert.Reference5Ideal.Gen.facts) := by
  intro m g m' g' hpre hag
  refine ⟨fun c => (Cert.Kernel5Ideal.Gen.dats m 0 c).arrAt 2 Cert.Kernel5Ideal.cfg0.N, ?_, ?_⟩
  · exact Cert.Kernel5Ideal.Value.run_blocks m g
  · refine (θ_run Cert.Reference5Ideal.defs _ _).mono (fun r h c => ⟨(h c).1.trans ?_, (h c).2⟩) (Cert.Reference5Ideal.Value.run (F := Ideal) m' g')
    refine Eq.trans ?_ (Cert.Kernel5Ideal.Value.final m c).symm
    rw [(hag c).1, (hag c).2]

end Cert.Reference5Ideal.Value
end
-- ==== Proof.Proj.Output.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.Covers
public import Idealize.ShloMosaic.Lib.Claim
public import Idealize.ShloMosaic.Lib.Quiescent

/-!
The output projection of the recurrent and of the differential-attention layer: kernel and reference agree.
-/

@[expose] public section
set_option maxRecDepth 16384
noncomputable section
namespace Cert.Kernel6Ideal.Value
open Cert.Kernel6Ideal Cert.Kernel6Ideal.Gen Idealize.ShloMosaic Idealize.ShloMosaic.TcCoe Idealize.SL.Sem
open Idealize.ShloMosaic.Pipeline (Dat)
variable (m : (ℓ : Loc nD τ sig) → Buf (Elt Ideal) ℓ)

/-- The reference's result, from its arguments. -/
abbrev REF (X0 : FVec Ideal S16384x4096 .bf16) (X1 : FVec Ideal S4096x4096 .bf16) (X2 : FVec Ideal S16384x4096 .f32) : FVec Ideal S16384x4096 .f32 :=
  addf X2 (Host.dotGeneral Cert.Reference6Ideal.dot_S16384x4096_S4096x4096_S16384x4096_1_0_0_1_n_n none (extf .f32 X0 Cert.Reference6Ideal.Gen.bitsLt_bf16_f32) (extf .f32 X1 Cert.Reference6Ideal.Gen.bitsLt_bf16_f32))

/-- The windows' block indices at every grid point. -/
theorem idx : ∀ t : Fin cfg0.N, win0_0.index t = ![t.val / 8, 0] ∧ win0_1.index t = ![0, t.val % 8] ∧ win0_2.index t = ![t.val / 8, t.val % 8] ∧ win0_3.index t = ![t.val / 8, t.val % 8] :=
  (by decide +kernel : ∀ t : Fin grid0.N, _)

/-- The output's blocks tile its array. -/
theorem covers : (cfg0.win 3).Covers :=
  (cfg0.win 3).covers_of_index_surj rfl (by decide) fun β => by
    have h0 : (β 0 : ℕ) < 16 := (β 0).isLt
    have h1 : (β 1 : ℕ) < 8 := (β 1).isLt
    refine ⟨⟨(β 0 : ℕ) * 8 + (β 1 : ℕ), by show _ < 128; omega⟩, fun a => ?_⟩
    refine (congrFun (idx ⟨(β 0 : ℕ) * 8 + (β 1 : ℕ), by show _ < 128; omega⟩).2.2.2 a).trans ?_
    match a with
    | 0 => show ((β 0 : ℕ) * 8 + (β 1 : ℕ)) / 8 = (β 0 : ℕ); omega
    | 1 => show ((β 0 : ℕ) * 8 + (β 1 : ℕ)) % 8 = (β 1 : ℕ); omega

/-- What a grid point stores is its block of the reference's result. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The array of the output projection after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ covers fun t _ y => ?_
  blk_simp
  rw [after0_3]
  frame_out
  exact point m c t y

end Cert.Kernel6Ideal.Value

namespace Cert.Reference6Ideal.Value
open Idealize.ShloMosaic Idealize.SL.Sem

/-- The reference of the output projection ends with every counter at zero and its arguments unchanged. -/
theorem frame (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run Cert.Reference6Ideal.defs _ _).mono (fun r h => ⟨fun c => (h c).2, Idealize.ShloMosaic.sem_eq_zero_of_no_sems (by decide) r.2⟩)
    (Cert.Reference6Ideal.Value.run (F := Ideal) m g)

/-- The kernel of the output projection and its reference end with equal results. -/
theorem equal : Cert.algebraic_Kernel6Ideal_Reference6Ideal (hKernel6Ideal := Cert.Kernel6Ideal.Gen.facts) (hReference6Ideal := Cert.Reference6Ideal.Gen.facts) := by
  intro m g m' g' hpre hag
  refine ⟨fun c => (Cert.Kernel6Ideal.Gen.dats m 0 c).arrAt 3 Cert.Kernel6Ideal.cfg0.N, ?_, ?_⟩
  · exact Cert.Kernel6Ideal.Value.run_blocks m g
  · refine (θ_run Cert.Reference6Ideal.defs _ _).mono (fun r h c => ⟨(h c).1.trans ?_, (h c).2⟩) (Cert.Reference6Ideal.Value.run (F := Ideal) m' g')
    refine Eq.trans ?_ (Cert.Kernel6Ideal.Value.final m c).symm
    rw [(hag c).1, (hag c).2.1, (hag c).2.2]

end Cert.Reference6Ideal.Value
end
-- ==== Proof.Proj.LatentOutput.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.Covers
public import Idealize.ShloMosaic.Lib.Claim
public import Idealize.ShloMosaic.Lib.Quiescent

/-!
The output projection of the latent-attention layer: kernel and reference agree.
-/

@[expose] public section
set_option maxRecDepth 16384
noncomputable section
namespace Cert.Kernel7Ideal.Value
open Cert.Kernel7Ideal Cert.Kernel7Ideal.Gen Idealize.ShloMosaic Idealize.ShloMosaic.TcCoe Idealize.SL.Sem
open Idealize.ShloMosaic.Pipeline (Dat)
variable (m : (ℓ : Loc nD τ sig) → Buf (Elt Ideal) ℓ)

/-- The reference's result, from its arguments. -/
abbrev REF (X0 : FVec Ideal S16384x8192 .bf16) (X1 : FVec Ideal S8192x4096 .bf16) (X2 : FVec Ideal S16384x4096 .f32) : FVec Ideal S16384x4096 .f32 :=
  addf X2 (Host.dotGeneral Cert.Reference7Ideal.dot_S16384x8192_S8192x4096_S16384x4096_1_0_0_1_n_n none (extf .f32 X0 Cert.Reference7Ideal.Gen.bitsLt_bf16_f32) (extf .f32 X1 Cert.Reference7Ideal.Gen.bitsLt_bf16_f32))

/-- The windows' block indices at every grid point. -/
theorem idx : ∀ t : Fin cfg0.N, win0_0.index t = ![t.val / 8, 0] ∧ win0_1.index t = ![0, t.val % 8] ∧ win0_2.index t = ![t.val / 8, t.val % 8] ∧ win0_3.index t = ![t.val / 8, t.val % 8] :=
  (by decide +kernel : ∀ t : Fin grid0.N, _)

/-- The output's blocks tile its array. -/
theorem covers : (cfg0.win 3).Covers :=
  (cfg0.win 3).covers_of_index_surj rfl (by decide) fun β => by
    have h0 : (β 0 : ℕ) < 32 := (β 0).isLt
    have h1 : (β 1 : ℕ) < 8 := (β 1).isLt
    refine ⟨⟨(β 0 : ℕ) * 8 + (β 1 : ℕ), by show _ < 256; omega⟩, fun a => ?_⟩
    refine (congrFun (idx ⟨(β 0 : ℕ) * 8 + (β 1 : ℕ), by show _ < 256; omega⟩).2.2.2 a).trans ?_
    match a with
    | 0 => show ((β 0 : ℕ) * 8 + (β 1 : ℕ)) / 8 = (β 0 : ℕ); omega
    | 1 => show ((β 0 : ℕ) * 8 + (β 1 : ℕ)) % 8 = (β 1 : ℕ); omega

/-- What a grid point stores is its block of the reference's result. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The array of the latent attention's output projection after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ covers fun t _ y => ?_
  blk_simp
  rw [after0_3]
  frame_out
  exact point m c t y

end Cert.Kernel7Ideal.Value

namespace Cert.Reference7Ideal.Value
open Idealize.ShloMosaic Idealize.SL.Sem

/-- The reference of the latent attention's output projection ends with every counter at zero and its arguments unchanged. -/
theorem frame (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run Cert.Reference7Ideal.defs _ _).mono (fun r h => ⟨fun c => (h c).2, Idealize.ShloMosaic.sem_eq_zero_of_no_sems (by decide) r.2⟩)
    (Cert.Reference7Ideal.Value.run (F := Ideal) m g)

/-- The kernel of the latent attention's output projection and its reference end with equal results. -/
theorem equal : Cert.algebraic_Kernel7Ideal_Reference7Ideal (hKernel7Ideal := Cert.Kernel7Ideal.Gen.facts) (hReference7Ideal := Cert.Reference7Ideal.Gen.facts) := by
  intro m g m' g' hpre hag
  refine ⟨fun c => (Cert.Kernel7Ideal.Gen.dats m 0 c).arrAt 3 Cert.Kernel7Ideal.cfg0.N, ?_, ?_⟩
  · exact Cert.Kernel7Ideal.Value.run_blocks m g
  · refine (θ_run Cert.Reference7Ideal.defs _ _).mono (fun r h c => ⟨(h c).1.trans ?_, (h c).2⟩) (Cert.Reference7Ideal.Value.run (F := Ideal) m' g')
    refine Eq.trans ?_ (Cert.Kernel7Ideal.Value.final m c).symm
    rw [(hag c).1, (hag c).2.1, (hag c).2.2]

end Cert.Reference7Ideal.Value
end
-- ==== Proof.Norm.Final.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.Covers
public import Idealize.ShloMosaic.Lib.Claim
public import Idealize.ShloMosaic.Lib.Quiescent

/-!
The final normalisation: kernel and reference agree.
-/

@[expose] public section
set_option maxRecDepth 16384
noncomputable section
namespace Cert.Kernel8Ideal.Value
open Cert.Kernel8Ideal Cert.Kernel8Ideal.Gen Idealize.ShloMosaic Idealize.ShloMosaic.TcCoe Idealize.SL.Sem
open Idealize.ShloMosaic.Pipeline (Dat)
variable (m : (ℓ : Loc nD τ sig) → Buf (Elt Ideal) ℓ)

/-- The reference's result, from its arguments. -/
abbrev REF (X0 : FVec Ideal S16384x4096 .f32) (X1 : FVec Ideal S4096 .f32) : FVec Ideal S16384x4096 .f32 :=
  mulf (mulf X0 (broadcastInDim Cert.Reference8Ideal.S16384x4096 ![0, 1] Cert.Reference8Ideal.Gen.bcast_S16384x1_S16384x4096_0_1 (Host.rsqrt (addf (Host.divf (broadcastInDim Cert.Reference8Ideal.S16384x1 ![0] Cert.Reference8Ideal.Gen.bcast_S16384_S16384x1_0 (Host.reduceAdd (mulf X0 X0) (constant Cert.Reference8Ideal.S_ .f32 0x00000000#32) Cert.Reference8Ideal.Gen.reducesTo_S16384x4096_S16384_d1 Cert.Reference8Ideal.Gen.h_S_)) (broadcastInDim Cert.Reference8Ideal.S16384x1 ![] Cert.Reference8Ideal.Gen.bcast_S_S16384x1 (constant Cert.Reference8Ideal.S_ .f32 0x45800000#32))) (broadcastInDim Cert.Reference8Ideal.S16384x1 ![] Cert.Reference8Ideal.Gen.bcast_S_S16384x1 (constant Cert.Reference8Ideal.S_ .f32 0x358637BD#32)))))) (broadcastInDim Cert.Reference8Ideal.S16384x4096 ![0, 1] Cert.Reference8Ideal.Gen.bcast_S1x4096_S16384x4096_0_1 (broadcastInDim Cert.Reference8Ideal.S1x4096 ![1] Cert.Reference8Ideal.Gen.bcast_S4096_S1x4096_1 X1))

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, _)

/-- The output's blocks tile its array. -/
theorem covers : (cfg0.win 2).Covers :=
  (cfg0.win 2).covers_of_index_surj rfl (by decide) fun β => by
    have h0 : (β 0 : ℕ) < 32 := (β 0).isLt
    have h1 : (β 1 : ℕ) < 1 := (β 1).isLt
    refine ⟨⟨(β 0 : ℕ), by show _ < 32; omega⟩, fun a => ?_⟩
    refine (congrFun (idx ⟨(β 0 : ℕ), by show _ < 32; omega⟩).2.2 a).trans ?_
    match a with
    | 0 => rfl
    | 1 => show 0 = (β 1 : ℕ); omega

/-- What a grid point stores is its block of the reference's result. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array of the final normalisation after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ covers fun t _ y => ?_
  blk_simp
  rw [after0_2]
  frame_out
  exact point m c t y

end Cert.Kernel8Ideal.Value

namespace Cert.Reference8Ideal.Value
open Idealize.ShloMosaic Idealize.SL.Sem

/-- The reference of the final normalisation ends with every counter at zero and its arguments unchanged. -/
theorem frame (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run Cert.Reference8Ideal.defs _ _).mono (fun r h => ⟨fun c => (h c).2, Idealize.ShloMosaic.sem_eq_zero_of_no_sems (by decide) r.2⟩)
    (Cert.Reference8Ideal.Value.run (F := Ideal) m g)

/-- The kernel of the final normalisation and its reference end with equal results. -/
theorem equal : Cert.algebraic_Kernel8Ideal_Reference8Ideal (hKernel8Ideal := Cert.Kernel8Ideal.Gen.facts) (hReference8Ideal := Cert.Reference8Ideal.Gen.facts) := by
  intro m g m' g' hpre hag
  refine ⟨fun c => (Cert.Kernel8Ideal.Gen.dats m 0 c).arrAt 2 Cert.Kernel8Ideal.cfg0.N, ?_, ?_⟩
  · exact Cert.Kernel8Ideal.Value.run_blocks m g
  · refine (θ_run Cert.Reference8Ideal.defs _ _).mono (fun r h c => ⟨(h c).1.trans ?_, (h c).2⟩) (Cert.Reference8Ideal.Value.run (F := Ideal) m' g')
    refine Eq.trans ?_ (Cert.Kernel8Ideal.Value.final m c).symm
    rw [(hag c).1, (hag c).2]

end Cert.Reference8Ideal.Value
end
-- ==== Proof.Rope.Spec.lean ====
module

public import proofs.«01_k».proof.Proof.Attn.Online
public import Idealize.ShloMosaic.Lib.Pipeline.ValueKit

/-!
The rotation of the first `2 n` of 128 coordinates by given cosines and sines, and its form with three tables and two cyclic shifts.
-/

@[expose] public section
noncomputable section
namespace Cert.Rope
open Idealize.ShloMosaic

/-- The first `2 n` coordinates turned by the cosines `c` and sines `s`, the others as they are. -/
def turned (n : ℕ) (hn : 2 * n ≤ 128) (A : Fin 128 → EReal) (c s : Fin n → EReal) (x : Fin 128) : EReal :=
  if h : (x : ℕ) < n then A x * c ⟨x, h⟩ - A ⟨x + n, by omega⟩ * s ⟨x, h⟩
  else if h' : (x : ℕ) < 2 * n then A x * c ⟨x - n, by omega⟩ + A ⟨x - n, by omega⟩ * s ⟨x - n, by omega⟩
  else A x

/-- The turned coordinate as three products: the coordinate with cosines and ones, its shift to the left by `n` with negated sines and zeros, its shift
    to the right by `n` with zeros, sines and zeros. -/
theorem turned_tables {n : ℕ} (hn : 2 * n ≤ 128) (A : Fin 128 → EReal) (c s : Fin n → EReal) (x l r : Fin 128) (C S T : EReal)
    (hl : (l : ℕ) = (x + n) % 128) (hr : (r : ℕ) = (x + 128 - n) % 128)
    (hC : C = if h : (x : ℕ) < n then c ⟨x, h⟩ else if h' : (x : ℕ) - n < n then c ⟨x - n, h'⟩ else 1)
    (hS : S = if h : (x : ℕ) < n then -s ⟨x, h⟩ else 0)
    (hT : T = if h : (x : ℕ) < n then 0 else if h' : (x : ℕ) - n < n then s ⟨x - n, h'⟩ else 0) :
    A x * C + A l * S + A r * T = turned n hn A c s x := by
  have hx := x.isLt
  rw [turned, hC, hS, hT]
  by_cases h : (x : ℕ) < n
  · rw [dif_pos h, dif_pos h, dif_pos h, dif_pos h, mul_zero, add_zero, mul_neg, ← sub_eq_add_neg]
    have e : l = ⟨x + n, by omega⟩ := Fin.ext (hl.trans (Nat.mod_eq_of_lt (by omega)))
    rw [e]
  · rw [dif_neg h, dif_neg h, dif_neg h, dif_neg h, mul_zero, add_zero]
    by_cases h' : (x : ℕ) - n < n
    · have e : r = ⟨x - n, by omega⟩ := Fin.ext (by rw [hr]; show _ = (x : ℕ) - n; omega)
      rw [dif_pos h', dif_pos h', dif_pos (by omega : (x : ℕ) < 2 * n), e]
    · rw [dif_neg h', dif_neg h', dif_neg (by omega : ¬(x : ℕ) < 2 * n), mul_zero, add_zero, mul_one]

end Cert.Rope
end
-- ==== Proof.Rope.DiffQkvReference.lean ====
module

public import proofs.«01_k».proof.Proof.Gen.Reference9Ideal.Run
public import Idealize.ShloMosaic.Lib.Pipeline.ValueKit
public import proofs.«01_k».proof.Proof.Rope.Spec

/-!
The reference of the differential attention's projection: the product, the scaled queries and the keys turned, the values.
-/

@[expose] public section
set_option maxRecDepth 16384
noncomputable section
namespace Cert.Reference9Ideal.Value
open Cert.Reference9Ideal Cert.Reference9Ideal.Gen Idealize.ShloMosaic Idealize.ShloMosaic.TcCoe Idealize.SL.Sem
open Cert.Rope

/-- The angles. -/
def ANG : FVec Ideal S2048x16 .f32 := (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x48F42400#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32))))))))

/-- Their cosines. -/
def COS : FVec Ideal S2048x16 .f32 := Host.cos ANG

/-- Their sines. -/
def SIN : FVec Ideal S2048x16 .f32 := Host.sin ANG

/-- The product. -/
def MM (X : FVec Ideal S16384x4096 .bf16) (W : FVec Ideal S4096x12288 .bf16) : FVec Ideal S16384x12288 .f32 :=
  (Host.dotGeneral dot_S16384x4096_S4096x12288_S16384x12288_1_0_0_1_n_n none (extf .f32 X bitsLt_bf16_f32) (extf .f32 W bitsLt_bf16_f32))

/-- The scaled queries, by batch, position, head and coordinate. -/
def QQ (p : FVec Ideal S16384x12288 .f32) : FVec Ideal S8x2048x32x128 .f32 :=
  (shapeCast S8x2048x32x128 (mulf (extractStridedSlice S16384x4096 ![0, 0] p slices_S16384x12288_S16384x4096_0_0) (broadcastInDim S16384x4096 ![] bcast_S_S16384x4096 (constant S_ .f32 0x3E0293EE#32))) shapeCasts_S16384x4096_S8x2048x32x128)

/-- The keys, by batch, position, head and coordinate. -/
def KK (p : FVec Ideal S16384x12288 .f32) : FVec Ideal S8x2048x32x128 .f32 :=
  (shapeCast S8x2048x32x128 (extractStridedSlice S16384x4096 ![0, 4096] p slices_S16384x12288_S16384x4096_0_4096) shapeCasts_S16384x4096_S8x2048x32x128)

/-- The turned coordinates. -/
def TU (x : FVec Ideal S8x2048x32x128 .f32) : FVec Ideal S8x2048x32x128 .f32 :=
  ((concatenate S8x2048x32x128 3 [⟨S8x2048x32x16, ((subf (mulf (extractStridedSlice S8x2048x32x16 ![0, 0, 0, 0] x slices_S8x2048x32x128_S8x2048x32x16_0_0_0_0) (broadcastInDim S8x2048x32x16 ![0, 1, 2, 3] bcast_S1x2048x1x16_S8x2048x32x16_0_1_2_3 (broadcastInDim S1x2048x1x16 ![1, 3] bcast_S2048x16_S1x2048x1x16_1_3 COS))) (mulf (extractStridedSlice S8x2048x32x16 ![0, 0, 0, 16] x slices_S8x2048x32x128_S8x2048x32x16_0_0_0_16) (broadcastInDim S8x2048x32x16 ![0, 1, 2, 3] bcast_S1x2048x1x16_S8x2048x32x16_0_1_2_3 (broadcastInDim S1x2048x1x16 ![1, 3] bcast_S2048x16_S1x2048x1x16_1_3 SIN)))) : (⟨S8x2048x32x16, .f32⟩ : BufTy).Contents (Elt Ideal))⟩, ⟨S8x2048x32x16, ((addf (mulf (extractStridedSlice S8x2048x32x16 ![0, 0, 0, 16] x slices_S8x2048x32x128_S8x2048x32x16_0_0_0_16) (broadcastInDim S8x2048x32x16 ![0, 1, 2, 3] bcast_S1x2048x1x16_S8x2048x32x16_0_1_2_3 (broadcastInDim S1x2048x1x16 ![1, 3] bcast_S2048x16_S1x2048x1x16_1_3 COS))) (mulf (extractStridedSlice S8x2048x32x16 ![0, 0, 0, 0] x slices_S8x2048x32x128_S8x2048x32x16_0_0_0_0) (broadcastInDim S8x2048x32x16 ![0, 1, 2, 3] bcast_S1x2048x1x16_S8x2048x32x16_0_1_2_3 (broadcastInDim S1x2048x1x16 ![1, 3] bcast_S2048x16_S1x2048x1x16_1_3 SIN)))) : (⟨S8x2048x32x16, .f32⟩ : BufTy).Contents (Elt Ideal))⟩, ⟨S8x2048x32x96, ((extractStridedSlice S8x2048x32x96 ![0, 0, 0, 32] x slices_S8x2048x32x128_S8x2048x32x96_0_0_0_32) : (⟨S8x2048x32x96, .f32⟩ : BufTy).Contents (Elt Ideal))⟩] concatenates_S8x2048x32x16_S8x2048x32x16_S8x2048x32x96_S8x2048x32x128_d3 : (⟨S8x2048x32x128, .f32⟩ : BufTy).Contents (Elt Ideal)))

/-- The heads of a row side by side. -/
def FL (x : FVec Ideal S8x2048x32x128 .f32) : FVec Ideal S16384x4096 .f32 :=
  shapeCast S16384x4096 x shapeCasts_S8x2048x32x128_S16384x4096

/-- Queries, keys and values side by side. -/
def FU (a b : FVec Ideal S16384x4096 .f32) (p : FVec Ideal S16384x12288 .f32) : FVec Ideal S16384x12288 .bf16 :=
  truncf .bf16 ((concatenate S16384x12288 1 [⟨S16384x4096, a⟩, ⟨S16384x4096, b⟩, ⟨S16384x4096, ((extractStridedSlice S16384x4096 ![0, 8192] p slices_S16384x12288_S16384x4096_0_8192) : (⟨S16384x4096, .f32⟩ : BufTy).Contents (Elt Ideal))⟩] concatenates_S16384x4096_S16384x4096_S16384x4096_S16384x12288_d1 : (⟨S16384x12288, .f32⟩ : BufTy).Contents (Elt Ideal))) bitsLt_bf16_f32

/-- The reference's result is the stages of its arguments. -/
theorem res_eq (m : (ℓ : Loc nD τ sig) → Buf (Elt Ideal) ℓ) (c : Dev nD) :
    res_out0 m c = FU (FL (TU (QQ (MM (m (c.tc.loc main_arg0)) (m (c.tc.loc main_arg1)))))) (FL (TU (KK (MM (m (c.tc.loc main_arg0)) (m (c.tc.loc main_arg1))))))
      (MM (m (c.tc.loc main_arg0)) (m (c.tc.loc main_arg1))) := by
  unfold res_out0 res_main_v83 FU FL TU QQ KK MM COS SIN ANG
  rfl

/-- An element of the product. -/
def prod (X : FVec Ideal S16384x4096 .bf16) (W : FVec Ideal S4096x12288 .bf16) (r : Fin 16384) (e : Fin 12288) : EReal :=
  ∑ k : Fin 4096, (X (ix2 r k) : EReal) * W (ix2 k e)

/-- Coordinate `y` of head `g` of row `r`: of 32 queries, then 32 keys, then 32 values. -/
def head (X : FVec Ideal S16384x4096 .bf16) (W : FVec Ideal S4096x12288 .bf16) (r : Fin 16384) (g : Fin 96) (y : Fin 128) : EReal :=
  if (g : ℕ) < 32 then
    turned 16 (by norm_num) (fun z => prod X W r ⟨g * 128 + z, by omega⟩ * Ideal.ofBits .f32 0x3E0293EE#32) (fun i => COS (ix2 ⟨r % 2048, Nat.mod_lt _ (by norm_num)⟩ i))
      (fun i => SIN (ix2 ⟨r % 2048, Nat.mod_lt _ (by norm_num)⟩ i)) y
  else if (g : ℕ) < 64 then
    turned 16 (by norm_num) (fun z => prod X W r ⟨g * 128 + z, by omega⟩) (fun i => COS (ix2 ⟨r % 2048, Nat.mod_lt _ (by norm_num)⟩ i))
      (fun i => SIN (ix2 ⟨r % 2048, Nat.mod_lt _ (by norm_num)⟩ i)) y
  else prod X W r ⟨g * 128 + y, by omega⟩

/-- The product read. -/
theorem MM_at (X : FVec Ideal S16384x4096 .bf16) (W : FVec Ideal S4096x12288 .bf16) (r : Fin 16384) (e : Fin 12288) :
    (MM X W (ix2 r e) : EReal) = prod X W r e := by
  pointwise [MM, prod]

/-- The queries read. -/
theorem QQ_at (p : FVec Ideal S16384x12288 .f32) (b : Fin 8) (t : Fin 2048) (h : Fin 32) (y : Fin 128) :
    (QQ p (ix4 b t h y) : EReal) = (p (ix2 ⟨b * 2048 + t, by omega⟩ ⟨h * 128 + y, by omega⟩) : EReal) * Ideal.ofBits .f32 0x3E0293EE#32 := by
  pointwise [QQ]

/-- The keys read. -/
theorem KK_at (p : FVec Ideal S16384x12288 .f32) (b : Fin 8) (t : Fin 2048) (h : Fin 32) (y : Fin 128) :
    (KK p (ix4 b t h y) : EReal) = p (ix2 ⟨b * 2048 + t, by omega⟩ ⟨4096 + (h * 128 + y), by omega⟩) := by
  pointwise [KK]

/-- The turned coordinates read. -/
theorem TU_at (x : FVec Ideal S8x2048x32x128 .f32) (b : Fin 8) (t : Fin 2048) (h : Fin 32) (y : Fin 128) :
    (TU x (ix4 b t h y) : EReal) = turned 16 (by norm_num) (fun z => x (ix4 b t h z)) (fun i => COS (ix2 t i)) (fun i => SIN (ix2 t i)) y := by
  pointwise [TU, turned]
  blk_point []
  all_goals (exfalso; omega)

/-- The heads of a row read. -/
theorem FL_at (x : FVec Ideal S8x2048x32x128 .f32) (b : Fin 8) (t : Fin 2048) (h : Fin 32) (y : Fin 128) :
    (FL x (ix2 ⟨b * 2048 + t, by omega⟩ ⟨h * 128 + y, by omega⟩) : EReal) = x (ix4 b t h y) := by
  pointwise [FL]

/-- The result read. -/
theorem FU_at (a b : FVec Ideal S16384x4096 .f32) (p : FVec Ideal S16384x12288 .f32) (r : Fin 16384) (e : Fin 12288) :
    (FU a b p (ix2 r e) : EReal)
      = if h : (e : ℕ) < 4096 then a (ix2 r ⟨e, h⟩) else if h' : (e : ℕ) - 4096 < 4096 then b (ix2 r ⟨e - 4096, h'⟩) else p (ix2 r e) := by
  pointwise [FU]
  blk_point []

/-- The reference's result is the heads. -/
theorem res_at (X : FVec Ideal S16384x4096 .bf16) (W : FVec Ideal S4096x12288 .bf16) (b : Fin 8) (t : Fin 2048) (g : Fin 96) (y : Fin 128) :
    (FU (FL (TU (QQ (MM X W)))) (FL (TU (KK (MM X W)))) (MM X W) (ix2 ⟨b * 2048 + t, by omega⟩ ⟨g * 128 + y, by omega⟩) : EReal)
      = head X W ⟨b * 2048 + t, by omega⟩ g y := by
  have ht : (⟨(b * 2048 + t : ℕ) % 2048, Nat.mod_lt _ (by norm_num)⟩ : Fin 2048) = t := Fin.ext (by show (b * 2048 + t : ℕ) % 2048 = t; omega)
  have hy := y.isLt
  rw [FU_at, head]
  by_cases h1 : (g : ℕ) < 32
  · rw [if_pos h1]
    refine (dif_pos (show (g : ℕ) * 128 + y < 4096 by omega)).trans ?_
    refine (FL_at _ b t ⟨g, h1⟩ y).trans ?_
    rw [TU_at]
    simp only [QQ_at, MM_at, ht]
  · rw [if_neg h1]
    refine (dif_neg (show ¬(g : ℕ) * 128 + y < 4096 by omega)).trans ?_
    by_cases h2 : (g : ℕ) < 64
    · rw [if_pos h2]
      refine (dif_pos (show (g : ℕ) * 128 + y - 4096 < 4096 by omega)).trans ?_
      refine Eq.trans (congrArg (fun z => (FL (TU (KK (MM X W))) (ix2 ⟨b * 2048 + t, by omega⟩ z) : EReal)) ?_) ((FL_at _ b t ⟨g - 32, by omega⟩ y).trans ?_)
      · exact Fin.ext (by show (g : ℕ) * 128 + y - 4096 = (g - 32) * 128 + y; omega)
      · rw [TU_at]
        simp only [KK_at, MM_at, ht]
        refine congrArg (fun f => turned 16 _ f _ _ y) (funext fun z => congrArg (prod X W _) (Fin.ext ?_))
        show 4096 + (((g : ℕ) - 32) * 128 + z) = g * 128 + z
        omega
    · rw [if_neg h2]
      refine (dif_neg (show ¬(g : ℕ) * 128 + y - 4096 < 4096 by omega)).trans ?_
      exact MM_at X W _ _

end Cert.Reference9Ideal.Value
end
-- ==== Proof.Rope.DiffQkv.lean ====
module

public import proofs.«01_k».proof.Defs
public import proofs.«01_k».proof.Proof.Gen.Kernel9Ideal.Value
public import proofs.«01_k».proof.Proof.Rope.DiffQkvReference
public import Idealize.ShloMosaic.Lib.Pipeline.Covers
public import Idealize.ShloMosaic.Lib.Claim
public import Idealize.ShloMosaic.Lib.StableHlo.RunRead
public import Idealize.ShloMosaic.Lib.Quiescent

/-!
The differential attention's projection to queries, keys and values with its rotation: kernel and reference agree.
-/

@[expose] public section
set_option maxRecDepth 16384
noncomputable section
namespace Cert.Kernel9Ideal.Value
open Cert.Kernel9Ideal Cert.Kernel9Ideal.Gen Idealize.ShloMosaic Idealize.ShloMosaic.TcCoe Idealize.SL.Sem
open Idealize.ShloMosaic.Pipeline (Dat)
open Cert.Rope
open Cert.Reference9Ideal.Value (COS SIN ANG prod head)
variable (m : (ℓ : Loc nD τ sig) → Buf (Elt Ideal) ℓ)

/-- The windows' block indices at every grid point, and its column block. -/
theorem idx : ∀ t : Fin cfg0.N, win0_0.index t = ![t.val / 24, 0] ∧ win0_1.index t = ![0, t.val % 24] ∧ win0_2.index t = ![t.val / 24 % 2, 0]
    ∧ win0_3.index t = ![t.val / 24 % 2, 0] ∧ win0_4.index t = ![t.val / 24 % 2, 0] ∧ win0_5.index t = ![t.val / 24, t.val % 24] :=
  (by decide +kernel : ∀ t : Fin grid0.N, _)

/-- A grid point's column block. -/
theorem column : ∀ t : Fin cfg0.N, (grid0.coords t 1).val = t.val % 24 :=
  (by decide +kernel : ∀ t : Fin grid0.N, _)

/-- The output's blocks tile its array. -/
theorem covers : (cfg0.win 5).Covers :=
  (cfg0.win 5).covers_of_index_surj rfl (by decide) fun β => by
    have h0 : (β 0 : ℕ) < 16 := (β 0).isLt
    have h1 : (β 1 : ℕ) < 24 := (β 1).isLt
    refine ⟨⟨(β 0 : ℕ) * 24 + (β 1 : ℕ), by show _ < 384; omega⟩, fun a => ?_⟩
    refine (congrFun (idx ⟨(β 0 : ℕ) * 24 + (β 1 : ℕ), by show _ < 384; omega⟩).2.2.2.2.2 a).trans ?_
    match a with
    | 0 => show ((β 0 : ℕ) * 24 + (β 1 : ℕ)) / 24 = (β 0 : ℕ); omega
    | 1 => show ((β 0 : ℕ) * 24 + (β 1 : ℕ)) % 24 = (β 1 : ℕ); omega

/-- A block of four tiles of 128 columns, each times the first table plus its two shifts times the others. -/
def tiles (A : FVec Ideal S1024x512 .f32) (C S T : FVec Ideal S1024x128 .f32) (i : S1024x512.Idx) : EReal :=
  A i * C (ix2 (i 0) ⟨(i 1 : ℕ) % 128, Nat.mod_lt _ (by norm_num)⟩)
    + A (ix2 (i 0) ⟨(i 1 : ℕ) / 128 * 128 + ((i 1 : ℕ) % 128 + 128 - 112) % 128, by have h : (i 1 : ℕ) < 512 := (i 1).isLt; show _ < 512; omega⟩)
      * S (ix2 (i 0) ⟨(i 1 : ℕ) % 128, Nat.mod_lt _ (by norm_num)⟩)
    + A (ix2 (i 0) ⟨(i 1 : ℕ) / 128 * 128 + ((i 1 : ℕ) % 128 + 128 - 16) % 128, by have h : (i 1 : ℕ) < 512 := (i 1).isLt; show _ < 512; omega⟩)
      * T (ix2 (i 0) ⟨(i 1 : ℕ) % 128, Nat.mod_lt _ (by norm_num)⟩)

/-- The four stores of a grid point of queries or keys, as one block. -/
theorem turned_block (c : Dev nD) (t : Fin cfg0.N) (h0 : t.val % 24 ≤ 15) (h1 : ¬16 ≤ t.val % 24) (y : S1024x512.Idx) :
    (outsAt0 m c t.val t.isLt y : EReal) = tiles (k0_pay7 (F := Ideal) (BitVec.ofNat 32 (grid0.coords t 1).val) (k0_pay1 (F := Ideal) (iblk m c 0 t) (iblk m c 1 t)))
      (iblk m c 2 t) (iblk m c 3 t) (iblk m c 4 t) y := by
  rw [outsAt0_A m c t h0 h1]
  frame_out
  canon_tiles y h
  all_goals (open_payloads; pointwise [tiles]; blk_point [])
  all_goals (exfalso; omega)

/-- The store of a grid point of values. -/
theorem plain_block (c : Dev nD) (t : Fin cfg0.N) (h0 : ¬t.val % 24 ≤ 15) (h1 : 16 ≤ t.val % 24) (y : S1024x512.Idx) :
    (outsAt0 m c t.val t.isLt y : EReal) = k0_pay1 (F := Ideal) (iblk m c 0 t) (iblk m c 1 t) y := by
  rw [outsAt0_B m c t h0 h1]
  frame_out
  rfl

/-- An element of the product of two blocks. -/
theorem product_at (x0 : FVec Ideal S1024x4096 .bf16) (x1 : FVec Ideal S4096x512 .bf16) (q : Fin 1024) (e : Fin 512) :
    (k0_pay1 (F := Ideal) x0 x1 (ix2 q e) : EReal) = ∑ k : Fin 4096, (x0 (ix2 q k) : EReal) * x1 (ix2 k e) := by
  pointwise [k0_pay1]

/-- The scaled product: by the scale for queries. -/
theorem scaled_q (j : ℕ) (hj : j < 8) (v : FVec Ideal S1024x512 .f32) (y : S1024x512.Idx) :
    (k0_pay7 (F := Ideal) (BitVec.ofNat 32 j) v y : EReal) = (v y : EReal) * Ideal.ofBits .f32 0x3E0293EE#32 := by
  have h : Scalar.cmpi .slt (BitVec.ofNat 32 j) 8#32 = 1#1 := by interval_cases j <;> decide
  unfold k0_pay7
  rw [h]
  rfl

/-- The scaled product: by one for keys. -/
theorem scaled_k (j : ℕ) (hj : j < 16) (hk : 8 ≤ j) (v : FVec Ideal S1024x512 .f32) (y : S1024x512.Idx) :
    (k0_pay7 (F := Ideal) (BitVec.ofNat 32 j) v y : EReal) = v y := by
  have h : Scalar.cmpi .slt (BitVec.ofNat 32 j) 8#32 = 0#1 := by interval_cases j <;> decide
  unfold k0_pay7
  rw [h]
  refine Eq.trans (show _ = (v y : EReal) * Ideal.ofBits .f32 0x3F800000#32 from rfl) ?_
  rw [Ideal.ofBits_one_f32, mul_one]

/-- A point's rows. -/
theorem rows_at (c : Dev nD) (t : Fin cfg0.N) (q : Fin 1024) (k : Fin 4096) (r : Fin 16384) (hr : (r : ℕ) = t.val / 24 * 1024 + q) :
    ((iblk m c 0 t : FVec Ideal S1024x4096 .bf16) (ix2 q k) : EReal) = (m ((c : Thread nD τ).loc main_arg0) : FVec Ideal S16384x4096 .bf16) (ix2 r k) := by
  blk_ext [iblk, V, idx t]

/-- A point's columns of the weights. -/
theorem weights_at (c : Dev nD) (t : Fin cfg0.N) (k : Fin 4096) (e : Fin 512) (f : Fin 12288) (hf : (f : ℕ) = t.val % 24 * 512 + e) :
    ((iblk m c 1 t : FVec Ideal S4096x512 .bf16) (ix2 k e) : EReal) = (m ((c : Thread nD τ).loc main_arg1) : FVec Ideal S4096x12288 .bf16) (ix2 k f) := by
  blk_ext [iblk, V, idx t]

/-- A point's element of the product. -/
theorem block_at (c : Dev nD) (t : Fin cfg0.N) (q : Fin 1024) (e : Fin 512) (r : Fin 16384) (f : Fin 12288) (hr : (r : ℕ) = t.val / 24 * 1024 + q) (hf : (f : ℕ) = t.val % 24 * 512 + e) :
    (k0_pay1 (F := Ideal) (iblk m c 0 t) (iblk m c 1 t) (ix2 q e) : EReal)
      = prod (m ((c : Thread nD τ).loc main_arg0)) (m ((c : Thread nD τ).loc main_arg1)) r f := by
  rw [product_at, prod]
  exact Finset.sum_congr rfl fun k _ => congrArg₂ (· * ·) (rows_at m c t q k r hr) (weights_at m c t k e f hf)

/-- The tables, from the cosines and sines. -/
def tab0 : FVec Ideal S2048x128 .f32 :=
  concatenate S2048x128 1 [⟨S2048x16, (COS : FVec Ideal S2048x16 .f32)⟩, ⟨S2048x16, (COS : FVec Ideal S2048x16 .f32)⟩,
    ⟨S2048x96, (broadcastInDim S2048x96 ![] bcast_S_S2048x96 (constant S_ .f32 0x3F800000#32) : FVec Ideal S2048x96 .f32)⟩]
    concatenates_S2048x16_S2048x16_S2048x96_S2048x128_d1

/-- The second of them. -/
def tab1 : FVec Ideal S2048x128 .f32 :=
  concatenate S2048x128 1 [⟨S2048x16, (Host.negf (F := Ideal) SIN : FVec Ideal S2048x16 .f32)⟩, ⟨S2048x16, (broadcastInDim S2048x16 ![] bcast_S_S2048x16 (constant S_ .f32 0x00000000#32) : FVec Ideal S2048x16 .f32)⟩,
    ⟨S2048x96, (broadcastInDim S2048x96 ![] bcast_S_S2048x96 (constant S_ .f32 0x00000000#32) : FVec Ideal S2048x96 .f32)⟩]
    concatenates_S2048x16_S2048x16_S2048x96_S2048x128_d1

/-- The third of them. -/
def tab2 : FVec Ideal S2048x128 .f32 :=
  concatenate S2048x128 1 [⟨S2048x16, (broadcastInDim S2048x16 ![] bcast_S_S2048x16 (constant S_ .f32 0x00000000#32) : FVec Ideal S2048x16 .f32)⟩, ⟨S2048x16, (SIN : FVec Ideal S2048x16 .f32)⟩,
    ⟨S2048x96, (broadcastInDim S2048x96 ![] bcast_S_S2048x96 (constant S_ .f32 0x00000000#32) : FVec Ideal S2048x96 .f32)⟩]
    concatenates_S2048x16_S2048x16_S2048x96_S2048x128_d1

/-- The host's first table. -/
theorem host0 (c : Dev nD) : V m c main_v22 = tab0 := by
  after_reads_simp
  unfold tab0 COS ANG
  rfl

/-- The host's second table. -/
theorem host1 (c : Dev nD) : V m c main_v24 = tab1 := by
  after_reads_simp
  unfold tab1 SIN ANG
  rfl

/-- The host's third table. -/
theorem host2 (c : Dev nD) : V m c main_v25 = tab2 := by
  after_reads_simp
  unfold tab2 SIN ANG
  rfl

/-- The first table read. -/
theorem tab0_at (t : Fin 2048) (x : Fin 128) : (tab0 (ix2 t x) : EReal)
    = if h : (x : ℕ) < 16 then COS (ix2 t ⟨x, h⟩) else if h' : (x : ℕ) - 16 < 16 then COS (ix2 t ⟨x - 16, h'⟩) else 1 := by
  pointwise [tab0]

/-- The second table read. -/
theorem tab1_at (t : Fin 2048) (x : Fin 128) : (tab1 (ix2 t x) : EReal) = if h : (x : ℕ) < 16 then -SIN (ix2 t ⟨x, h⟩) else 0 := by
  pointwise [tab1]
  split_ifs <;> rfl

/-- The third table read. -/
theorem tab2_at (t : Fin 2048) (x : Fin 128) : (tab2 (ix2 t x) : EReal)
    = if h : (x : ℕ) < 16 then 0 else if h' : (x : ℕ) - 16 < 16 then SIN (ix2 t ⟨x - 16, h'⟩) else 0 := by
  pointwise [tab2]

/-- The block of the first table at a grid point, of any contents of the buffers. -/
theorem blk_table0 (c : Dev nD) (W : (b : Ref sig .tc) → Buf (Elt Ideal) ((c : Thread nD τ).loc b)) (t : Fin cfg0.N) (q : Fin 1024) (x : Fin 128)
    (r : Fin 2048) (hr : (r : ℕ) = t.val / 24 % 2 * 1024 + q) :
    ((((cfg0.win 2).blk t).view.read (Elt Ideal) (W (Pipeline.arrRef spec0 2)) : FVec Ideal S1024x128 .f32) (ix2 q x) : EReal)
      = (W main_v22 : FVec Ideal S2048x128 .f32) (ix2 r x) := by
  blk_ext [idx t]

/-- The block of the second table at a grid point, of any contents of the buffers. -/
theorem blk_table1 (c : Dev nD) (W : (b : Ref sig .tc) → Buf (Elt Ideal) ((c : Thread nD τ).loc b)) (t : Fin cfg0.N) (q : Fin 1024) (x : Fin 128)
    (r : Fin 2048) (hr : (r : ℕ) = t.val / 24 % 2 * 1024 + q) :
    ((((cfg0.win 3).blk t).view.read (Elt Ideal) (W (Pipeline.arrRef spec0 3)) : FVec Ideal S1024x128 .f32) (ix2 q x) : EReal)
      = (W main_v24 : FVec Ideal S2048x128 .f32) (ix2 r x) := by
  blk_ext [idx t]

/-- The block of the third table at a grid point, of any contents of the buffers. -/
theorem blk_table2 (c : Dev nD) (W : (b : Ref sig .tc) → Buf (Elt Ideal) ((c : Thread nD τ).loc b)) (t : Fin cfg0.N) (q : Fin 1024) (x : Fin 128)
    (r : Fin 2048) (hr : (r : ℕ) = t.val / 24 % 2 * 1024 + q) :
    ((((cfg0.win 4).blk t).view.read (Elt Ideal) (W (Pipeline.arrRef spec0 4)) : FVec Ideal S1024x128 .f32) (ix2 q x) : EReal)
      = (W main_v25 : FVec Ideal S2048x128 .f32) (ix2 r x) := by
  blk_ext [idx t]

/-- A head's coordinate at equal places. -/
theorem head_congr (X : FVec Ideal S16384x4096 .bf16) (W : FVec Ideal S4096x12288 .bf16) {r r' : Fin 16384} {h h' : Fin 96} {y y' : Fin 128}
    (hr : (r : ℕ) = r') (hh : (h : ℕ) = h') (hy : (y : ℕ) = y') : head X W r h y = head X W r' h' y' := by
  rw [Fin.ext hr, Fin.ext hh, Fin.ext hy]

/-- A point's four tiles, of any scaled product that is known elementwise, are the heads turned. -/
theorem tiles_at (c : Dev nD) (t : Fin cfg0.N) (q : Fin 1024) (e : Fin 512) (r : Fin 16384) (g : Fin 96) (y : Fin 128) (A : FVec Ideal S1024x512 .f32) (p : Fin 128 → EReal)
    (hr : (r : ℕ) = t.val / 24 * 1024 + q) (hf : (g : ℕ) * 128 + y = t.val % 24 * 512 + e)
    (hA : ∀ (e' : Fin 512) (z : Fin 128), (g : ℕ) * 128 + z = t.val % 24 * 512 + e' → (A (ix2 q e') : EReal) = p z) :
    tiles A (iblk m c 2 t) (iblk m c 3 t) (iblk m c 4 t) (ix2 q e)
      = turned 16 (by norm_num) p (fun i => COS (ix2 ⟨r % 2048, Nat.mod_lt _ (by norm_num)⟩ i)) (fun i => SIN (ix2 ⟨r % 2048, Nat.mod_lt _ (by norm_num)⟩ i)) y := by
  unfold tiles
  have hq := q.isLt
  have he := e.isLt
  have hy := y.isLt
  have hrow : (r : ℕ) % 2048 = t.val / 24 % 2 * 1024 + q := by omega
  have hx : (⟨(e : ℕ) % 128, Nat.mod_lt _ (by norm_num)⟩ : Fin 128) = y := Fin.ext (by show (e : ℕ) % 128 = y; omega)
  refine Eq.trans ?_ (turned_tables (n := 16) (by norm_num) _ _ _ y ⟨((e : ℕ) % 128 + 128 - 112) % 128, Nat.mod_lt _ (by norm_num)⟩
    ⟨((e : ℕ) % 128 + 128 - 16) % 128, Nat.mod_lt _ (by norm_num)⟩ _ _ _ ?_ ?_
    (tab0_at ⟨r % 2048, Nat.mod_lt _ (by norm_num)⟩ _) (tab1_at ⟨r % 2048, Nat.mod_lt _ (by norm_num)⟩ _) (tab2_at ⟨r % 2048, Nat.mod_lt _ (by norm_num)⟩ _))
  · refine congrArg₂ (· + ·) (congrArg₂ (· + ·) (congrArg₂ (· * ·) ?_ ?_) (congrArg₂ (· * ·) ?_ ?_)) (congrArg₂ (· * ·) ?_ ?_)
    · exact hA e y hf
    · exact (congrArg (fun z => (iblk m c 2 t : FVec Ideal S1024x128 .f32) (ix2 q z)) hx).trans ((blk_table0 c (V m c) t q _ _ hrow).trans (congrFun (host0 m c) _))
    · exact hA _ _ (by show (g : ℕ) * 128 + ((e : ℕ) % 128 + 128 - 112) % 128 = _ + ((e : ℕ) / 128 * 128 + ((e : ℕ) % 128 + 128 - 112) % 128); omega)
    · exact (congrArg (fun z => (iblk m c 3 t : FVec Ideal S1024x128 .f32) (ix2 q z)) hx).trans ((blk_table1 c (V m c) t q _ _ hrow).trans (congrFun (host1 m c) _))
    · exact hA _ _ (by show (g : ℕ) * 128 + ((e : ℕ) % 128 + 128 - 16) % 128 = _ + ((e : ℕ) / 128 * 128 + ((e : ℕ) % 128 + 128 - 16) % 128); omega)
    · exact (congrArg (fun z => (iblk m c 4 t : FVec Ideal S1024x128 .f32) (ix2 q z)) hx).trans ((blk_table2 c (V m c) t q _ _ hrow).trans (congrFun (host2 m c) _))
  · show ((e : ℕ) % 128 + 128 - 112) % 128 = ((y : ℕ) + 16) % 128; omega
  · show ((e : ℕ) % 128 + 128 - 16) % 128 = ((y : ℕ) + 128 - 16) % 128; omega

/-- What a grid point stores is the heads of its rows and columns. -/
theorem point (c : Dev nD) (t : Fin cfg0.N) (q : Fin 1024) (e : Fin 512) (r : Fin 16384) (g : Fin 96) (y : Fin 128)
    (hr : (r : ℕ) = t.val / 24 * 1024 + q) (hf : (g : ℕ) * 128 + y = t.val % 24 * 512 + e) :
    (outsAt0 m c t.val t.isLt (ix2 q e) : EReal) = head (m ((c : Thread nD τ).loc main_arg0)) (m ((c : Thread nD τ).loc main_arg1)) r g y := by
  have he := e.isLt
  have hy := y.isLt
  by_cases h0 : t.val % 24 ≤ 15
  · rw [turned_block m c t h0 (by omega), column]
    unfold head
    by_cases h2 : t.val % 24 < 8
    · rw [if_pos (by omega)]
      refine tiles_at m c t q e r g y _ _ hr hf fun e' z hz => ?_
      rw [scaled_q _ h2]
      exact congrArg (· * _) (block_at m c t q e' r _ hr hz)
    · rw [if_neg (by omega), if_pos (by omega)]
      refine tiles_at m c t q e r g y _ _ hr hf fun e' z hz => ?_
      rw [scaled_k _ (by omega) (by omega)]
      exact block_at m c t q e' r _ hr hz
  · rw [plain_block m c t h0 (by omega)]
    unfold head
    rw [if_neg (by omega), if_neg (by omega)]
    exact block_at m c t q e r _ hr hf

/-- The array of heads after the run. -/
theorem final (c : Dev nD) : (dats m 0 c).arrAt 5 (cfgs 0).N
    = (fun i => head (m ((c : Thread nD τ).loc main_arg0)) (m ((c : Thread nD τ).loc main_arg1)) (i 0)
        ⟨(i 1 : ℕ) / 128, by have := (i 1).isLt; show _ < 96; change (i 1 : ℕ) < 12288 at this; omega⟩ ⟨(i 1 : ℕ) % 128, Nat.mod_lt _ (by norm_num)⟩
        : FVec Ideal S16384x12288 .bf16) := by
  refine (dats m 0 c).arrAt_eq_of_covers 5 _ covers fun t _ y => ?_
  blk_simp
  rw [after0_5]
  obtain ⟨q, e, rfl⟩ : ∃ (q : Fin 1024) (e : Fin 512), y = ix2 q e := ⟨y 0, y 1, by blk_ext⟩
  have ht : t.val < 384 := t.isLt
  refine (point m c t q e ⟨t.val / 24 * 1024 + q, by omega⟩ ⟨(t.val % 24 * 512 + e) / 128, by omega⟩ ⟨(t.val % 24 * 512 + e) % 128, Nat.mod_lt _ (by norm_num)⟩ rfl
    (Nat.div_add_mod' _ _)).trans ?_
  refine head_congr _ _ ?_ ?_ ?_
  · blk_simp [idx t]
  · blk_simp [idx t]
  · blk_simp [idx t]

end Cert.Kernel9Ideal.Value

namespace Cert.Reference9Ideal.Value
open Idealize.ShloMosaic Idealize.SL.Sem

/-- The reference's result, as an array. -/
theorem res_fun (X : FVec Ideal Cert.Reference9Ideal.S16384x4096 .bf16) (W : FVec Ideal Cert.Reference9Ideal.S4096x12288 .bf16) :
    FU (FL (TU (QQ (MM X W)))) (FL (TU (KK (MM X W)))) (MM X W) = (fun i => head X W (i 0)
        ⟨(i 1 : ℕ) / 128, by have := (i 1).isLt; show _ < 96; change (i 1 : ℕ) < 12288 at this; omega⟩ ⟨(i 1 : ℕ) % 128, Nat.mod_lt _ (by norm_num)⟩
        : FVec Ideal Cert.Reference9Ideal.S16384x12288 .bf16) := by
  funext i
  have h0 : (i 0 : ℕ) < 16384 := (i 0).isLt
  have h1 : (i 1 : ℕ) < 12288 := (i 1).isLt
  refine Eq.trans (congrArg (FU (FL (TU (QQ (MM X W)))) (FL (TU (KK (MM X W)))) (MM X W)) ?_) ((res_at X W ⟨(i 0 : ℕ) / 2048, by omega⟩ ⟨(i 0 : ℕ) % 2048, Nat.mod_lt _ (by norm_num)⟩
    ⟨(i 1 : ℕ) / 128, by omega⟩ ⟨(i 1 : ℕ) % 128, Nat.mod_lt _ (by norm_num)⟩).trans
    (congrArg (fun r => head X W r _ _) (Fin.ext (Nat.div_add_mod' _ _))))
  funext a
  match a with
  | 0 => exact Fin.ext (Nat.div_add_mod' _ _).symm
  | 1 => exact Fin.ext (Nat.div_add_mod' _ _).symm

/-- The reference of the differential projection ends with every counter at zero and its arguments unchanged. -/
theorem frame (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run Cert.Reference9Ideal.defs _ _).mono (fun r h => ⟨fun c => (h c).2, Idealize.ShloMosaic.sem_eq_zero_of_no_sems (by decide) r.2⟩)
    (Cert.Reference9Ideal.Value.run (F := Ideal) m g)

/-- The kernel of the differential projection and its reference end with equal results. -/
theorem equal : Cert.algebraic_Kernel9Ideal_Reference9Ideal (hKernel9Ideal := Cert.Kernel9Ideal.Gen.facts) (hReference9Ideal := Cert.Reference9Ideal.Gen.facts) := by
  intro m g m' g' hpre hag
  refine ⟨fun c => (Cert.Kernel9Ideal.Gen.dats m 0 c).arrAt 5 Cert.Kernel9Ideal.cfg0.N, ?_, ?_⟩
  · exact Cert.Kernel9Ideal.Value.run_blocks m g
  · refine (θ_run Cert.Reference9Ideal.defs _ _).mono (fun r h c => ⟨(h c).1.trans ?_, (h c).2⟩) (Cert.Reference9Ideal.Value.run (F := Ideal) m' g')
    refine Eq.trans ?_ (Cert.Kernel9Ideal.Value.final m c).symm
    refine (res_eq m' c).trans ?_
    rw [(hag c).1, (hag c).2]
    exact res_fun _ _

end Cert.Reference9Ideal.Value
end
-- ==== Proof.Rope.LatentQReference.lean ====
module

public import proofs.«01_k».proof.Proof.Gen.Reference10Ideal.Run
public import Idealize.ShloMosaic.Lib.Pipeline.ValueKit
public import proofs.«01_k».proof.Proof.Rope.Spec

/-!
The reference of the latent attention's projection to queries: the product, the turned coordinates, the queries.
-/

@[expose] public section
set_option maxRecDepth 16384
noncomputable section
namespace Cert.Reference10Ideal.Value
open Cert.Reference10Ideal Cert.Reference10Ideal.Gen Idealize.ShloMosaic Idealize.ShloMosaic.TcCoe Idealize.SL.Sem
open Cert.Rope

/-- The angles. -/
def ANG : FVec Ideal S2048x32 .f32 := (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x48F42400#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32))))))))

/-- Their cosines. -/
def COS : FVec Ideal S2048x32 .f32 := Host.cos ANG

/-- Their sines. -/
def SIN : FVec Ideal S2048x32 .f32 := Host.sin ANG

/-- The scaled product, by batch, position, head and coordinate. -/
def MM (X : FVec Ideal S16384x1536 .bf16) (W : FVec Ideal S1536x16384 .bf16) : FVec Ideal S8x2048x64x256 .f32 :=
  (shapeCast _ (mulf (Host.dotGeneral dot_S16384x1536_S1536x16384_S16384x16384_1_0_0_1_n_n none (extf .f32 X bitsLt_bf16_f32) (extf .f32 W bitsLt_bf16_f32)) (broadcastInDim S16384x16384 ![] bcast_S_S16384x16384 (constant S_ .f32 0x3DD53B95#32))) shapeCasts_S16384x16384_S8x2048x64x256)

/-- The turned coordinates. -/
def TU (x : FVec Ideal S8x2048x64x128 .f32) : FVec Ideal S8x2048x64x128 .f32 :=
  ((concatenate S8x2048x64x128 3 [⟨S8x2048x64x32, ((subf (mulf (extractStridedSlice S8x2048x64x32 ![0, 0, 0, 0] x slices_S8x2048x64x128_S8x2048x64x32_0_0_0_0) (broadcastInDim S8x2048x64x32 ![0, 1, 2, 3] bcast_S1x2048x1x32_S8x2048x64x32_0_1_2_3 (broadcastInDim S1x2048x1x32 ![1, 3] bcast_S2048x32_S1x2048x1x32_1_3 COS))) (mulf (extractStridedSlice S8x2048x64x32 ![0, 0, 0, 32] x slices_S8x2048x64x128_S8x2048x64x32_0_0_0_32) (broadcastInDim S8x2048x64x32 ![0, 1, 2, 3] bcast_S1x2048x1x32_S8x2048x64x32_0_1_2_3 (broadcastInDim S1x2048x1x32 ![1, 3] bcast_S2048x32_S1x2048x1x32_1_3 SIN)))) : (⟨S8x2048x64x32, .f32⟩ : BufTy).Contents (Elt Ideal))⟩, ⟨S8x2048x64x32, ((addf (mulf (extractStridedSlice S8x2048x64x32 ![0, 0, 0, 32] x slices_S8x2048x64x128_S8x2048x64x32_0_0_0_32) (broadcastInDim S8x2048x64x32 ![0, 1, 2, 3] bcast_S1x2048x1x32_S8x2048x64x32_0_1_2_3 (broadcastInDim S1x2048x1x32 ![1, 3] bcast_S2048x32_S1x2048x1x32_1_3 COS))) (mulf (extractStridedSlice S8x2048x64x32 ![0, 0, 0, 0] x slices_S8x2048x64x128_S8x2048x64x32_0_0_0_0) (broadcastInDim S8x2048x64x32 ![0, 1, 2, 3] bcast_S1x2048x1x32_S8x2048x64x32_0_1_2_3 (broadcastInDim S1x2048x1x32 ![1, 3] bcast_S2048x32_S1x2048x1x32_1_3 SIN)))) : (⟨S8x2048x64x32, .f32⟩ : BufTy).Contents (Elt Ideal))⟩, ⟨S8x2048x64x64, ((extractStridedSlice S8x2048x64x64 ![0, 0, 0, 64] x slices_S8x2048x64x128_S8x2048x64x64_0_0_0_64) : (⟨S8x2048x64x64, .f32⟩ : BufTy).Contents (Elt Ideal))⟩] concatenates_S8x2048x64x32_S8x2048x64x32_S8x2048x64x64_S8x2048x64x128_d3 : (⟨S8x2048x64x128, .f32⟩ : BufTy).Contents (Elt Ideal)))

/-- The queries. -/
def FU (q : FVec Ideal S8x2048x64x256 .f32) : FVec Ideal S16384x16384 .bf16 :=
  truncf .bf16 (shapeCast S16384x16384 (concatenate S8x2048x64x256 3 [⟨S8x2048x64x128, (extractStridedSlice S8x2048x64x128 ![0, 0, 0, 0] q slices_S8x2048x64x256_S8x2048x64x128_0_0_0_0)⟩, ⟨S8x2048x64x128, (TU (extractStridedSlice S8x2048x64x128 ![0, 0, 0, 128] q slices_S8x2048x64x256_S8x2048x64x128_0_0_0_128))⟩] concatenates_S8x2048x64x128_S8x2048x64x128_S8x2048x64x256_d3) shapeCasts_S8x2048x64x256_S16384x16384) bitsLt_bf16_f32

/-- The reference's result is the stages of its arguments. -/
theorem res_eq (m : (ℓ : Loc nD τ sig) → Buf (Elt Ideal) ℓ) (c : Dev nD) :
    res_out0 m c = FU (MM (m (c.tc.loc main_arg0)) (m (c.tc.loc main_arg1))) := by
  unfold res_out0 res_main_v45 FU TU MM COS SIN ANG
  rfl

/-- An element of the scaled product. -/
def prod (X : FVec Ideal S16384x1536 .bf16) (W : FVec Ideal S1536x16384 .bf16) (r e : Fin 16384) : EReal :=
  (∑ k : Fin 1536, (X (ix2 r k) : EReal) * W (ix2 k e)) * Ideal.ofBits .f32 0x3DD53B95#32

/-- Coordinate `y` of head `h` of row `r`'s query. -/
def query (X : FVec Ideal S16384x1536 .bf16) (W : FVec Ideal S1536x16384 .bf16) (r : Fin 16384) (h : Fin 64) (y : Fin 256) : EReal :=
  if hy : (y : ℕ) < 128 then prod X W r ⟨h * 256 + y, by omega⟩
  else turned 32 (by norm_num) (fun z => prod X W r ⟨h * 256 + (128 + z), by omega⟩) (fun i => COS (ix2 ⟨r % 2048, Nat.mod_lt _ (by norm_num)⟩ i))
    (fun i => SIN (ix2 ⟨r % 2048, Nat.mod_lt _ (by norm_num)⟩ i)) ⟨y - 128, by omega⟩

/-- The scaled product read. -/
theorem MM_at (X : FVec Ideal S16384x1536 .bf16) (W : FVec Ideal S1536x16384 .bf16) (b : Fin 8) (t : Fin 2048) (h : Fin 64) (y : Fin 256) :
    (MM X W (ix4 b t h y) : EReal) = prod X W ⟨b * 2048 + t, by omega⟩ ⟨h * 256 + y, by omega⟩ := by
  pointwise [MM, prod]

/-- The turned coordinates read. -/
theorem TU_at (x : FVec Ideal S8x2048x64x128 .f32) (b : Fin 8) (t : Fin 2048) (h : Fin 64) (y : Fin 128) :
    (TU x (ix4 b t h y) : EReal) = turned 32 (by norm_num) (fun z => x (ix4 b t h z)) (fun i => COS (ix2 t i)) (fun i => SIN (ix2 t i)) y := by
  pointwise [TU, turned]
  blk_point []
  all_goals (exfalso; omega)

/-- The queries read. -/
theorem FU_at (q : FVec Ideal S8x2048x64x256 .f32) (b : Fin 8) (t : Fin 2048) (h : Fin 64) (y : Fin 256) :
    (FU q (ix2 ⟨b * 2048 + t, by omega⟩ ⟨h * 256 + y, by omega⟩) : EReal)
      = if hy : (y : ℕ) < 128 then q (ix4 b t h y)
        else TU (extractStridedSlice S8x2048x64x128 ![0, 0, 0, 128] q slices_S8x2048x64x256_S8x2048x64x128_0_0_0_128) (ix4 b t h ⟨y - 128, by omega⟩) := by
  pointwise [FU]

/-- The reference's result is the queries. -/
theorem res_at (X : FVec Ideal S16384x1536 .bf16) (W : FVec Ideal S1536x16384 .bf16) (b : Fin 8) (t : Fin 2048) (h : Fin 64) (y : Fin 256) :
    (FU (MM X W) (ix2 ⟨b * 2048 + t, by omega⟩ ⟨h * 256 + y, by omega⟩) : EReal) = query X W ⟨b * 2048 + t, by omega⟩ h y := by
  have ht : (⟨(b * 2048 + t : ℕ) % 2048, Nat.mod_lt _ (by norm_num)⟩ : Fin 2048) = t := Fin.ext (by show (b * 2048 + t : ℕ) % 2048 = t; omega)
  rw [FU_at, query]
  by_cases hy : (y : ℕ) < 128
  · rw [dif_pos hy, dif_pos hy, MM_at]
  · rw [dif_neg hy, dif_neg hy, TU_at]
    have e : ∀ z : Fin 128, (extractStridedSlice S8x2048x64x128 ![0, 0, 0, 128] (MM X W) slices_S8x2048x64x256_S8x2048x64x128_0_0_0_128 (ix4 b t h z) : EReal)
        = prod X W ⟨b * 2048 + t, by omega⟩ ⟨h * 256 + (128 + z), by omega⟩ := fun z => by
      refine Eq.trans ?_ (MM_at X W b t h ⟨128 + z, by omega⟩)
      pointwise
    simp only [e, ht]

end Cert.Reference10Ideal.Value
end
-- ==== Proof.Rope.LatentQ.lean ====
module

public import proofs.«01_k».proof.Defs
public import proofs.«01_k».proof.Proof.Gen.Kernel10Ideal.Value
public import proofs.«01_k».proof.Proof.Rope.LatentQReference
public import Idealize.ShloMosaic.Lib.Pipeline.Covers
public import Idealize.ShloMosaic.Lib.Claim
public import Idealize.ShloMosaic.Lib.StableHlo.RunRead
public import Idealize.ShloMosaic.Lib.Quiescent

/-!
The latent attention's projection to queries with its rotation: kernel and reference agree.
-/

@[expose] public section
set_option maxRecDepth 16384
noncomputable section
namespace Cert.Kernel10Ideal.Value
open Cert.Kernel10Ideal Cert.Kernel10Ideal.Gen Idealize.ShloMosaic Idealize.ShloMosaic.TcCoe Idealize.SL.Sem
open Idealize.ShloMosaic.Pipeline (Dat)
open Cert.Rope
open Cert.Reference10Ideal.Value (COS SIN ANG prod query)
variable (m : (ℓ : Loc nD τ sig) → Buf (Elt Ideal) ℓ)

/-- The windows' block indices at every grid point. -/
theorem idx : ∀ t : Fin cfg0.N, win0_0.index t = ![t.val / 16, 0] ∧ win0_1.index t = ![0, t.val % 16] ∧ win0_2.index t = ![t.val / 16 % 2, 0]
    ∧ win0_3.index t = ![t.val / 16 % 2, 0] ∧ win0_4.index t = ![t.val / 16 % 2, 0] ∧ win0_5.index t = ![t.val / 16, t.val % 16] :=
  (by decide +kernel : ∀ t : Fin grid0.N, _)

/-- The output's blocks tile its array. -/
theorem covers : (cfg0.win 5).Covers :=
  (cfg0.win 5).covers_of_index_surj rfl (by decide) fun β => by
    have h0 : (β 0 : ℕ) < 16 := (β 0).isLt
    have h1 : (β 1 : ℕ) < 16 := (β 1).isLt
    refine ⟨⟨(β 0 : ℕ) * 16 + (β 1 : ℕ), by show _ < 256; omega⟩, fun a => ?_⟩
    refine (congrFun (idx ⟨(β 0 : ℕ) * 16 + (β 1 : ℕ), by show _ < 256; omega⟩).2.2.2.2.2 a).trans ?_
    match a with
    | 0 => show ((β 0 : ℕ) * 16 + (β 1 : ℕ)) / 16 = (β 0 : ℕ); omega
    | 1 => show ((β 0 : ℕ) * 16 + (β 1 : ℕ)) % 16 = (β 1 : ℕ); omega

/-- A block of eight tiles of 128 columns, every second one times the first table plus its two shifts times the others. -/
def tiles (A : FVec Ideal S1024x1024 .f32) (C S T : FVec Ideal S1024x128 .f32) (i : S1024x1024.Idx) : EReal :=
  if (i 1 : ℕ) / 128 % 2 = 0 then A i
  else A i * C (ix2 (i 0) ⟨(i 1 : ℕ) % 128, Nat.mod_lt _ (by norm_num)⟩)
    + A (ix2 (i 0) ⟨(i 1 : ℕ) / 128 * 128 + ((i 1 : ℕ) % 128 + 128 - 96) % 128, by have h : (i 1 : ℕ) < 1024 := (i 1).isLt; show _ < 1024; omega⟩)
      * S (ix2 (i 0) ⟨(i 1 : ℕ) % 128, Nat.mod_lt _ (by norm_num)⟩)
    + A (ix2 (i 0) ⟨(i 1 : ℕ) / 128 * 128 + ((i 1 : ℕ) % 128 + 128 - 32) % 128, by have h : (i 1 : ℕ) < 1024 := (i 1).isLt; show _ < 1024; omega⟩)
      * T (ix2 (i 0) ⟨(i 1 : ℕ) % 128, Nat.mod_lt _ (by norm_num)⟩)

/-- The eight stores of a grid point, as one block. -/
theorem stored (x0 : FVec Ideal S1024x1536 .bf16) (x1 : FVec Ideal S1536x1024 .bf16) (x2 x3 x4 : FVec Ideal S1024x128 .f32) (y : S1024x1024.Idx) :
    (out0_5 (F := Ideal) x0 x1 x2 x3 x4 y : EReal) = tiles (k0_pay9 (F := Ideal) x0 x1) x2 x3 x4 y := by
  canon_tiles y h
  all_goals (open_payloads; pointwise [tiles]; blk_point [])
  all_goals (exfalso; omega)

/-- An element of the scaled product of two blocks. -/
theorem product_at (x0 : FVec Ideal S1024x1536 .bf16) (x1 : FVec Ideal S1536x1024 .bf16) (q e : Fin 1024) :
    (k0_pay9 (F := Ideal) x0 x1 (ix2 q e) : EReal) = (∑ k : Fin 1536, (x0 (ix2 q k) : EReal) * x1 (ix2 k e)) * Ideal.ofBits .f32 0x3DD53B95#32 := by
  pointwise [k0_pay9]

/-- A point's rows. -/
theorem rows_at (c : Dev nD) (t : Fin cfg0.N) (q : Fin 1024) (k : Fin 1536) (r : Fin 16384) (hr : (r : ℕ) = t.val / 16 * 1024 + q) :
    ((iblk m c 0 t : FVec Ideal S1024x1536 .bf16) (ix2 q k) : EReal) = (m ((c : Thread nD τ).loc main_arg0) : FVec Ideal S16384x1536 .bf16) (ix2 r k) := by
  blk_ext [iblk, V, idx t]

/-- A point's columns of the weights. -/
theorem weights_at (c : Dev nD) (t : Fin cfg0.N) (k : Fin 1536) (e : Fin 1024) (f : Fin 16384) (hf : (f : ℕ) = t.val % 16 * 1024 + e) :
    ((iblk m c 1 t : FVec Ideal S1536x1024 .bf16) (ix2 k e) : EReal) = (m ((c : Thread nD τ).loc main_arg1) : FVec Ideal S1536x16384 .bf16) (ix2 k f) := by
  blk_ext [iblk, V, idx t]

/-- A point's element of the product. -/
theorem block_at (c : Dev nD) (t : Fin cfg0.N) (q e : Fin 1024) (r f : Fin 16384) (hr : (r : ℕ) = t.val / 16 * 1024 + q) (hf : (f : ℕ) = t.val % 16 * 1024 + e) :
    (k0_pay9 (F := Ideal) (iblk m c 0 t) (iblk m c 1 t) (ix2 q e) : EReal)
      = prod (m ((c : Thread nD τ).loc main_arg0)) (m ((c : Thread nD τ).loc main_arg1)) r f := by
  rw [product_at, prod]
  exact congrArg (· * _) (Finset.sum_congr rfl fun k _ => congrArg₂ (· * ·) (rows_at m c t q k r hr) (weights_at m c t k e f hf))

/-- The tables, from the cosines and sines. -/
def tab0 : FVec Ideal S2048x128 .f32 :=
  concatenate S2048x128 1 [⟨S2048x32, (COS : FVec Ideal S2048x32 .f32)⟩, ⟨S2048x32, (COS : FVec Ideal S2048x32 .f32)⟩,
    ⟨S2048x64, (broadcastInDim S2048x64 ![] bcast_S_S2048x64 (constant S_ .f32 0x3F800000#32) : FVec Ideal S2048x64 .f32)⟩]
    concatenates_S2048x32_S2048x32_S2048x64_S2048x128_d1

/-- The second of them. -/
def tab1 : FVec Ideal S2048x128 .f32 :=
  concatenate S2048x128 1 [⟨S2048x32, (Host.negf (F := Ideal) SIN : FVec Ideal S2048x32 .f32)⟩, ⟨S2048x32, (broadcastInDim S2048x32 ![] bcast_S_S2048x32 (constant S_ .f32 0x00000000#32) : FVec Ideal S2048x32 .f32)⟩,
    ⟨S2048x64, (broadcastInDim S2048x64 ![] bcast_S_S2048x64 (constant S_ .f32 0x00000000#32) : FVec Ideal S2048x64 .f32)⟩]
    concatenates_S2048x32_S2048x32_S2048x64_S2048x128_d1

/-- The third of them. -/
def tab2 : FVec Ideal S2048x128 .f32 :=
  concatenate S2048x128 1 [⟨S2048x32, (broadcastInDim S2048x32 ![] bcast_S_S2048x32 (constant S_ .f32 0x00000000#32) : FVec Ideal S2048x32 .f32)⟩, ⟨S2048x32, (SIN : FVec Ideal S2048x32 .f32)⟩,
    ⟨S2048x64, (broadcastInDim S2048x64 ![] bcast_S_S2048x64 (constant S_ .f32 0x00000000#32) : FVec Ideal S2048x64 .f32)⟩]
    concatenates_S2048x32_S2048x32_S2048x64_S2048x128_d1

/-- The host's first table. -/
theorem host0 (c : Dev nD) : V m c main_v22 = tab0 := by
  after_reads_simp
  unfold tab0 COS ANG
  rfl

/-- The host's second table. -/
theorem host1 (c : Dev nD) : V m c main_v24 = tab1 := by
  after_reads_simp
  unfold tab1 SIN ANG
  rfl

/-- The host's third table. -/
theorem host2 (c : Dev nD) : V m c main_v25 = tab2 := by
  after_reads_simp
  unfold tab2 SIN ANG
  rfl

/-- The first table read. -/
theorem tab0_at (t : Fin 2048) (x : Fin 128) : (tab0 (ix2 t x) : EReal)
    = if h : (x : ℕ) < 32 then COS (ix2 t ⟨x, h⟩) else if h' : (x : ℕ) - 32 < 32 then COS (ix2 t ⟨x - 32, h'⟩) else 1 := by
  pointwise [tab0]

/-- The second table read. -/
theorem tab1_at (t : Fin 2048) (x : Fin 128) : (tab1 (ix2 t x) : EReal) = if h : (x : ℕ) < 32 then -SIN (ix2 t ⟨x, h⟩) else 0 := by
  pointwise [tab1]
  split_ifs <;> rfl

/-- The third table read. -/
theorem tab2_at (t : Fin 2048) (x : Fin 128) : (tab2 (ix2 t x) : EReal)
    = if h : (x : ℕ) < 32 then 0 else if h' : (x : ℕ) - 32 < 32 then SIN (ix2 t ⟨x - 32, h'⟩) else 0 := by
  pointwise [tab2]

/-- The block of the first table at a grid point, of any contents of the buffers. -/
theorem blk_table0 (c : Dev nD) (W : (b : Ref sig .tc) → Buf (Elt Ideal) ((c : Thread nD τ).loc b)) (t : Fin cfg0.N) (q : Fin 1024) (x : Fin 128)
    (r : Fin 2048) (hr : (r : ℕ) = t.val / 16 % 2 * 1024 + q) :
    ((((cfg0.win 2).blk t).view.read (Elt Ideal) (W (Pipeline.arrRef spec0 2)) : FVec Ideal S1024x128 .f32) (ix2 q x) : EReal)
      = (W main_v22 : FVec Ideal S2048x128 .f32) (ix2 r x) := by
  blk_ext [idx t]

/-- The block of the second table at a grid point, of any contents of the buffers. -/
theorem blk_table1 (c : Dev nD) (W : (b : Ref sig .tc) → Buf (Elt Ideal) ((c : Thread nD τ).loc b)) (t : Fin cfg0.N) (q : Fin 1024) (x : Fin 128)
    (r : Fin 2048) (hr : (r : ℕ) = t.val / 16 % 2 * 1024 + q) :
    ((((cfg0.win 3).blk t).view.read (Elt Ideal) (W (Pipeline.arrRef spec0 3)) : FVec Ideal S1024x128 .f32) (ix2 q x) : EReal)
      = (W main_v24 : FVec Ideal S2048x128 .f32) (ix2 r x) := by
  blk_ext [idx t]

/-- The block of the third table at a grid point, of any contents of the buffers. -/
theorem blk_table2 (c : Dev nD) (W : (b : Ref sig .tc) → Buf (Elt Ideal) ((c : Thread nD τ).loc b)) (t : Fin cfg0.N) (q : Fin 1024) (x : Fin 128)
    (r : Fin 2048) (hr : (r : ℕ) = t.val / 16 % 2 * 1024 + q) :
    ((((cfg0.win 4).blk t).view.read (Elt Ideal) (W (Pipeline.arrRef spec0 4)) : FVec Ideal S1024x128 .f32) (ix2 q x) : EReal)
      = (W main_v25 : FVec Ideal S2048x128 .f32) (ix2 r x) := by
  blk_ext [idx t]

/-- A query's coordinate at equal places. -/
theorem query_congr (X : FVec Ideal S16384x1536 .bf16) (W : FVec Ideal S1536x16384 .bf16) {r r' : Fin 16384} {h h' : Fin 64} {y y' : Fin 256}
    (hr : (r : ℕ) = r') (hh : (h : ℕ) = h') (hy : (y : ℕ) = y') : query X W r h y = query X W r' h' y' := by
  rw [Fin.ext hr, Fin.ext hh, Fin.ext hy]

/-- What a grid point stores is the queries of its rows and columns. -/
theorem point (c : Dev nD) (t : Fin cfg0.N) (q e : Fin 1024) (r : Fin 16384) (h : Fin 64) (y : Fin 256)
    (hr : (r : ℕ) = t.val / 16 * 1024 + q) (hf : (h : ℕ) * 256 + y = t.val % 16 * 1024 + e) :
    (out0_5 (F := Ideal) (iblk m c 0 t) (iblk m c 1 t) (iblk m c 2 t) (iblk m c 3 t) (iblk m c 4 t) (ix2 q e) : EReal)
      = query (m ((c : Thread nD τ).loc main_arg0)) (m ((c : Thread nD τ).loc main_arg1)) r h y := by
  rw [stored]
  unfold tiles query
  have hq := q.isLt
  have he := e.isLt
  have hy := y.isLt
  have hrow : (r : ℕ) % 2048 = t.val / 16 % 2 * 1024 + q := by omega
  by_cases hc : (y : ℕ) < 128
  · rw [dif_pos hc]
    refine (if_pos (show (e : ℕ) / 128 % 2 = 0 by omega)).trans ?_
    exact block_at m c t q e r _ hr hf
  · rw [dif_neg hc]
    refine (if_neg (show ¬(e : ℕ) / 128 % 2 = 0 by omega)).trans ?_
    have hx : (⟨(e : ℕ) % 128, Nat.mod_lt _ (by norm_num)⟩ : Fin 128) = ⟨y - 128, by omega⟩ := Fin.ext (by show (e : ℕ) % 128 = y - 128; omega)
    refine Eq.trans ?_ (turned_tables (n := 32) (by norm_num) _ _ _ ⟨y - 128, by omega⟩ ⟨((e : ℕ) % 128 + 128 - 96) % 128, Nat.mod_lt _ (by norm_num)⟩
      ⟨((e : ℕ) % 128 + 128 - 32) % 128, Nat.mod_lt _ (by norm_num)⟩ _ _ _ ?_ ?_
      (tab0_at ⟨r % 2048, Nat.mod_lt _ (by norm_num)⟩ _) (tab1_at ⟨r % 2048, Nat.mod_lt _ (by norm_num)⟩ _) (tab2_at ⟨r % 2048, Nat.mod_lt _ (by norm_num)⟩ _))
    · refine congrArg₂ (· + ·) (congrArg₂ (· + ·) (congrArg₂ (· * ·) ?_ ?_) (congrArg₂ (· * ·) ?_ ?_)) (congrArg₂ (· * ·) ?_ ?_)
      · exact block_at m c t q e r _ hr (by show (h : ℕ) * 256 + (128 + ((y : ℕ) - 128)) = _; omega)
      · exact (congrArg (fun z => (iblk m c 2 t : FVec Ideal S1024x128 .f32) (ix2 q z)) hx).trans ((blk_table0 c (V m c) t q _ _ hrow).trans (congrFun (host0 m c) _))
      · exact block_at m c t q _ r _ hr (by show (h : ℕ) * 256 + (128 + ((e : ℕ) % 128 + 128 - 96) % 128) = _ + ((e : ℕ) / 128 * 128 + ((e : ℕ) % 128 + 128 - 96) % 128); omega)
      · exact (congrArg (fun z => (iblk m c 3 t : FVec Ideal S1024x128 .f32) (ix2 q z)) hx).trans ((blk_table1 c (V m c) t q _ _ hrow).trans (congrFun (host1 m c) _))
      · exact block_at m c t q _ r _ hr (by show (h : ℕ) * 256 + (128 + ((e : ℕ) % 128 + 128 - 32) % 128) = _ + ((e : ℕ) / 128 * 128 + ((e : ℕ) % 128 + 128 - 32) % 128); omega)
      · exact (congrArg (fun z => (iblk m c 4 t : FVec Ideal S1024x128 .f32) (ix2 q z)) hx).trans ((blk_table2 c (V m c) t q _ _ hrow).trans (congrFun (host2 m c) _))
    · show ((e : ℕ) % 128 + 128 - 96) % 128 = ((y : ℕ) - 128 + 32) % 128; omega
    · show ((e : ℕ) % 128 + 128 - 32) % 128 = ((y : ℕ) - 128 + 128 - 32) % 128; omega

/-- The array of queries after the run. -/
theorem final (c : Dev nD) : (dats m 0 c).arrAt 5 (cfgs 0).N
    = (fun i => query (m ((c : Thread nD τ).loc main_arg0)) (m ((c : Thread nD τ).loc main_arg1)) (i 0)
        ⟨(i 1 : ℕ) / 256, by have := (i 1).isLt; show _ < 64; change (i 1 : ℕ) < 16384 at this; omega⟩ ⟨(i 1 : ℕ) % 256, Nat.mod_lt _ (by norm_num)⟩
        : FVec Ideal S16384x16384 .bf16) := by
  refine (dats m 0 c).arrAt_eq_of_covers 5 _ covers fun t _ y => ?_
  blk_simp
  rw [after0_5]
  obtain ⟨q, e, rfl⟩ : ∃ (q e : Fin 1024), y = ix2 q e := ⟨y 0, y 1, by blk_ext⟩
  have ht : t.val < 256 := t.isLt
  refine (point m c t q e ⟨t.val / 16 * 1024 + q, by omega⟩ ⟨(t.val % 16 * 1024 + e) / 256, by omega⟩ ⟨(t.val % 16 * 1024 + e) % 256, Nat.mod_lt _ (by norm_num)⟩ rfl
    (Nat.div_add_mod' _ _)).trans ?_
  refine query_congr _ _ ?_ ?_ ?_
  · blk_simp [idx t]
  · blk_simp [idx t]
  · blk_simp [idx t]

end Cert.Kernel10Ideal.Value

namespace Cert.Reference10Ideal.Value
open Idealize.ShloMosaic Idealize.SL.Sem

/-- The reference's result, as an array. -/
theorem res_fun (X : FVec Ideal Cert.Reference10Ideal.S16384x1536 .bf16) (W : FVec Ideal Cert.Reference10Ideal.S1536x16384 .bf16) :
    FU (MM X W) = (fun i => query X W (i 0)
        ⟨(i 1 : ℕ) / 256, by have := (i 1).isLt; show _ < 64; change (i 1 : ℕ) < 16384 at this; omega⟩ ⟨(i 1 : ℕ) % 256, Nat.mod_lt _ (by norm_num)⟩
        : FVec Ideal Cert.Reference10Ideal.S16384x16384 .bf16) := by
  funext i
  have h0 : (i 0 : ℕ) < 16384 := (i 0).isLt
  have h1 : (i 1 : ℕ) < 16384 := (i 1).isLt
  refine Eq.trans (congrArg (FU (MM X W)) ?_) ((res_at X W ⟨(i 0 : ℕ) / 2048, by omega⟩ ⟨(i 0 : ℕ) % 2048, Nat.mod_lt _ (by norm_num)⟩
    ⟨(i 1 : ℕ) / 256, by omega⟩ ⟨(i 1 : ℕ) % 256, Nat.mod_lt _ (by norm_num)⟩).trans
    (congrArg (fun r => query X W r _ _) (Fin.ext (Nat.div_add_mod' _ _))))
  funext a
  match a with
  | 0 => exact Fin.ext (Nat.div_add_mod' _ _).symm
  | 1 => exact Fin.ext (Nat.div_add_mod' _ _).symm

/-- The reference of the projection to queries ends with every counter at zero and its arguments unchanged. -/
theorem frame (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run Cert.Reference10Ideal.defs _ _).mono (fun r h => ⟨fun c => (h c).2, Idealize.ShloMosaic.sem_eq_zero_of_no_sems (by decide) r.2⟩)
    (Cert.Reference10Ideal.Value.run (F := Ideal) m g)

/-- The kernel of the projection to queries and its reference end with equal results. -/
theorem equal : Cert.algebraic_Kernel10Ideal_Reference10Ideal (hKernel10Ideal := Cert.Kernel10Ideal.Gen.facts) (hReference10Ideal := Cert.Reference10Ideal.Gen.facts) := by
  intro m g m' g' hpre hag
  refine ⟨fun c => (Cert.Kernel10Ideal.Gen.dats m 0 c).arrAt 5 Cert.Kernel10Ideal.cfg0.N, ?_, ?_⟩
  · exact Cert.Kernel10Ideal.Value.run_blocks m g
  · refine (θ_run Cert.Reference10Ideal.defs _ _).mono (fun r h c => ⟨(h c).1.trans ?_, (h c).2⟩) (Cert.Reference10Ideal.Value.run (F := Ideal) m' g')
    refine Eq.trans ?_ (Cert.Kernel10Ideal.Value.final m c).symm
    refine (res_eq m' c).trans ?_
    rw [(hag c).1, (hag c).2]
    exact res_fun _ _

end Cert.Reference10Ideal.Value
end
-- ==== Proof.Rope.LatentKvReference.lean ====
module

public import proofs.«01_k».proof.Proof.Gen.Reference11Ideal.Run
public import Idealize.ShloMosaic.Lib.Pipeline.ValueKit

/-!
The reference of the latent attention's projection to keys and values: the product, the shared coordinates added to the keys.
-/

@[expose] public section
set_option maxRecDepth 16384
noncomputable section
namespace Cert.Reference11Ideal.Value
open Cert.Reference11Ideal Cert.Reference11Ideal.Gen Idealize.ShloMosaic Idealize.ShloMosaic.TcCoe Idealize.SL.Sem

/-- The product. -/
def MM (X : FVec Ideal S16384x512 .bf16) (W : FVec Ideal S512x24576 .bf16) : FVec Ideal S16384x24576 .f32 :=
  (Host.dotGeneral dot_S16384x512_S512x24576_S16384x24576_1_0_0_1_n_n none (extf .f32 X bitsLt_bf16_f32) (extf .f32 W bitsLt_bf16_f32))

/-- The keys by head. -/
def KK (p : FVec Ideal S16384x24576 .f32) : FVec Ideal S16384x64x256 .f32 :=
  (shapeCast S16384x64x256 (extractStridedSlice S16384x16384 ![0, 0] p slices_S16384x24576_S16384x16384_0_0) shapeCasts_S16384x16384_S16384x64x256)

/-- The shared coordinates added to the second half of every key. -/
def AD (x : FVec Ideal S16384x64x256 .f32) (R : FVec Ideal S16384x128 .f32) : FVec Ideal S16384x64x256 .f32 :=
  (concatenate S16384x64x256 2 [⟨S16384x64x128, (extractStridedSlice S16384x64x128 ![0, 0, 0] x slices_S16384x64x256_S16384x64x128_0_0_0)⟩, ⟨S16384x64x128, (addf (extractStridedSlice S16384x64x128 ![0, 0, 128] x slices_S16384x64x256_S16384x64x128_0_0_128) (broadcastInDim S16384x64x128 ![0, 1, 2] bcast_S16384x1x128_S16384x64x128_0_1_2 (broadcastInDim S16384x1x128 ![0, 2] bcast_S16384x128_S16384x1x128_0_2 R)))⟩] concatenates_S16384x64x128_S16384x64x128_S16384x64x256_d2)

/-- The heads of a row side by side. -/
def FL (y : FVec Ideal S16384x64x256 .f32) : FVec Ideal S16384x16384 .f32 :=
  (shapeCast S16384x16384 y shapeCasts_S16384x64x256_S16384x16384)

/-- Keys and values side by side. -/
def FU (a : FVec Ideal S16384x16384 .f32) (p : FVec Ideal S16384x24576 .f32) : FVec Ideal S16384x24576 .bf16 :=
  truncf .bf16 (concatenate S16384x24576 1 [⟨S16384x16384, a⟩, ⟨S16384x8192, (extractStridedSlice S16384x8192 ![0, 16384] p slices_S16384x24576_S16384x8192_0_16384)⟩] concatenates_S16384x16384_S16384x8192_S16384x24576_d1) bitsLt_bf16_f32

/-- The reference's term is the stages. -/
theorem stages (X : FVec Ideal S16384x512 .bf16) (W : FVec Ideal S512x24576 .bf16) (R : FVec Ideal S16384x128 .f32) :
    truncf .bf16 (concatenate S16384x24576 1 [⟨S16384x16384, (shapeCast _ (concatenate S16384x64x256 2 [⟨S16384x64x128, (extractStridedSlice S16384x64x128 ![0, 0, 0] (shapeCast _ (extractStridedSlice S16384x16384 ![0, 0] (Host.dotGeneral dot_S16384x512_S512x24576_S16384x24576_1_0_0_1_n_n none (extf .f32 X bitsLt_bf16_f32) (extf .f32 W bitsLt_bf16_f32)) slices_S16384x24576_S16384x16384_0_0) shapeCasts_S16384x16384_S16384x64x256) slices_S16384x64x256_S16384x64x128_0_0_0)⟩, ⟨S16384x64x128, (addf (extractStridedSlice S16384x64x128 ![0, 0, 128] (shapeCast _ (extractStridedSlice S16384x16384 ![0, 0] (Host.dotGeneral dot_S16384x512_S512x24576_S16384x24576_1_0_0_1_n_n none (extf .f32 X bitsLt_bf16_f32) (extf .f32 W bitsLt_bf16_f32)) slices_S16384x24576_S16384x16384_0_0) shapeCasts_S16384x16384_S16384x64x256) slices_S16384x64x256_S16384x64x128_0_0_128) (broadcastInDim S16384x64x128 ![0, 1, 2] bcast_S16384x1x128_S16384x64x128_0_1_2 (broadcastInDim S16384x1x128 ![0, 2] bcast_S16384x128_S16384x1x128_0_2 R)))⟩] concatenates_S16384x64x128_S16384x64x128_S16384x64x256_d2) shapeCasts_S16384x64x256_S16384x16384)⟩, ⟨S16384x8192, (extractStridedSlice S16384x8192 ![0, 16384] (Host.dotGeneral dot_S16384x512_S512x24576_S16384x24576_1_0_0_1_n_n none (extf .f32 X bitsLt_bf16_f32) (extf .f32 W bitsLt_bf16_f32)) slices_S16384x24576_S16384x8192_0_16384)⟩] concatenates_S16384x16384_S16384x8192_S16384x24576_d1) bitsLt_bf16_f32 = FU (FL (AD (KK (MM X W)) R)) (MM X W) := by
  unfold FU FL AD KK MM
  rfl

/-- An element of the product. -/
def prod (X : FVec Ideal S16384x512 .bf16) (W : FVec Ideal S512x24576 .bf16) (r : Fin 16384) (e : Fin 24576) : EReal :=
  ∑ k : Fin 512, (X (ix2 r k) : EReal) * W (ix2 k e)

/-- Column `e` of row `r`: in the second half of a key's 256 coordinates a shared coordinate is added. -/
def entry (X : FVec Ideal S16384x512 .bf16) (W : FVec Ideal S512x24576 .bf16) (R : FVec Ideal S16384x128 .f32) (r : Fin 16384) (e : Fin 24576) : EReal :=
  if (e : ℕ) < 16384 then
    if (e : ℕ) / 128 % 2 = 0 then prod X W r e else prod X W r e + R (ix2 r ⟨e % 128, Nat.mod_lt _ (by norm_num)⟩)
  else prod X W r e

/-- The product read. -/
theorem MM_at (X : FVec Ideal S16384x512 .bf16) (W : FVec Ideal S512x24576 .bf16) (r : Fin 16384) (e : Fin 24576) :
    (MM X W (ix2 r e) : EReal) = prod X W r e := by
  pointwise [MM, prod]

/-- The keys read. -/
theorem KK_at (p : FVec Ideal S16384x24576 .f32) (r : Fin 16384) (h : Fin 64) (y : Fin 256) :
    (KK p (ix3 r h y) : EReal) = p (ix2 r ⟨h * 256 + y, by omega⟩) := by
  pointwise [KK]

/-- The added coordinates read. -/
theorem AD_at (x : FVec Ideal S16384x64x256 .f32) (R : FVec Ideal S16384x128 .f32) (r : Fin 16384) (h : Fin 64) (y : Fin 256) :
    (AD x R (ix3 r h y) : EReal) = if hy : (y : ℕ) < 128 then (x (ix3 r h y) : EReal) else (x (ix3 r h y) : EReal) + R (ix2 r ⟨y - 128, by omega⟩) := by
  pointwise [AD]
  blk_point []

/-- The heads of a row read. -/
theorem FL_at (x : FVec Ideal S16384x64x256 .f32) (r : Fin 16384) (h : Fin 64) (y : Fin 256) :
    (FL x (ix2 r ⟨h * 256 + y, by omega⟩) : EReal) = x (ix3 r h y) := by
  pointwise [FL]

/-- The result read. -/
theorem FU_at (a : FVec Ideal S16384x16384 .f32) (p : FVec Ideal S16384x24576 .f32) (r : Fin 16384) (e : Fin 24576) :
    (FU a p (ix2 r e) : EReal) = if h : (e : ℕ) < 16384 then a (ix2 r ⟨e, h⟩) else p (ix2 r e) := by
  pointwise [FU]
  blk_point []

/-- The reference's result is the entries. -/
theorem res_at (X : FVec Ideal S16384x512 .bf16) (W : FVec Ideal S512x24576 .bf16) (R : FVec Ideal S16384x128 .f32) (r : Fin 16384) (e : Fin 24576) :
    (FU (FL (AD (KK (MM X W)) R)) (MM X W) (ix2 r e) : EReal) = entry X W R r e := by
  rw [FU_at, entry]
  by_cases h1 : (e : ℕ) < 16384
  · rw [dif_pos h1, if_pos h1]
    have hd : (e : ℕ) / 256 * 256 + e % 256 = e := Nat.div_add_mod' _ _
    have hl := e.isLt
    have hi : (⟨e, h1⟩ : Fin 16384) = ⟨((⟨e / 256, by omega⟩ : Fin 64) : ℕ) * 256 + ((⟨e % 256, Nat.mod_lt _ (by norm_num)⟩ : Fin 256) : ℕ), by show (e : ℕ) / 256 * 256 + e % 256 < _; omega⟩ :=
      Fin.ext hd.symm
    rw [hi, FL_at, AD_at, KK_at, MM_at]
    have he : (⟨((⟨e / 256, by omega⟩ : Fin 64) : ℕ) * 256 + ((⟨e % 256, Nat.mod_lt _ (by norm_num)⟩ : Fin 256) : ℕ), by show (e : ℕ) / 256 * 256 + e % 256 < _; omega⟩ : Fin 24576) = e :=
      Fin.ext hd
    rw [he]
    by_cases h2 : (e : ℕ) % 256 < 128
    · rw [if_pos (show (e : ℕ) / 128 % 2 = 0 by omega)]
      exact dif_pos h2
    · rw [if_neg (show ¬(e : ℕ) / 128 % 2 = 0 by omega)]
      refine (dif_neg h2).trans ?_
      refine congrArg (fun z => prod X W r e + R (ix2 r z)) (Fin.ext ?_)
      show (e : ℕ) % 256 - 128 = e % 128
      omega
  · rw [dif_neg h1, if_neg h1, MM_at]

end Cert.Reference11Ideal.Value
end
-- ==== Proof.Rope.LatentKv.lean ====
module

public import proofs.«01_k».proof.Defs
public import proofs.«01_k».proof.Proof.Gen.Kernel11Ideal.Value
public import proofs.«01_k».proof.Proof.Rope.LatentKvReference
public import Idealize.ShloMosaic.Lib.Pipeline.Covers
public import Idealize.ShloMosaic.Lib.Claim
public import Idealize.ShloMosaic.Lib.Quiescent

/-!
The latent attention's projection to keys and values: kernel and reference agree.
-/

@[expose] public section
set_option maxRecDepth 16384
noncomputable section
namespace Cert.Kernel11Ideal.Value
open Cert.Kernel11Ideal Cert.Kernel11Ideal.Gen Idealize.ShloMosaic Idealize.ShloMosaic.TcCoe Idealize.SL.Sem
open Idealize.ShloMosaic.Pipeline (Dat)
open Cert.Reference11Ideal.Value (prod entry)
variable (m : (ℓ : Loc nD τ sig) → Buf (Elt Ideal) ℓ)

/-- The windows' block indices at every grid point. -/
theorem idx : ∀ t : Fin cfg0.N, win0_0.index t = ![t.val / 12, 0] ∧ win0_1.index t = ![0, t.val % 12] ∧ win0_2.index t = ![t.val / 12, 0]
    ∧ win0_3.index t = ![t.val / 12, t.val % 12] :=
  (by decide +kernel : ∀ t : Fin grid0.N, _)

/-- The output's blocks tile its array. -/
theorem covers : (cfg0.win 3).Covers :=
  (cfg0.win 3).covers_of_index_surj rfl (by decide) fun β => by
    have h0 : (β 0 : ℕ) < 16 := (β 0).isLt
    have h1 : (β 1 : ℕ) < 12 := (β 1).isLt
    refine ⟨⟨(β 0 : ℕ) * 12 + (β 1 : ℕ), by show _ < 192; omega⟩, fun a => ?_⟩
    refine (congrFun (idx ⟨(β 0 : ℕ) * 12 + (β 1 : ℕ), by show _ < 192; omega⟩).2.2.2 a).trans ?_
    match a with
    | 0 => show ((β 0 : ℕ) * 12 + (β 1 : ℕ)) / 12 = (β 0 : ℕ); omega
    | 1 => show ((β 0 : ℕ) * 12 + (β 1 : ℕ)) % 12 = (β 1 : ℕ); omega

/-- A block of sixteen tiles of 128 columns, every second one with the shared coordinates added. -/
def tiles (A : FVec Ideal S1024x2048 .f32) (S : FVec Ideal S1024x128 .f32) (i : S1024x2048.Idx) : EReal :=
  if (i 1 : ℕ) / 128 % 2 = 0 then A i else A i + S (ix2 (i 0) ⟨(i 1 : ℕ) % 128, Nat.mod_lt _ (by norm_num)⟩)

/-- The sixteen stores of a grid point of keys, as one block. -/
theorem key_block (c : Dev nD) (t : Fin cfg0.N) (h0 : t.val % 12 ≤ 7) (h1 : ¬8 ≤ t.val % 12) (y : S1024x2048.Idx) :
    (outsAt0 m c t.val t.isLt y : EReal) = tiles (k0_pay1 (F := Ideal) (iblk m c 0 t) (iblk m c 1 t)) (iblk m c 2 t) y := by
  rw [outsAt0_A m c t h0 h1]
  frame_out
  canon_tiles y h
  all_goals (open_payloads; pointwise [tiles]; blk_point [])
  all_goals (exfalso; omega)

/-- The store of a grid point of values. -/
theorem plain_block (c : Dev nD) (t : Fin cfg0.N) (h0 : ¬t.val % 12 ≤ 7) (h1 : 8 ≤ t.val % 12) (y : S1024x2048.Idx) :
    (outsAt0 m c t.val t.isLt y : EReal) = k0_pay1 (F := Ideal) (iblk m c 0 t) (iblk m c 1 t) y := by
  rw [outsAt0_B m c t h0 h1]
  frame_out
  rfl

/-- An element of the product of two blocks. -/
theorem product_at (x0 : FVec Ideal S1024x512 .bf16) (x1 : FVec Ideal S512x2048 .bf16) (q : Fin 1024) (e : Fin 2048) :
    (k0_pay1 (F := Ideal) x0 x1 (ix2 q e) : EReal) = ∑ k : Fin 512, (x0 (ix2 q k) : EReal) * x1 (ix2 k e) := by
  pointwise [k0_pay1]

/-- A point's rows. -/
theorem rows_at (c : Dev nD) (t : Fin cfg0.N) (q : Fin 1024) (k : Fin 512) (r : Fin 16384) (hr : (r : ℕ) = t.val / 12 * 1024 + q) :
    ((iblk m c 0 t : FVec Ideal S1024x512 .bf16) (ix2 q k) : EReal) = (m ((c : Thread nD τ).loc main_arg0) : FVec Ideal S16384x512 .bf16) (ix2 r k) := by
  blk_ext [iblk, V, idx t]

/-- A point's columns of the weights. -/
theorem weights_at (c : Dev nD) (t : Fin cfg0.N) (k : Fin 512) (e : Fin 2048) (f : Fin 24576) (hf : (f : ℕ) = t.val % 12 * 2048 + e) :
    ((iblk m c 1 t : FVec Ideal S512x2048 .bf16) (ix2 k e) : EReal) = (m ((c : Thread nD τ).loc main_arg1) : FVec Ideal S512x24576 .bf16) (ix2 k f) := by
  blk_ext [iblk, V, idx t]

/-- A point's shared coordinates. -/
theorem shared_at (c : Dev nD) (t : Fin cfg0.N) (q : Fin 1024) (x : Fin 128) (r : Fin 16384) (hr : (r : ℕ) = t.val / 12 * 1024 + q) :
    ((iblk m c 2 t : FVec Ideal S1024x128 .f32) (ix2 q x) : EReal) = (m ((c : Thread nD τ).loc main_arg2) : FVec Ideal S16384x128 .f32) (ix2 r x) := by
  blk_ext [iblk, V, idx t]

/-- A point's element of the product. -/
theorem block_at (c : Dev nD) (t : Fin cfg0.N) (q : Fin 1024) (e : Fin 2048) (r : Fin 16384) (f : Fin 24576) (hr : (r : ℕ) = t.val / 12 * 1024 + q) (hf : (f : ℕ) = t.val % 12 * 2048 + e) :
    (k0_pay1 (F := Ideal) (iblk m c 0 t) (iblk m c 1 t) (ix2 q e) : EReal)
      = prod (m ((c : Thread nD τ).loc main_arg0)) (m ((c : Thread nD τ).loc main_arg1)) r f := by
  rw [product_at, prod]
  exact Finset.sum_congr rfl fun k _ => congrArg₂ (· * ·) (rows_at m c t q k r hr) (weights_at m c t k e f hf)

/-- An entry at equal places. -/
theorem entry_congr (X : FVec Ideal S16384x512 .bf16) (W : FVec Ideal S512x24576 .bf16) (R : FVec Ideal S16384x128 .f32) {r r' : Fin 16384} {e e' : Fin 24576}
    (hr : (r : ℕ) = r') (he : (e : ℕ) = e') : entry X W R r e = entry X W R r' e' := by
  rw [Fin.ext hr, Fin.ext he]

/-- What a grid point stores is the entries of its rows and columns. -/
theorem point (c : Dev nD) (t : Fin cfg0.N) (q : Fin 1024) (e : Fin 2048) (r : Fin 16384) (f : Fin 24576)
    (hr : (r : ℕ) = t.val / 12 * 1024 + q) (hf : (f : ℕ) = t.val % 12 * 2048 + e) :
    (outsAt0 m c t.val t.isLt (ix2 q e) : EReal)
      = entry (m ((c : Thread nD τ).loc main_arg0)) (m ((c : Thread nD τ).loc main_arg1)) (m ((c : Thread nD τ).loc main_arg2)) r f := by
  have he := e.isLt
  by_cases h0 : t.val % 12 ≤ 7
  · rw [key_block m c t h0 (by omega)]
    unfold tiles entry
    rw [if_pos (show (f : ℕ) < 16384 by omega)]
    by_cases h2 : (e : ℕ) / 128 % 2 = 0
    · rw [if_pos (show (f : ℕ) / 128 % 2 = 0 by omega)]
      exact (if_pos h2).trans (block_at m c t q e r f hr hf)
    · rw [if_neg (show ¬(f : ℕ) / 128 % 2 = 0 by omega)]
      refine (if_neg h2).trans (congrArg₂ (· + ·) (block_at m c t q e r f hr hf) ((shared_at m c t q _ r hr).trans ?_))
      refine congrArg (fun z => (m ((c : Thread nD τ).loc main_arg2) : FVec Ideal S16384x128 .f32) (ix2 r z)) (Fin.ext ?_)
      show (e : ℕ) % 128 = f % 128
      omega
  · rw [plain_block m c t h0 (by omega)]
    unfold entry
    rw [if_neg (by omega)]
    exact block_at m c t q e r f hr hf

/-- The array of entries after the run. -/
theorem final (c : Dev nD) : (dats m 0 c).arrAt 3 (cfgs 0).N
    = (fun i => entry (m ((c : Thread nD τ).loc main_arg0)) (m ((c : Thread nD τ).loc main_arg1)) (m ((c : Thread nD τ).loc main_arg2)) (i 0) (i 1)
        : FVec Ideal S16384x24576 .bf16) := by
  refine (dats m 0 c).arrAt_eq_of_covers 3 _ covers fun t _ y => ?_
  blk_simp
  rw [after0_3]
  obtain ⟨q, e, rfl⟩ : ∃ (q : Fin 1024) (e : Fin 2048), y = ix2 q e := ⟨y 0, y 1, by blk_ext⟩
  have ht : t.val < 192 := t.isLt
  refine (point m c t q e ⟨t.val / 12 * 1024 + q, by omega⟩ ⟨t.val % 12 * 2048 + e, by omega⟩ rfl rfl).trans ?_
  refine entry_congr _ _ _ ?_ ?_
  · blk_simp [idx t]
  · blk_simp [idx t]

end Cert.Kernel11Ideal.Value

namespace Cert.Reference11Ideal.Value
open Idealize.ShloMosaic Idealize.SL.Sem

/-- The reference's result, as an array. -/
theorem res_fun (X : FVec Ideal Cert.Reference11Ideal.S16384x512 .bf16) (W : FVec Ideal Cert.Reference11Ideal.S512x24576 .bf16) (R : FVec Ideal Cert.Reference11Ideal.S16384x128 .f32) :
    FU (FL (AD (KK (MM X W)) R)) (MM X W) = (fun i => entry X W R (i 0) (i 1) : FVec Ideal Cert.Reference11Ideal.S16384x24576 .bf16) := by
  funext i
  refine Eq.trans (congrArg (FU (FL (AD (KK (MM X W)) R)) (MM X W)) ?_) (res_at X W R (i 0) (i 1))
  funext a
  match a with
  | 0 => rfl
  | 1 => rfl

/-- The reference of the projection to keys and values ends with every counter at zero and its arguments unchanged. -/
theorem frame (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0) :=
  (θ_run Cert.Reference11Ideal.defs _ _).mono (fun r h => ⟨fun c => (h c).2, Idealize.ShloMosaic.sem_eq_zero_of_no_sems (by decide) r.2⟩)
    (Cert.Reference11Ideal.Value.run (F := Ideal) m g)

/-- The kernel of the projection to keys and values and its reference end with equal results. -/
theorem equal : Cert.algebraic_Kernel11Ideal_Reference11Ideal (hKernel11Ideal := Cert.Kernel11Ideal.Gen.facts) (hReference11Ideal := Cert.Reference11Ideal.Gen.facts) := by
  intro m g m' g' hpre hag
  refine ⟨fun c => (Cert.Kernel11Ideal.Gen.dats m 0 c).arrAt 3 Cert.Kernel11Ideal.cfg0.N, ?_, ?_⟩
  · exact Cert.Kernel11Ideal.Value.run_blocks m g
  · refine (θ_run Cert.Reference11Ideal.defs _ _).mono (fun r h c => ⟨(h c).1.trans ?_, (h c).2⟩) (Cert.Reference11Ideal.Value.run (F := Ideal) m' g')
    refine Eq.trans ?_ (Cert.Kernel11Ideal.Value.final m c).symm
    refine (stages _ _ _).trans ?_
    rw [(hag c).1, (hag c).2.1, (hag c).2.2]
    exact res_fun _ _ _

end Cert.Reference11Ideal.Value
end
-- ==== Proof.Proj.LatentIn.lean ====
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.Covers
public import Idealize.ShloMosaic.Lib.Claim
public import Idealize.ShloMosaic.Lib.Quiescent

/-!
The latent attention's projection to its latents: kernel and reference agree.
-/

@[expose] public section
set_option maxRecDepth 16384
noncomputable section
namespace Cert.Kernel12Ideal.Value
open Cert.Kernel12Ideal Cert.Kernel12Ideal.Gen Idealize.ShloMosaic Idealize.ShloMosaic.TcCoe Idealize.SL.Sem
open Idealize.ShloMosaic.Pipeline (Dat)
variable (m : (ℓ : Loc nD τ sig) → Buf (Elt Ideal) ℓ)

/-- The reference's result, from its arguments. -/
abbrev REF (X0 : FVec Ideal S16384x4096 .bf16) (X1 : FVec Ideal S4096x2304 .bf16) : FVec Ideal S16384x2304 .f32 :=
  Host.dotGeneral Cert.Reference12Ideal.dot_S16384x4096_S4096x2304_S16384x2304_1_0_0_1_n_n none (extf .f32 X0 Cert.Reference12Ideal.Gen.bitsLt_bf16_f32) (extf .f32 X1 Cert.Reference12Ideal.Gen.bitsLt_bf16_f32)

/-- The windows' block indices at every grid point. -/
theorem idx : ∀ t : Fin cfg0.N, win0_0.index t = ![t.val / 9, 0] ∧ win0_1.index t = ![0, t.val % 9] ∧ win0_2.index t = ![t.val / 9, t.val % 9] :=
  (by decide +kernel : ∀ t : Fin grid0.N, _)

/-- The output's blocks tile its array. -/
theorem covers : (cfg0.win 2).Covers :=
  (cfg0.win 2).covers_of_index_surj rfl (by decide) fun β => by
    have h0 : (β 0 : ℕ) < 16 := (β 0).isLt
    have h1 : (β 1 : ℕ) < 9 := (β 1).isLt
    refine ⟨⟨(β 0 : ℕ) * 9 + (β 1 : ℕ), by show _ < 144; omega⟩, fun a => ?_⟩
    refine (congrFun (idx ⟨(β 0 : ℕ) * 9 + (β 1 : ℕ), by show _ < 144; omega⟩).2.2 a).trans ?_
    match a with
    | 0 => show ((β 0 : ℕ) * 9 + (β 1 : ℕ)) / 9 = (β 0 : ℕ); omega
    | 1 => show ((β 0 : ℕ) * 9 + (β 1 : ℕ)) % 9 = (β 1 : ℕ); omega

/-- What a grid point stores is its block of the reference's result. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array of the projection to the latents after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ covers fun t _ y => ?_
  blk_simp
  rw [after0_2]
  frame_out
  exact point m c t y

end Cert.Kernel12Ideal.Value

namespace Cert.Reference12Ideal.Value
open Idealize.ShloMosaic Idealize.SL.Sem

/-- The reference of the projection to the latents ends with every counter at zero and its arguments unchanged. -/
theorem frame (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run Cert.Reference12Ideal.defs _ _).mono (fun r h => ⟨fun c => (h c).2, Idealize.ShloMosaic.sem_eq_zero_of_no_sems (by decide) r.2⟩)
    (Cert.Reference12Ideal.Value.run (F := Ideal) m g)

/-- The kernel of the projection to the latents and its reference end with equal results. -/
theorem equal : Cert.algebraic_Kernel12Ideal_Reference12Ideal (hKernel12Ideal := Cert.Kernel12Ideal.Gen.facts) (hReference12Ideal := Cert.Reference12Ideal.Gen.facts) := by
  intro m g m' g' hpre hag
  refine ⟨fun c => (Cert.Kernel12Ideal.Gen.dats m 0 c).arrAt 2 Cert.Kernel12Ideal.cfg0.N, ?_, ?_⟩
  · exact Cert.Kernel12Ideal.Value.run_blocks m g
  · refine (θ_run Cert.Reference12Ideal.defs _ _).mono (fun r h c => ⟨(h c).1.trans ?_, (h c).2⟩) (Cert.Reference12Ideal.Value.run (F := Ideal) m' g')
    refine Eq.trans ?_ (Cert.Kernel12Ideal.Value.final m c).symm
    rw [(hag c).1, (hag c).2]

end Cert.Reference12Ideal.Value
end
-- ==== Proof.Proj.ValueResidual.lean ====
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.Covers
public import Idealize.ShloMosaic.Lib.Claim
public import Idealize.ShloMosaic.Lib.Quiescent

/-!
The values of the recurrent layer mixed with the first layer's: kernel and reference agree.
-/

@[expose] public section
set_option maxRecDepth 16384
noncomputable section
namespace Cert.Kernel13Ideal.Value
open Cert.Kernel13Ideal Cert.Kernel13Ideal.Gen Idealize.ShloMosaic Idealize.ShloMosaic.TcCoe Idealize.SL.Sem
open Idealize.ShloMosaic.Pipeline (Dat)
variable (m : (ℓ : Loc nD τ sig) → Buf (Elt Ideal) ℓ)

/-- The reference's result, from its arguments. -/
abbrev REF (X0 : FVec Ideal S16384x128 .bf16) (X1 : FVec Ideal S128x4096 .bf16) (X2 : FVec Ideal S16384x4096 .f32) (X3 : FVec Ideal S16384x4096 .f32) (X4 : FVec Ideal S4096 .f32) : FVec Ideal S16384x4096 .f32 :=
  addf X2 (mulf (subf X3 X2) (Host.divf (broadcastInDim Cert.Reference13Ideal.S16384x4096 ![] Cert.Reference13Ideal.Gen.bcast_S_S16384x4096 (constant Cert.Reference13Ideal.S_ .f32 0x3F800000#32)) (addf (broadcastInDim Cert.Reference13Ideal.S16384x4096 ![] Cert.Reference13Ideal.Gen.bcast_S_S16384x4096 (constant Cert.Reference13Ideal.S_ .f32 0x3F800000#32)) (Host.exp (Host.negf (addf (broadcastInDim Cert.Reference13Ideal.S16384x4096 ![0, 1] Cert.Reference13Ideal.Gen.bcast_S1x4096_S16384x4096_0_1 (broadcastInDim Cert.Reference13Ideal.S1x4096 ![1] Cert.Reference13Ideal.Gen.bcast_S4096_S1x4096_1 X4)) (Host.dotGeneral Cert.Reference13Ideal.dot_S16384x128_S128x4096_S16384x4096_1_0_0_1_n_n none (extf .f32 X0 Cert.Reference13Ideal.Gen.bitsLt_bf16_f32) (extf .f32 X1 Cert.Reference13Ideal.Gen.bitsLt_bf16_f32))))))))

/-- The windows' block indices at every grid point. -/
theorem idx : ∀ t : Fin cfg0.N, win0_0.index t = ![t.val / 8, 0] ∧ win0_1.index t = ![0, t.val % 8] ∧ win0_2.index t = ![t.val / 8, t.val % 8] ∧ win0_3.index t = ![t.val / 8, t.val % 8]
    ∧ win0_4.index t = ![0, t.val % 8] ∧ win0_5.index t = ![t.val / 8, t.val % 8] :=
  (by decide +kernel : ∀ t : Fin grid0.N, _)

/-- The output's blocks tile its array. -/
theorem covers : (cfg0.win 5).Covers :=
  (cfg0.win 5).covers_of_index_surj rfl (by decide) fun β => by
    have h0 : (β 0 : ℕ) < 16 := (β 0).isLt
    have h1 : (β 1 : ℕ) < 8 := (β 1).isLt
    refine ⟨⟨(β 0 : ℕ) * 8 + (β 1 : ℕ), by show _ < 128; omega⟩, fun a => ?_⟩
    refine (congrFun (idx ⟨(β 0 : ℕ) * 8 + (β 1 : ℕ), by show _ < 128; omega⟩).2.2.2.2.2 a).trans ?_
    match a with
    | 0 => show ((β 0 : ℕ) * 8 + (β 1 : ℕ)) / 8 = (β 0 : ℕ); omega
    | 1 => show ((β 0 : ℕ) * 8 + (β 1 : ℕ)) % 8 = (β 1 : ℕ); omega

/-- What a grid point stores is its block of the reference's result. -/
theorem point (c : Dev nD) (t : Fin cfg0.N) (y) : k0_pay1 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, REF]
  simp only [Ideal.logistic]
  blk_point [iblk, V, idx t]

/-- The array of the values of the recurrent layer mixed with the first layer's after the run. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ covers fun t _ y => ?_
  blk_simp
  rw [after0_5]
  frame_out
  exact point m c t y

end Cert.Kernel13Ideal.Value

namespace Cert.Reference13Ideal.Value
open Idealize.ShloMosaic Idealize.SL.Sem

/-- The reference of the values of the recurrent layer mixed with the first layer's ends with every counter at zero and its arguments unchanged. -/
theorem frame (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0) :=
  (θ_run Cert.Reference13Ideal.defs _ _).mono (fun r h => ⟨fun c => (h c).2, Idealize.ShloMosaic.sem_eq_zero_of_no_sems (by decide) r.2⟩)
    (Cert.Reference13Ideal.Value.run (F := Ideal) m g)

/-- The kernel of the values of the recurrent layer mixed with the first layer's and its reference end with equal results. -/
theorem equal : Cert.algebraic_Kernel13Ideal_Reference13Ideal (hKernel13Ideal := Cert.Kernel13Ideal.Gen.facts) (hReference13Ideal := Cert.Reference13Ideal.Gen.facts) := by
  intro m g m' g' hpre hag
  refine ⟨fun c => (Cert.Kernel13Ideal.Gen.dats m 0 c).arrAt 5 Cert.Kernel13Ideal.cfg0.N, ?_, ?_⟩
  · exact Cert.Kernel13Ideal.Value.run_blocks m g
  · refine (θ_run Cert.Reference13Ideal.defs _ _).mono (fun r h c => ⟨(h c).1.trans ?_, (h c).2⟩) (Cert.Reference13Ideal.Value.run (F := Ideal) m' g')
    refine Eq.trans ?_ (Cert.Kernel13Ideal.Value.final m c).symm
    rw [(hag c).1, (hag c).2.1, (hag c).2.2.1, (hag c).2.2.2.1, (hag c).2.2.2.2]

end Cert.Reference13Ideal.Value
end
-- ==== Proof.Norm.Hidden.lean ====
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.Covers
public import Idealize.ShloMosaic.Lib.Claim
public import Idealize.ShloMosaic.Lib.Quiescent

/-!
The normalisation before a mixer or a feed-forward layer: kernel and reference agree.
-/

@[expose] public section
set_option maxRecDepth 16384
noncomputable section
namespace Cert.Kernel14Ideal.Value
open Cert.Kernel14Ideal Cert.Kernel14Ideal.Gen Idealize.ShloMosaic Idealize.ShloMosaic.TcCoe Idealize.SL.Sem
open Idealize.ShloMosaic.Pipeline (Dat)
variable (m : (ℓ : Loc nD τ sig) → Buf (Elt Ideal) ℓ)

/-- The reference's result, from its arguments. -/
abbrev REF (X0 : FVec Ideal S16384x4096 .f32) (X1 : FVec Ideal S4096 .f32) : FVec Ideal S16384x4096 .bf16 :=
  truncf .bf16 (mulf (mulf X0 (broadcastInDim Cert.Reference14Ideal.S16384x4096 ![0, 1] Cert.Reference14Ideal.Gen.bcast_S16384x1_S16384x4096_0_1 (Host.rsqrt (addf (Host.divf (broadcastInDim Cert.Reference14Ideal.S16384x1 ![0] Cert.Reference14Ideal.Gen.bcast_S16384_S16384x1_0 (Host.reduceAdd (mulf X0 X0) (constant Cert.Reference14Ideal.S_ .f32 0x00000000#32) Cert.Reference14Ideal.Gen.reducesTo_S16384x4096_S16384_d1 Cert.Reference14Ideal.Gen.h_S_)) (broadcastInDim Cert.Reference14Ideal.S16384x1 ![] Cert.Reference14Ideal.Gen.bcast_S_S16384x1 (constant Cert.Reference14Ideal.S_ .f32 0x45800000#32))) (broadcastInDim Cert.Reference14Ideal.S16384x1 ![] Cert.Reference14Ideal.Gen.bcast_S_S16384x1 (constant Cert.Reference14Ideal.S_ .f32 0x358637BD#32)))))) (broadcastInDim Cert.Reference14Ideal.S16384x4096 ![0, 1] Cert.Reference14Ideal.Gen.bcast_S1x4096_S16384x4096_0_1 (broadcastInDim Cert.Reference14Ideal.S1x4096 ![1] Cert.Reference14Ideal.Gen.bcast_S4096_S1x4096_1 X1))) Cert.Reference14Ideal.Gen.bitsLt_bf16_f32

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, _)

/-- The output's blocks tile its array. -/
theorem covers : (cfg0.win 2).Covers :=
  (cfg0.win 2).covers_of_index_surj rfl (by decide) fun β => by
    have h0 : (β 0 : ℕ) < 32 := (β 0).isLt
    have h1 : (β 1 : ℕ) < 1 := (β 1).isLt
    refine ⟨⟨(β 0 : ℕ), by show _ < 32; omega⟩, fun a => ?_⟩
    refine (congrFun (idx ⟨(β 0 : ℕ), by show _ < 32; omega⟩).2.2 a).trans ?_
    match a with
    | 0 => rfl
    | 1 => show 0 = (β 1 : ℕ); omega

/-- What a grid point stores is its block of the reference's result. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The array of the normalisation before a mixer or a feed-forward layer after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ covers fun t _ y => ?_
  blk_simp
  rw [after0_2]
  frame_out
  exact point m c t y

end Cert.Kernel14Ideal.Value

namespace Cert.Reference14Ideal.Value
open Idealize.ShloMosaic Idealize.SL.Sem

/-- The reference of the normalisation before a mixer or a feed-forward layer ends with every counter at zero and its arguments unchanged. -/
theorem frame (m : (ℓ : Loc Cert.Reference14Ideal.nD Cert.Reference14Ideal.τ Cert.Reference14Ideal.sig) → Buf (Elt Ideal) ℓ) (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0) :=
  (θ_run Cert.Reference14Ideal.defs _ _).mono (fun r h => ⟨fun c => (h c).2, Idealize.ShloMosaic.sem_eq_zero_of_no_sems (by decide) r.2⟩)
    (Cert.Reference14Ideal.Value.run (F := Ideal) m g)

/-- The kernel of the normalisation before a mixer or a feed-forward layer and its reference end with equal results. -/
theorem equal : Cert.algebraic_Kernel14Ideal_Reference14Ideal (hKernel14Ideal := Cert.Kernel14Ideal.Gen.facts) (hReference14Ideal := Cert.Reference14Ideal.Gen.facts) := by
  intro m g m' g' hpre hag
  refine ⟨fun c => (Cert.Kernel14Ideal.Gen.dats m 0 c).arrAt 2 Cert.Kernel14Ideal.cfg0.N, ?_, ?_⟩
  · exact Cert.Kernel14Ideal.Value.run_blocks m g
  · refine (θ_run Cert.Reference14Ideal.defs _ _).mono (fun r h c => ⟨(h c).1.trans ?_, (h c).2⟩) (Cert.Reference14Ideal.Value.run (F := Ideal) m' g')
    refine Eq.trans ?_ (Cert.Kernel14Ideal.Value.final m c).symm
    rw [(hag c).1, (hag c).2]

end Cert.Reference14Ideal.Value
end
-- ==== Proof.Norm.LatentQ.lean ====
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.Covers
public import Idealize.ShloMosaic.Lib.Claim
public import Idealize.ShloMosaic.Lib.Quiescent

/-!
The normalisation of the latent attention's query latents: kernel and reference agree.
-/

@[expose] public section
set_option maxRecDepth 16384
noncomputable section
namespace Cert.Kernel15Ideal.Value
open Cert.Kernel15Ideal Cert.Kernel15Ideal.Gen Idealize.ShloMosaic Idealize.ShloMosaic.TcCoe Idealize.SL.Sem
open Idealize.ShloMosaic.Pipeline (Dat)
variable (m : (ℓ : Loc nD τ sig) → Buf (Elt Ideal) ℓ)

/-- The reference's result, from its arguments. -/
abbrev REF (X0 : FVec Ideal S16384x2304 .f32) (X1 : FVec Ideal S1536 .f32) : FVec Ideal S16384x1536 .bf16 :=
  truncf .bf16 (mulf (mulf (extractStridedSlice Cert.Reference15Ideal.S16384x1536 ![0, 0] X0 Cert.Reference15Ideal.Gen.slices_S16384x2304_S16384x1536_0_0) (broadcastInDim Cert.Reference15Ideal.S16384x1536 ![0, 1] Cert.Reference15Ideal.Gen.bcast_S16384x1_S16384x1536_0_1 (Host.rsqrt (addf (Host.divf (broadcastInDim Cert.Reference15Ideal.S16384x1 ![0] Cert.Reference15Ideal.Gen.bcast_S16384_S16384x1_0 (Host.reduceAdd (mulf (extractStridedSlice Cert.Reference15Ideal.S16384x1536 ![0, 0] X0 Cert.Reference15Ideal.Gen.slices_S16384x2304_S16384x1536_0_0) (extractStridedSlice Cert.Reference15Ideal.S16384x1536 ![0, 0] X0 Cert.Reference15Ideal.Gen.slices_S16384x2304_S16384x1536_0_0)) (constant Cert.Reference15Ideal.S_ .f32 0x00000000#32) Cert.Reference15Ideal.Gen.reducesTo_S16384x1536_S16384_d1 Cert.Reference15Ideal.Gen.h_S_)) (broadcastInDim Cert.Reference15Ideal.S16384x1 ![] Cert.Reference15Ideal.Gen.bcast_S_S16384x1 (constant Cert.Reference15Ideal.S_ .f32 0x44C00000#32))) (broadcastInDim Cert.Reference15Ideal.S16384x1 ![] Cert.Reference15Ideal.Gen.bcast_S_S16384x1 (constant Cert.Reference15Ideal.S_ .f32 0x358637BD#32)))))) (broadcastInDim Cert.Reference15Ideal.S16384x1536 ![0, 1] Cert.Reference15Ideal.Gen.bcast_S1x1536_S16384x1536_0_1 (broadcastInDim Cert.Reference15Ideal.S1x1536 ![1] Cert.Reference15Ideal.Gen.bcast_S1536_S1x1536_1 X1))) Cert.Reference15Ideal.Gen.bitsLt_bf16_f32

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, _)

/-- The output's blocks tile its array. -/
theorem covers : (cfg0.win 2).Covers :=
  (cfg0.win 2).covers_of_index_surj rfl (by decide) fun β => by
    have h0 : (β 0 : ℕ) < 32 := (β 0).isLt
    have h1 : (β 1 : ℕ) < 1 := (β 1).isLt
    refine ⟨⟨(β 0 : ℕ), by show _ < 32; omega⟩, fun a => ?_⟩
    refine (congrFun (idx ⟨(β 0 : ℕ), by show _ < 32; omega⟩).2.2 a).trans ?_
    match a with
    | 0 => rfl
    | 1 => show 0 = (β 1 : ℕ); omega

/-- The rows a grid point reads. -/
def rows (c : Dev nD) (t : Fin cfg0.N) : FVec Ideal S512x1536 .f32 := fun j =>
  m ((c : Thread nD τ).loc main_arg0) (ix2 ⟨t.val * 512 + (j 0).val, by have := t.isLt; have : t.val < 32 := this; have : (j 0).val < 512 := (j 0).isLt; omega⟩
    ⟨0 + (j 1).val, by have : (j 1).val < 1536 := (j 1).isLt; omega⟩)

/-- The block the body finds at a grid point. -/
theorem fetched_rows (c : Dev nD) (t : Fin cfg0.N) : X0_0 m c t = rows m c t := by
  funext j
  unfold X0_0 Pipeline.Window.fill
  rw [dif_pos (moved0_0 t j)]
  refine congrArg (m ((c : Thread nD τ).loc main_arg0)) ?_
  funext a
  refine Fin.ext ?_
  match a with
  | 0 => show win0_0.index t 0 * 512 + 1 * (j 0).val = _; rw [(idx t).1]; show t.val * 512 + 1 * (j 0).val = t.val * 512 + (j 0).val; omega
  | 1 => show win0_0.index t 1 * 1536 + 1 * (j 1).val = _; rw [(idx t).1]; show 0 * 1536 + 1 * (j 1).val = 0 + (j 1).val; omega

/-- What a grid point stores is its block of the reference's result. -/
theorem point (c : Dev nD) (t : Fin cfg0.N) (y) : k0_pay1 (rows m c t) (iblk m c 1 t) y
    = REF (m ((c : Thread nD τ).loc main_arg0)) (m ((c : Thread nD τ).loc main_arg1)) (((cfg0.win 2).blk t).view.emb y) := by
  pointwise [k0_pay1, REF, rows]
  blk_point [iblk, V, idx t]

/-- The array of the normalisation of the latent attention's query latents after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ covers fun t _ y => ?_
  blk_simp
  rw [after0_2]
  unfold outsAt0
  rw [fetched_rows]
  frame_out
  exact point m c t y

end Cert.Kernel15Ideal.Value

namespace Cert.Reference15Ideal.Value
open Idealize.ShloMosaic Idealize.SL.Sem

/-- The reference of the normalisation of the latent attention's query latents ends with every counter at zero and its arguments unchanged. -/
theorem frame (m : (ℓ : Loc Cert.Reference15Ideal.nD Cert.Reference15Ideal.τ Cert.Reference15Ideal.sig) → Buf (Elt Ideal) ℓ) (g : Dev Cert.Reference15Ideal.nD → PrngReg) :
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0) :=
  (θ_run Cert.Reference15Ideal.defs _ _).mono (fun r h => ⟨fun c => (h c).2, Idealize.ShloMosaic.sem_eq_zero_of_no_sems (by decide) r.2⟩)
    (Cert.Reference15Ideal.Value.run (F := Ideal) m g)

/-- The kernel of the normalisation of the latent attention's query latents and its reference end with equal results. -/
theorem equal : Cert.algebraic_Kernel15Ideal_Reference15Ideal (hKernel15Ideal := Cert.Kernel15Ideal.Gen.facts) (hReference15Ideal := Cert.Reference15Ideal.Gen.facts) := by
  intro m g m' g' hpre hag
  refine ⟨fun c => (Cert.Kernel15Ideal.Gen.dats m 0 c).arrAt 2 Cert.Kernel15Ideal.cfg0.N, ?_, ?_⟩
  · exact Cert.Kernel15Ideal.Value.run_blocks m g
  · refine (θ_run Cert.Reference15Ideal.defs _ _).mono (fun r h c => ⟨(h c).1.trans ?_, (h c).2⟩) (Cert.Reference15Ideal.Value.run (F := Ideal) m' g')
    refine Eq.trans ?_ (Cert.Kernel15Ideal.Value.final m c).symm
    rw [(hag c).1, (hag c).2]

end Cert.Reference15Ideal.Value
end
-- ==== Proof.Norm.LatentKv.lean ====
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.Covers
public import Idealize.ShloMosaic.Lib.Claim
public import Idealize.ShloMosaic.Lib.Quiescent

/-!
The normalisation of the latent attention's key and value latents: kernel and reference agree.
-/

@[expose] public section
set_option maxRecDepth 16384
noncomputable section
namespace Cert.Kernel16Ideal.Value
open Cert.Kernel16Ideal Cert.Kernel16Ideal.Gen Idealize.ShloMosaic Idealize.ShloMosaic.TcCoe Idealize.SL.Sem
open Idealize.ShloMosaic.Pipeline (Dat)
variable (m : (ℓ : Loc nD τ sig) → Buf (Elt Ideal) ℓ)

/-- The reference's result, from its arguments. -/
abbrev REF (X0 : FVec Ideal S16384x2304 .f32) (X1 : FVec Ideal S512 .f32) : FVec Ideal S16384x512 .bf16 :=
  truncf .bf16 (mulf (mulf (extractStridedSlice Cert.Reference16Ideal.S16384x512 ![0, 1536] X0 Cert.Reference16Ideal.Gen.slices_S16384x2304_S16384x512_0_1536) (broadcastInDim Cert.Reference16Ideal.S16384x512 ![0, 1] Cert.Reference16Ideal.Gen.bcast_S16384x1_S16384x512_0_1 (Host.rsqrt (addf (Host.divf (broadcastInDim Cert.Reference16Ideal.S16384x1 ![0] Cert.Reference16Ideal.Gen.bcast_S16384_S16384x1_0 (Host.reduceAdd (mulf (extractStridedSlice Cert.Reference16Ideal.S16384x512 ![0, 1536] X0 Cert.Reference16Ideal.Gen.slices_S16384x2304_S16384x512_0_1536) (extractStridedSlice Cert.Reference16Ideal.S16384x512 ![0, 1536] X0 Cert.Reference16Ideal.Gen.slices_S16384x2304_S16384x512_0_1536)) (constant Cert.Reference16Ideal.S_ .f32 0x00000000#32) Cert.Reference16Ideal.Gen.reducesTo_S16384x512_S16384_d1 Cert.Reference16Ideal.Gen.h_S_)) (broadcastInDim Cert.Reference16Ideal.S16384x1 ![] Cert.Reference16Ideal.Gen.bcast_S_S16384x1 (constant Cert.Reference16Ideal.S_ .f32 0x44000000#32))) (broadcastInDim Cert.Reference16Ideal.S16384x1 ![] Cert.Reference16Ideal.Gen.bcast_S_S16384x1 (constant Cert.Reference16Ideal.S_ .f32 0x358637BD#32)))))) (broadcastInDim Cert.Reference16Ideal.S16384x512 ![0, 1] Cert.Reference16Ideal.Gen.bcast_S1x512_S16384x512_0_1 (broadcastInDim Cert.Reference16Ideal.S1x512 ![1] Cert.Reference16Ideal.Gen.bcast_S512_S1x512_1 X1))) Cert.Reference16Ideal.Gen.bitsLt_bf16_f32

/-- The windows' block indices at every grid point. -/
theorem idx : ∀ t : Fin cfg0.N, win0_0.index t = ![t.val, 3] ∧ win0_1.index t = ![0, 0] ∧ win0_2.index t = ![t.val, 0] :=
  (by decide +kernel : ∀ t : Fin grid0.N, _)

/-- The output's blocks tile its array. -/
theorem covers : (cfg0.win 2).Covers :=
  (cfg0.win 2).covers_of_index_surj rfl (by decide) fun β => by
    have h0 : (β 0 : ℕ) < 32 := (β 0).isLt
    have h1 : (β 1 : ℕ) < 1 := (β 1).isLt
    refine ⟨⟨(β 0 : ℕ), by show _ < 32; omega⟩, fun a => ?_⟩
    refine (congrFun (idx ⟨(β 0 : ℕ), by show _ < 32; omega⟩).2.2 a).trans ?_
    match a with
    | 0 => rfl
    | 1 => show 0 = (β 1 : ℕ); omega

/-- The rows a grid point reads. -/
def rows (c : Dev nD) (t : Fin cfg0.N) : FVec Ideal S512x512 .f32 := fun j =>
  m ((c : Thread nD τ).loc main_arg0) (ix2 ⟨t.val * 512 + (j 0).val, by have := t.isLt; have : t.val < 32 := this; have : (j 0).val < 512 := (j 0).isLt; omega⟩
    ⟨1536 + (j 1).val, by have : (j 1).val < 512 := (j 1).isLt; omega⟩)

/-- The block the body finds at a grid point. -/
theorem fetched_rows (c : Dev nD) (t : Fin cfg0.N) : X0_0 m c t = rows m c t := by
  funext j
  unfold X0_0 Pipeline.Window.fill
  rw [dif_pos (moved0_0 t j)]
  refine congrArg (m ((c : Thread nD τ).loc main_arg0)) ?_
  funext a
  refine Fin.ext ?_
  match a with
  | 0 => show win0_0.index t 0 * 512 + 1 * (j 0).val = _; rw [(idx t).1]; show t.val * 512 + 1 * (j 0).val = t.val * 512 + (j 0).val; omega
  | 1 => show win0_0.index t 1 * 512 + 1 * (j 1).val = _; rw [(idx t).1]; show 3 * 512 + 1 * (j 1).val = 1536 + (j 1).val; omega

/-- What a grid point stores is its block of the reference's result. -/
theorem point (c : Dev nD) (t : Fin cfg0.N) (y) : k0_pay1 (rows m c t) (iblk m c 1 t) y
    = REF (m ((c : Thread nD τ).loc main_arg0)) (m ((c : Thread nD τ).loc main_arg1)) (((cfg0.win 2).blk t).view.emb y) := by
  pointwise [k0_pay1, REF, rows]
  blk_point [iblk, V, idx t]

/-- The array of the normalisation of the latent attention's key and value latents after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ covers fun t _ y => ?_
  blk_simp
  rw [after0_2]
  unfold outsAt0
  rw [fetched_rows]
  frame_out
  exact point m c t y

end Cert.Kernel16Ideal.Value

namespace Cert.Reference16Ideal.Value
open Idealize.ShloMosaic Idealize.SL.Sem

/-- The reference of the normalisation of the latent attention's key and value latents ends with every counter at zero and its arguments unchanged. -/
theorem frame (m : (ℓ : Loc Cert.Reference16Ideal.nD Cert.Reference16Ideal.τ Cert.Reference16Ideal.sig) → Buf (Elt Ideal) ℓ) (g : Dev Cert.Reference16Ideal.nD → PrngReg) :
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0) :=
  (θ_run Cert.Reference16Ideal.defs _ _).mono (fun r h => ⟨fun c => (h c).2, Idealize.ShloMosaic.sem_eq_zero_of_no_sems (by decide) r.2⟩)
    (Cert.Reference16Ideal.Value.run (F := Ideal) m g)

/-- The kernel of the normalisation of the latent attention's key and value latents and its reference end with equal results. -/
theorem equal : Cert.algebraic_Kernel16Ideal_Reference16Ideal (hKernel16Ideal := Cert.Kernel16Ideal.Gen.facts) (hReference16Ideal := Cert.Reference16Ideal.Gen.facts) := by
  intro m g m' g' hpre hag
  refine ⟨fun c => (Cert.Kernel16Ideal.Gen.dats m 0 c).arrAt 2 Cert.Kernel16Ideal.cfg0.N, ?_, ?_⟩
  · exact Cert.Kernel16Ideal.Value.run_blocks m g
  · refine (θ_run Cert.Reference16Ideal.defs _ _).mono (fun r h c => ⟨(h c).1.trans ?_, (h c).2⟩) (Cert.Reference16Ideal.Value.run (F := Ideal) m' g')
    refine Eq.trans ?_ (Cert.Kernel16Ideal.Value.final m c).symm
    rw [(hag c).1, (hag c).2]

end Cert.Reference16Ideal.Value
end
-- ==== Proof.Rope.SharedKeyReference.lean ====
module

public import proofs.«01_k».proof.Proof.Gen.Reference17Ideal.Run
public import Idealize.ShloMosaic.Lib.Pipeline.ValueKit
public import proofs.«01_k».proof.Proof.Rope.Spec

/-!
The reference of the rotation of the latent attention's shared key coordinates.
-/

@[expose] public section
set_option maxRecDepth 16384
noncomputable section
namespace Cert.Reference17Ideal.Value
open Cert.Reference17Ideal Cert.Reference17Ideal.Gen Idealize.ShloMosaic Idealize.ShloMosaic.TcCoe Idealize.SL.Sem
open Cert.Rope

/-- The angles. -/
def ANG : FVec Ideal S2048x32 .f32 := (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x48F42400#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32))))))))

/-- Their cosines. -/
def COS : FVec Ideal S2048x32 .f32 := Host.cos ANG

/-- Their sines. -/
def SIN : FVec Ideal S2048x32 .f32 := Host.sin ANG

/-- The turned coordinates. -/
def TU (x : FVec Ideal S8x2048x1x128 .f32) : FVec Ideal S8x2048x1x128 .f32 :=
  ((concatenate S8x2048x1x128 3 [⟨S8x2048x1x32, ((subf (mulf (extractStridedSlice S8x2048x1x32 ![0, 0, 0, 0] x slices_S8x2048x1x128_S8x2048x1x32_0_0_0_0) (broadcastInDim S8x2048x1x32 ![0, 1, 2, 3] bcast_S1x2048x1x32_S8x2048x1x32_0_1_2_3 (broadcastInDim S1x2048x1x32 ![1, 3] bcast_S2048x32_S1x2048x1x32_1_3 COS))) (mulf (extractStridedSlice S8x2048x1x32 ![0, 0, 0, 32] x slices_S8x2048x1x128_S8x2048x1x32_0_0_0_32) (broadcastInDim S8x2048x1x32 ![0, 1, 2, 3] bcast_S1x2048x1x32_S8x2048x1x32_0_1_2_3 (broadcastInDim S1x2048x1x32 ![1, 3] bcast_S2048x32_S1x2048x1x32_1_3 SIN)))) : (⟨S8x2048x1x32, .f32⟩ : BufTy).Contents (Elt Ideal))⟩, ⟨S8x2048x1x32, ((addf (mulf (extractStridedSlice S8x2048x1x32 ![0, 0, 0, 32] x slices_S8x2048x1x128_S8x2048x1x32_0_0_0_32) (broadcastInDim S8x2048x1x32 ![0, 1, 2, 3] bcast_S1x2048x1x32_S8x2048x1x32_0_1_2_3 (broadcastInDim S1x2048x1x32 ![1, 3] bcast_S2048x32_S1x2048x1x32_1_3 COS))) (mulf (extractStridedSlice S8x2048x1x32 ![0, 0, 0, 0] x slices_S8x2048x1x128_S8x2048x1x32_0_0_0_0) (broadcastInDim S8x2048x1x32 ![0, 1, 2, 3] bcast_S1x2048x1x32_S8x2048x1x32_0_1_2_3 (broadcastInDim S1x2048x1x32 ![1, 3] bcast_S2048x32_S1x2048x1x32_1_3 SIN)))) : (⟨S8x2048x1x32, .f32⟩ : BufTy).Contents (Elt Ideal))⟩, ⟨S8x2048x1x64, ((extractStridedSlice S8x2048x1x64 ![0, 0, 0, 64] x slices_S8x2048x1x128_S8x2048x1x64_0_0_0_64) : (⟨S8x2048x1x64, .f32⟩ : BufTy).Contents (Elt Ideal))⟩] concatenates_S8x2048x1x32_S8x2048x1x32_S8x2048x1x64_S8x2048x1x128_d3 : (⟨S8x2048x1x128, .f32⟩ : BufTy).Contents (Elt Ideal)))

/-- The shared coordinates, row by row. -/
def SH (X : FVec Ideal S16384x2304 .f32) : FVec Ideal S16384x128 .f32 :=
  shapeCast _ (TU (shapeCast _ (extractStridedSlice S16384x128 ![0, 2048] X slices_S16384x2304_S16384x128_0_2048) shapeCasts_S16384x128_S8x2048x1x128)) shapeCasts_S8x2048x1x128_S16384x128

/-- The reference's result is the shared coordinates of its argument. -/
theorem res_eq (m : (ℓ : Loc nD τ sig) → Buf (Elt Ideal) ℓ) (c : Dev nD) : res_out0 m c = SH (m (c.tc.loc main_arg0)) := by
  unfold res_out0 res_main_v37 SH TU COS SIN ANG
  rfl

/-- Coordinate `y` of row `r`'s shared key. -/
def shared (X : FVec Ideal S16384x2304 .f32) (r : Fin 16384) (y : Fin 128) : EReal :=
  turned 32 (by norm_num) (fun z => X (ix2 r ⟨2048 + z, by omega⟩)) (fun i => COS (ix2 ⟨r % 2048, Nat.mod_lt _ (by norm_num)⟩ i))
    (fun i => SIN (ix2 ⟨r % 2048, Nat.mod_lt _ (by norm_num)⟩ i)) y

/-- The turned coordinates read. -/
theorem TU_at (x : FVec Ideal S8x2048x1x128 .f32) (b : Fin 8) (t : Fin 2048) (h : Fin 1) (y : Fin 128) :
    (TU x (ix4 b t h y) : EReal) = turned 32 (by norm_num) (fun z => x (ix4 b t h z)) (fun i => COS (ix2 t i)) (fun i => SIN (ix2 t i)) y := by
  pointwise [TU, turned]
  blk_point []
  all_goals (exfalso; omega)

/-- The shared coordinates are the turned ones of the row's columns. -/
theorem SH_at (X : FVec Ideal S16384x2304 .f32) (b : Fin 8) (t : Fin 2048) (y : Fin 128) :
    (SH X (ix2 ⟨b * 2048 + t, by omega⟩ y) : EReal)
      = TU (shapeCast _ (extractStridedSlice S16384x128 ![0, 2048] X slices_S16384x2304_S16384x128_0_2048) shapeCasts_S16384x128_S8x2048x1x128) (ix4 b t 0 y) := by
  pointwise [SH]

/-- The columns turned. -/
theorem columns_at (X : FVec Ideal S16384x2304 .f32) (b : Fin 8) (t : Fin 2048) (y : Fin 128) :
    (((shapeCast _ (extractStridedSlice S16384x128 ![0, 2048] X slices_S16384x2304_S16384x128_0_2048) shapeCasts_S16384x128_S8x2048x1x128) : FVec Ideal S8x2048x1x128 .f32) (ix4 b t 0 y) : EReal) = X (ix2 ⟨b * 2048 + t, by omega⟩ ⟨2048 + y, by omega⟩) := by
  pointwise []

/-- The reference's result is the shared coordinates. -/
theorem res_at (X : FVec Ideal S16384x2304 .f32) (b : Fin 8) (t : Fin 2048) (y : Fin 128) :
    (SH X (ix2 ⟨b * 2048 + t, by omega⟩ y) : EReal) = shared X ⟨b * 2048 + t, by omega⟩ y := by
  have ht : (⟨(b * 2048 + t : ℕ) % 2048, Nat.mod_lt _ (by norm_num)⟩ : Fin 2048) = t := Fin.ext (by show (b * 2048 + t : ℕ) % 2048 = t; omega)
  rw [SH_at, TU_at, shared]
  simp only [columns_at, ht]

end Cert.Reference17Ideal.Value
end
-- ==== Proof.Rope.SharedKey.lean ====
module

public import proofs.«01_k».proof.Defs
public import proofs.«01_k».proof.Proof.Gen.Kernel17Ideal.Value
public import proofs.«01_k».proof.Proof.Rope.SharedKeyReference
public import Idealize.ShloMosaic.Lib.Pipeline.Covers
public import Idealize.ShloMosaic.Lib.Claim
public import Idealize.ShloMosaic.Lib.StableHlo.RunRead
public import Idealize.ShloMosaic.Lib.Quiescent

/-!
The rotation of the latent attention's shared key coordinates: kernel and reference agree.
-/

@[expose] public section
set_option maxRecDepth 16384
noncomputable section
namespace Cert.Kernel17Ideal.Value
open Cert.Kernel17Ideal Cert.Kernel17Ideal.Gen Idealize.ShloMosaic Idealize.ShloMosaic.TcCoe Idealize.SL.Sem
open Idealize.ShloMosaic.Pipeline (Dat)
open Cert.Rope
open Cert.Reference17Ideal.Value (COS SIN ANG shared)
variable (m : (ℓ : Loc nD τ sig) → Buf (Elt Ideal) ℓ)

/-- The windows' block indices at every grid point. -/
theorem idx : ∀ t : Fin cfg0.N, win0_0.index t = ![t.val, 16] ∧ win0_1.index t = ![t.val % 4, 0] ∧ win0_2.index t = ![t.val % 4, 0]
    ∧ win0_3.index t = ![t.val % 4, 0] ∧ win0_4.index t = ![t.val, 0] :=
  (by decide +kernel : ∀ t : Fin grid0.N, _)

/-- The output's blocks tile its array. -/
theorem covers : (cfg0.win 4).Covers :=
  (cfg0.win 4).covers_of_index_surj rfl (by decide) fun β => by
    have h0 : (β 0 : ℕ) < 32 := (β 0).isLt
    have h1 : (β 1 : ℕ) < 1 := (β 1).isLt
    refine ⟨⟨(β 0 : ℕ), by show _ < 32; omega⟩, fun a => ?_⟩
    refine (congrFun (idx ⟨(β 0 : ℕ), by show _ < 32; omega⟩).2.2.2.2 a).trans ?_
    match a with
    | 0 => rfl
    | 1 => show 0 = (β 1 : ℕ); omega

/-- What a point stores, from its blocks. -/
theorem stored (x0 x1 x2 x3 : FVec Ideal S512x128 .f32) (q : Fin 512) (x : Fin 128) :
    (k0_pay1 (F := Ideal) x0 x1 x2 x3 (ix2 q x) : EReal) = x0 (ix2 q x) * x1 (ix2 q x)
      + x0 (ix2 q ⟨((x : ℕ) + 128 - 96) % 128, Nat.mod_lt _ (by norm_num)⟩) * x2 (ix2 q x)
      + x0 (ix2 q ⟨((x : ℕ) + 128 - 32) % 128, Nat.mod_lt _ (by norm_num)⟩) * x3 (ix2 q x) := by
  pointwise [k0_pay1]

/-- A point's columns. -/
theorem columns_at (c : Dev nD) (t : Fin cfg0.N) (q : Fin 512) (x : Fin 128) (r : Fin 16384) (hr : (r : ℕ) = t.val * 512 + q) :
    ((iblk m c 0 t : FVec Ideal S512x128 .f32) (ix2 q x) : EReal) = (m ((c : Thread nD τ).loc main_arg0) : FVec Ideal S16384x2304 .f32) (ix2 r ⟨2048 + x, by omega⟩) := by
  blk_ext [iblk, V, idx t]

/-- The tables, from the cosines and sines. -/
def tab0 : FVec Ideal S2048x128 .f32 :=
  concatenate S2048x128 1 [⟨S2048x32, (COS : FVec Ideal S2048x32 .f32)⟩, ⟨S2048x32, (COS : FVec Ideal S2048x32 .f32)⟩,
    ⟨S2048x64, (broadcastInDim S2048x64 ![] bcast_S_S2048x64 (constant S_ .f32 0x3F800000#32) : FVec Ideal S2048x64 .f32)⟩]
    concatenates_S2048x32_S2048x32_S2048x64_S2048x128_d1

/-- The second of them. -/
def tab1 : FVec Ideal S2048x128 .f32 :=
  concatenate S2048x128 1 [⟨S2048x32, (Host.negf (F := Ideal) SIN : FVec Ideal S2048x32 .f32)⟩, ⟨S2048x32, (broadcastInDim S2048x32 ![] bcast_S_S2048x32 (constant S_ .f32 0x00000000#32) : FVec Ideal S2048x32 .f32)⟩,
    ⟨S2048x64, (broadcastInDim S2048x64 ![] bcast_S_S2048x64 (constant S_ .f32 0x00000000#32) : FVec Ideal S2048x64 .f32)⟩]
    concatenates_S2048x32_S2048x32_S2048x64_S2048x128_d1

/-- The third of them. -/
def tab2 : FVec Ideal S2048x128 .f32 :=
  concatenate S2048x128 1 [⟨S2048x32, (broadcastInDim S2048x32 ![] bcast_S_S2048x32 (constant S_ .f32 0x00000000#32) : FVec Ideal S2048x32 .f32)⟩, ⟨S2048x32, (SIN : FVec Ideal S2048x32 .f32)⟩,
    ⟨S2048x64, (broadcastInDim S2048x64 ![] bcast_S_S2048x64 (constant S_ .f32 0x00000000#32) : FVec Ideal S2048x64 .f32)⟩]
    concatenates_S2048x32_S2048x32_S2048x64_S2048x128_d1

/-- The host's first table. -/
theorem host0 (c : Dev nD) : V m c main_v22 = tab0 := by
  after_reads_simp
  unfold tab0 COS ANG
  rfl

/-- The host's second table. -/
theorem host1 (c : Dev nD) : V m c main_v24 = tab1 := by
  after_reads_simp
  unfold tab1 SIN ANG
  rfl

/-- The host's third table. -/
theorem host2 (c : Dev nD) : V m c main_v25 = tab2 := by
  after_reads_simp
  unfold tab2 SIN ANG
  rfl

/-- The first table read. -/
theorem tab0_at (t : Fin 2048) (x : Fin 128) : (tab0 (ix2 t x) : EReal)
    = if h : (x : ℕ) < 32 then COS (ix2 t ⟨x, h⟩) else if h' : (x : ℕ) - 32 < 32 then COS (ix2 t ⟨x - 32, h'⟩) else 1 := by
  pointwise [tab0]

/-- The second table read. -/
theorem tab1_at (t : Fin 2048) (x : Fin 128) : (tab1 (ix2 t x) : EReal) = if h : (x : ℕ) < 32 then -SIN (ix2 t ⟨x, h⟩) else 0 := by
  pointwise [tab1]
  split_ifs <;> rfl

/-- The third table read. -/
theorem tab2_at (t : Fin 2048) (x : Fin 128) : (tab2 (ix2 t x) : EReal)
    = if h : (x : ℕ) < 32 then 0 else if h' : (x : ℕ) - 32 < 32 then SIN (ix2 t ⟨x - 32, h'⟩) else 0 := by
  pointwise [tab2]

/-- The block of the first table at a grid point, of any contents of the buffers. -/
theorem blk_table0 (c : Dev nD) (W : (b : Ref sig .tc) → Buf (Elt Ideal) ((c : Thread nD τ).loc b)) (t : Fin cfg0.N) (q : Fin 512) (x : Fin 128)
    (r : Fin 2048) (hr : (r : ℕ) = t.val % 4 * 512 + q) :
    ((((cfg0.win 1).blk t).view.read (Elt Ideal) (W (Pipeline.arrRef spec0 1)) : FVec Ideal S512x128 .f32) (ix2 q x) : EReal)
      = (W main_v22 : FVec Ideal S2048x128 .f32) (ix2 r x) := by
  blk_ext [idx t]

/-- The block of the second table at a grid point, of any contents of the buffers. -/
theorem blk_table1 (c : Dev nD) (W : (b : Ref sig .tc) → Buf (Elt Ideal) ((c : Thread nD τ).loc b)) (t : Fin cfg0.N) (q : Fin 512) (x : Fin 128)
    (r : Fin 2048) (hr : (r : ℕ) = t.val % 4 * 512 + q) :
    ((((cfg0.win 2).blk t).view.read (Elt Ideal) (W (Pipeline.arrRef spec0 2)) : FVec Ideal S512x128 .f32) (ix2 q x) : EReal)
      = (W main_v24 : FVec Ideal S2048x128 .f32) (ix2 r x) := by
  blk_ext [idx t]

/-- The block of the third table at a grid point, of any contents of the buffers. -/
theorem blk_table2 (c : Dev nD) (W : (b : Ref sig .tc) → Buf (Elt Ideal) ((c : Thread nD τ).loc b)) (t : Fin cfg0.N) (q : Fin 512) (x : Fin 128)
    (r : Fin 2048) (hr : (r : ℕ) = t.val % 4 * 512 + q) :
    ((((cfg0.win 3).blk t).view.read (Elt Ideal) (W (Pipeline.arrRef spec0 3)) : FVec Ideal S512x128 .f32) (ix2 q x) : EReal)
      = (W main_v25 : FVec Ideal S2048x128 .f32) (ix2 r x) := by
  blk_ext [idx t]

/-- A shared coordinate at equal places. -/
theorem shared_congr (X : FVec Ideal S16384x2304 .f32) {r r' : Fin 16384} {y y' : Fin 128} (hr : (r : ℕ) = r') (hy : (y : ℕ) = y') :
    shared X r y = shared X r' y' := by
  rw [Fin.ext hr, Fin.ext hy]

/-- What a grid point stores is the shared coordinates of its rows. -/
theorem point (c : Dev nD) (t : Fin cfg0.N) (q : Fin 512) (x : Fin 128) (r : Fin 16384) (hr : (r : ℕ) = t.val * 512 + q) :
    (k0_pay1 (F := Ideal) (iblk m c 0 t) (iblk m c 1 t) (iblk m c 2 t) (iblk m c 3 t) (ix2 q x) : EReal)
      = shared (m ((c : Thread nD τ).loc main_arg0)) r x := by
  have hrow : (r : ℕ) % 2048 = t.val % 4 * 512 + q := by have := q.isLt; omega
  rw [stored]
  unfold shared
  refine Eq.trans ?_ (turned_tables (n := 32) (by norm_num) _ _ _ x ⟨((x : ℕ) + 128 - 96) % 128, Nat.mod_lt _ (by norm_num)⟩
    ⟨((x : ℕ) + 128 - 32) % 128, Nat.mod_lt _ (by norm_num)⟩ _ _ _ ?_ ?_
    (tab0_at ⟨r % 2048, Nat.mod_lt _ (by norm_num)⟩ x) (tab1_at ⟨r % 2048, Nat.mod_lt _ (by norm_num)⟩ x) (tab2_at ⟨r % 2048, Nat.mod_lt _ (by norm_num)⟩ x))
  · refine congrArg₂ (· + ·) (congrArg₂ (· + ·) (congrArg₂ (· * ·) ?_ ?_) (congrArg₂ (· * ·) ?_ ?_)) (congrArg₂ (· * ·) ?_ ?_)
    · exact columns_at m c t q x r hr
    · exact (blk_table0 c (V m c) t q _ _ hrow).trans (congrFun (host0 m c) _)
    · exact columns_at m c t q _ r hr
    · exact (blk_table1 c (V m c) t q _ _ hrow).trans (congrFun (host1 m c) _)
    · exact columns_at m c t q _ r hr
    · exact (blk_table2 c (V m c) t q _ _ hrow).trans (congrFun (host2 m c) _)
  · show ((x : ℕ) + 128 - 96) % 128 = ((x : ℕ) + 32) % 128; omega
  · rfl

/-- The array of shared coordinates after the run. -/
theorem final (c : Dev nD) : (dats m 0 c).arrAt 4 (cfgs 0).N
    = (fun i => shared (m ((c : Thread nD τ).loc main_arg0)) (i 0) (i 1) : FVec Ideal S16384x128 .f32) := by
  refine (dats m 0 c).arrAt_eq_of_covers 4 _ covers fun t _ y => ?_
  blk_simp
  rw [after0_4]
  frame_out
  obtain ⟨q, e, rfl⟩ : ∃ (q : Fin 512) (e : Fin 128), y = ix2 q e := ⟨y 0, y 1, by blk_ext⟩
  have ht : t.val < 32 := t.isLt
  refine (point m c t q e ⟨t.val * 512 + q, by omega⟩ rfl).trans (shared_congr _ ?_ ?_)
  · blk_simp [idx t]
  · blk_simp [idx t]

end Cert.Kernel17Ideal.Value

namespace Cert.Reference17Ideal.Value
open Idealize.ShloMosaic Idealize.SL.Sem

/-- The reference's result, as an array. -/
theorem res_fun (X : FVec Ideal Cert.Reference17Ideal.S16384x2304 .f32) :
    SH X = (fun i => shared X (i 0) (i 1) : FVec Ideal Cert.Reference17Ideal.S16384x128 .f32) := by
  funext i
  have h0 : (i 0 : ℕ) < 16384 := (i 0).isLt
  refine Eq.trans (congrArg (SH X) ?_) ((res_at X ⟨(i 0 : ℕ) / 2048, by omega⟩ ⟨(i 0 : ℕ) % 2048, Nat.mod_lt _ (by norm_num)⟩ (i 1)).trans
    (congrArg (fun r => shared X r _) (Fin.ext (Nat.div_add_mod' _ _))))
  funext a
  match a with
  | 0 => exact Fin.ext (Nat.div_add_mod' _ _).symm
  | 1 => rfl

/-- The reference of the rotation of the shared coordinates ends with every counter at zero and its arguments unchanged. -/
theorem frame (m : (ℓ : Loc Cert.Reference17Ideal.nD Cert.Reference17Ideal.τ Cert.Reference17Ideal.sig) → Buf (Elt Ideal) ℓ) (g : Dev Cert.Reference17Ideal.nD → PrngReg) :
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0) :=
  (θ_run Cert.Reference17Ideal.defs _ _).mono (fun r h => ⟨fun c => (h c).2, Idealize.ShloMosaic.sem_eq_zero_of_no_sems (by decide) r.2⟩)
    (Cert.Reference17Ideal.Value.run (F := Ideal) m g)

/-- The kernel of the rotation of the shared coordinates and its reference end with equal results. -/
theorem equal : Cert.algebraic_Kernel17Ideal_Reference17Ideal (hKernel17Ideal := Cert.Kernel17Ideal.Gen.facts) (hReference17Ideal := Cert.Reference17Ideal.Gen.facts) := by
  intro m g m' g' hpre hag
  refine ⟨fun c => (Cert.Kernel17Ideal.Gen.dats m 0 c).arrAt 4 Cert.Kernel17Ideal.cfg0.N, ?_, ?_⟩
  · exact Cert.Kernel17Ideal.Value.run_blocks m g
  · refine (θ_run Cert.Reference17Ideal.defs _ _).mono (fun r h c => ⟨(h c).1.trans ?_, (h c).2⟩) (Cert.Reference17Ideal.Value.run (F := Ideal) m' g')
    refine Eq.trans ?_ (Cert.Kernel17Ideal.Value.final m c).symm
    refine (res_eq m' c).trans ?_
    rw [hag c]
    exact res_fun _

end Cert.Reference17Ideal.Value
end
-- ==== Proof.Premix.Spec.lean ====
module

public import Idealize.ShloMosaic.Lib.Pipeline.ValueKit

/-!
A position's normalised coordinates and its difference from its neighbours' mean.
-/

@[expose] public section
noncomputable section
namespace Cert.Premix
open Idealize.ShloMosaic

/-- A coordinate over the root of the row's mean square, times its gain. -/
def normal (x g : Fin 4096 → EReal) (k : Fin 4096) : EReal :=
  x k * Ideal.rsqrt (Ideal.div (∑ i, x i * x i) (Ideal.ofBits .f32 0x45800000#32) + Ideal.ofBits .f32 0x358637BD#32) * g k

/-- Half of both neighbours' sum less the coordinate itself. -/
def apart (h before after : EReal) : EReal :=
  Ideal.ofBits .f32 0x3F000000#32 * (before + after) - h

/-- The logistic function. -/
def sigm (z : EReal) : EReal :=
  Ideal.div (Ideal.ofBits .f32 0x3F800000#32) (Ideal.ofBits .f32 0x3F800000#32 + Ideal.exp (-z))

end Cert.Premix
end
-- ==== Proof.Premix.Block.lean ====
module

public import proofs.«01_k».proof.Proof.Gen.Kernel18Ideal.Value
public import Idealize.ShloMosaic.Lib.Pipeline.ValueKit
public import proofs.«01_k».proof.Proof.Premix.Spec

/-!
What a grid point of the call before the projections of a recurrent layer stores, from its blocks.
-/

@[expose] public section
set_option maxRecDepth 16384
noncomputable section
namespace Cert.Kernel18Ideal.Value
open Cert.Kernel18Ideal Cert.Kernel18Ideal.Gen Idealize.ShloMosaic Idealize.ShloMosaic.TcCoe Idealize.SL.Sem
open Cert.Premix

/-- A bit chosen by a grid coordinate. -/
theorem bit (j n : ℕ) (hj : j < 8) (hn : n < 8) : Scalar.cmpi .eq (BitVec.ofNat 32 j) (BitVec.ofNat 32 n) = if j = n then 1#1 else 0#1 := by
  interval_cases j <;> interval_cases n <;> rfl

/-- A choice by a bit that says whether `p`. -/
theorem choose_at {α : Type} (w : BitVec 1) (p : Prop) [Decidable p] (h : w = 1#1 ↔ p) (a b : α) : Scalar.select w a b = if p then a else b := by
  by_cases hp : p
  · rw [h.mpr hp, if_pos hp]
    rfl
  · rw [if_neg hp, ValueIdx.eq_zero_of_ne_one (fun e => hp (h.mp e))]
    rfl

/-- A choice by a row's number. -/
theorem choose_row {α : Type} (q : Fin 256) (n : ℕ) (hn : n < 256) (a b : α) :
    Scalar.select (IntOp.cmpi .eq (BitVec.ofNat 32 q) (BitVec.ofNat 32 n)) a b = if (q : ℕ) = n then a else b :=
  choose_at _ _ (WordCmp.cmpi_eq_ofNat_eq_one_iff (by have := q.isLt; omega) (by omega)) a b

/-- The tile's positions after the norm. -/
theorem pay5_at (g : FVec Ideal S1x4096 .f32) (x : FVec Ideal S1x256x4096 .f32) (q : Fin 256) (k : Fin 4096) :
    (k0_pay5 (F := Ideal) g x (ix2 q k) : EReal) = normal (fun k => x (ix3 0 q k)) (fun k => g (ix2 0 k)) k := by
  unfold normal
  pointwise [k0_pay5, k0_pay4]

/-- The position before the tile, zero at the first tile. -/
theorem pay6_at (i : grid0.Coords) (g : FVec Ideal S1x4096 .f32) (x : FVec Ideal S1x8x4096 .f32) (k : Fin 4096) :
    (k0_pay6 (F := Ideal) i g x (ix2 0 k) : EReal) = if (i 1).val = 0 then 0 else normal (fun k => x (ix3 0 7 k)) (fun k => g (ix2 0 k)) k := by
  have hb := bit (i 1).val 0 (i 1).isLt (by norm_num)
  unfold normal k0_pay6
  dsimp only
  by_cases h : (i 1).val = 0
  · rw [if_pos h] at hb ⊢
    erw [hb]
    pointwise []
  · rw [if_neg h] at hb ⊢
    erw [hb]
    pointwise [k0_pay4]

/-- The position behind the tile, zero at the last tile, with the tile's own: every position's difference. -/
theorem pay9_at (g : FVec Ideal S1x4096 .f32) (h : FVec Ideal S256x4096 .f32) (v : FVec Ideal S1x4096 .f32) (w : BitVec 1) (x : FVec Ideal S1x8x4096 .f32)
    (q : Fin 256) (k : Fin 4096) :
    (k0_pay9 (F := Ideal) (k0_pay4 g) h v w (k0_pay7 x) (k0_pay8 x) (ix2 q k) : EReal)
      = apart (h (ix2 q k)) (if h0 : (q : ℕ) = 0 then v (ix2 0 k) else h (ix2 ⟨q - 1, by omega⟩ k))
        (if h0 : (q : ℕ) = 255 then (if w = 1#1 then 0 else normal (fun k => x (ix3 0 0 k)) (fun k => g (ix2 0 k)) k) else h (ix2 ⟨q + 1, by omega⟩ k)) := by
  unfold apart normal
  pointwise [k0_pay9, k0_pay4, k0_pay7, k0_pay8]
  blk_point []
  have hq := q.isLt
  refine congrArg₂ (· + ·) ?_ ?_
  · refine (choose_row q 0 (by norm_num) _ _).trans ?_
    by_cases h0 : (q : ℕ) = 0
    · rw [if_pos h0, dif_pos h0]
    · rw [if_neg h0, dif_neg h0]
      exact congrArg (fun r => h (ix2 r k)) (Fin.ext (by show ((q : ℕ) + 256 - 1) % 256 = q - 1; omega))
  · refine (choose_row q 255 (by norm_num) _ _).trans ?_
    by_cases h0 : (q : ℕ) = 255
    · rw [if_pos h0, dif_pos h0]
      exact choose_at w _ Iff.rfl _ _
    · rw [if_neg h0, dif_neg h0]
      exact congrArg (fun r => h (ix2 r k)) (Fin.ext (by show ((q : ℕ) + 256 - 255) % 256 = q + 1; omega))

/-- A row of the mixes. -/
theorem row_at (X : FVec Ideal S6x4096 .f32) (n : ℕ) (hn : n < 6) (inb : ∀ a, (![n, 0] : Fin 2 → ℕ) a + S1x4096.size a ≤ S6x4096.size a) (k : Fin 4096) :
    ((View.ld (Val := Elt Ideal) (e' := .f32) X (Rect.unit (s := S6x4096) ![n, 0] S1x4096.size inb) : FVec Ideal S1x4096 .f32) (ix2 0 k) : EReal) = X (ix2 ⟨n, hn⟩ k) := by
  refine View.ld_unit_apply_of (Val := Elt Ideal) (e := .f32) X _ _ inb _ _ fun a => ?_
  match a with
  | 0 => rfl
  | 1 => exact (Nat.zero_add _).symm

/-- A mix of the tile. -/
theorem pay10_at (g : FVec Ideal S1x4096 .f32) (h : FVec Ideal S256x4096 .f32) (v : FVec Ideal S1x4096 .f32) (w : BitVec 1) (x : FVec Ideal S8x4096 .f32) (x' : FVec Ideal S8x4096 .f32) (m : FVec Ideal S1x4096 .f32) (q : Fin 256) (k : Fin 4096) :
    (k0_pay10 (F := Ideal) g h v w x x' m (ix3 0 q k) : EReal) = h (ix2 q k) + (k0_pay9 (F := Ideal) g h v w x x') (ix2 q k) * m (ix2 0 k) := by
  pointwise [k0_pay10]

/-- A mix of the tile. -/
theorem pay11_at (h d : FVec Ideal S256x4096 .f32) (m : FVec Ideal S1x4096 .f32) (q : Fin 256) (k : Fin 4096) :
    (k0_pay11 (F := Ideal) h d m (ix3 0 q k) : EReal) = h (ix2 q k) + d (ix2 q k) * m (ix2 0 k) := by
  pointwise [k0_pay11]

/-- A mix of the tile. -/
theorem pay13_at (h d : FVec Ideal S256x4096 .f32) (m : FVec Ideal S1x4096 .f32) (q : Fin 256) (k : Fin 4096) :
    (k0_pay13 (F := Ideal) h d m (ix3 0 q k) : EReal) = h (ix2 q k) + d (ix2 q k) * m (ix2 0 k) := by
  pointwise [k0_pay13, k0_pay12]

/-- A product of the tile's mix. -/
theorem low14_at (h d : FVec Ideal S256x4096 .f32) (m : FVec Ideal S1x4096 .f32) (w : FVec Ideal S4096x256 .bf16) (q : Fin 256) (e : Fin 256) :
    (k0_pay14 (F := Ideal) h d m w (ix3 0 q e) : EReal) = Ideal.tanh (∑ k : Fin 4096, (h (ix2 q k) + d (ix2 q k) * m (ix2 0 k)) * w (ix2 k e)) := by
  pointwise [k0_pay14]

/-- A product of the tile's mix. -/
theorem low15_at (h d : FVec Ideal S256x4096 .f32) (m : FVec Ideal S1x4096 .f32) (w : FVec Ideal S4096x256 .bf16) (q : Fin 256) (e : Fin 256) :
    (k0_pay1 (F := Ideal) (k0_pay15 h d m w) (ix3 0 q e) : EReal) = ∑ k : Fin 4096, (h (ix2 q k) + d (ix2 q k) * m (ix2 0 k)) * w (ix2 k e) := by
  pointwise [k0_pay1, k0_pay15]

/-- A product of the tile's mix. -/
theorem low2_at (h d : FVec Ideal S256x4096 .f32) (m : FVec Ideal S1x4096 .f32) (w : FVec Ideal S4096x512 .bf16) (q : Fin 256) (e : Fin 512) :
    (k0_pay2 (F := Ideal) h d m w (ix3 0 q e) : EReal) = sigm (∑ k : Fin 4096, (h (ix2 q k) + d (ix2 q k) * m (ix2 0 k)) * w (ix2 k e)) := by
  pointwise [k0_pay2, sigm]
  simp only [Ideal.logistic]

/-- A product of the tile's mix. -/
theorem low3_at (h d : FVec Ideal S256x4096 .f32) (m : FVec Ideal S1x4096 .f32) (w : FVec Ideal S4096x128 .bf16) (q : Fin 256) (e : Fin 128) :
    (k0_pay3 (F := Ideal) (k0_pay12 h d m) w (ix3 0 q e) : EReal) = ∑ k : Fin 4096, (h (ix2 q k) + d (ix2 q k) * m (ix2 0 k)) * w (ix2 k e) := by
  pointwise [k0_pay3, k0_pay12]

end Cert.Kernel18Ideal.Value
end
-- ==== Proof.Premix.Reference.lean ====
module

public import proofs.«01_k».proof.Proof.Gen.Reference18Ideal.Run
public import Idealize.ShloMosaic.Lib.Pipeline.ValueKit
public import proofs.«01_k».proof.Proof.Premix.Spec

/-!
The reference of what stands before the projections of a recurrent layer, read coordinate by coordinate.
-/

@[expose] public section
set_option maxRecDepth 16384
noncomputable section
namespace Cert.Reference18Ideal.Value
open Cert.Reference18Ideal Cert.Reference18Ideal.Gen Idealize.ShloMosaic Idealize.ShloMosaic.TcCoe Idealize.SL.Sem
open Cert.Premix

/-- The normalised positions. -/
def HT (X0 : FVec Ideal S8x2048x4096 .f32) (X1 : FVec Ideal S4096 .f32) : FVec Ideal S8x2048x4096 .f32 :=
  mulf (mulf X0 (broadcastInDim S8x2048x4096 ![0, 1, 2] bcast_S8x2048x1_S8x2048x4096_0_1_2 (Host.rsqrt (addf (Host.divf (broadcastInDim S8x2048x1 ![0, 1] bcast_S8x2048_S8x2048x1_0_1 (Host.reduceAdd (mulf X0 X0) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))))) (broadcastInDim S8x2048x4096 ![0, 1, 2] bcast_S1x1x4096_S8x2048x4096_0_1_2 (broadcastInDim S1x1x4096 ![2] bcast_S4096_S1x1x4096_2 X1))

/-- Half of both neighbours' sum less the position itself. -/
def DT (h : FVec Ideal S8x2048x4096 .f32) : FVec Ideal S8x2048x4096 .f32 :=
  subf (mulf (broadcastInDim S8x2048x4096 ![] bcast_S_S8x2048x4096 (constant S_ .f32 0x3F000000#32)) (addf (extractStridedSlice S8x2048x4096 ![0, 0, 0] (pad S8x2050x4096 ![0, 1, 0] ![0, 1, 0] ![0, 0, 0] h (sitofp .f32 (constantI S_ 32 0#32)) pads_S8x2048x4096_S8x2050x4096_000_110_000 h_S_) slices_S8x2050x4096_S8x2048x4096_0_0_0) (extractStridedSlice S8x2048x4096 ![0, 2, 0] (pad S8x2050x4096 ![0, 1, 0] ![0, 1, 0] ![0, 0, 0] h (sitofp .f32 (constantI S_ 32 0#32)) pads_S8x2048x4096_S8x2050x4096_000_110_000 h_S_) slices_S8x2050x4096_S8x2048x4096_0_2_0))) h

/-- A position's coordinates after the norm. -/
def pos (X0 : FVec Ideal S8x2048x4096 .f32) (X1 : FVec Ideal S4096 .f32) (b : Fin 8) (t : Fin 2048) (k : Fin 4096) : EReal :=
  normal (fun k => X0 (ix3 b t k)) (fun k => X1 (ix1 k)) k

/-- What a position differs from its neighbours' mean by. -/
def dif (X0 : FVec Ideal S8x2048x4096 .f32) (X1 : FVec Ideal S4096 .f32) (b : Fin 8) (t : Fin 2048) (k : Fin 4096) : EReal :=
  apart (pos X0 X1 b t k) (if h : (t : ℕ) = 0 then 0 else pos X0 X1 b ⟨t - 1, by omega⟩ k)
    (if h : (t : ℕ) = 2047 then 0 else pos X0 X1 b ⟨t + 1, by omega⟩ k)

/-- The normalised positions read. -/
theorem HT_at (X0 : FVec Ideal S8x2048x4096 .f32) (X1 : FVec Ideal S4096 .f32) (b : Fin 8) (t : Fin 2048) (k : Fin 4096) :
    (HT X0 X1 (ix3 b t k) : EReal) = pos X0 X1 b t k := by
  unfold pos normal
  pointwise [HT]

/-- A position's difference read, of any positions. -/
theorem DT_at (h : FVec Ideal S8x2048x4096 .f32) (b : Fin 8) (t : Fin 2048) (k : Fin 4096) :
    (DT h (ix3 b t k) : EReal) = apart (h (ix3 b t k)) (if h0 : (t : ℕ) = 0 then 0 else h (ix3 b ⟨t - 1, by omega⟩ k))
      (if h0 : (t : ℕ) = 2047 then 0 else h (ix3 b ⟨t + 1, by omega⟩ k)) := by
  unfold apart
  pointwise [DT]
  blk_point []
  all_goals first
    | (exfalso; omega)
    | (refine Eq.symm ?_; show ((((0#32 : BitVec 32).toInt : ℤ) : ℝ) : EReal) = 0; norm_num)

/-- A position's difference, of the normalised positions. -/
theorem DT_HT_at (X0 : FVec Ideal S8x2048x4096 .f32) (X1 : FVec Ideal S4096 .f32) (b : Fin 8) (t : Fin 2048) (k : Fin 4096) :
    (DT (HT X0 X1) (ix3 b t k) : EReal) = dif X0 X1 b t k := by
  rw [DT_at, dif]
  simp only [HT_at]

/-- The first mix. -/
def M0 (h d : FVec Ideal S8x2048x4096 .f32) (X2 : FVec Ideal S6x4096 .f32) : FVec Ideal S8x2048x4096 .bf16 :=
  truncf .bf16 (addf h (mulf d (broadcastInDim S8x2048x4096 ![0, 1, 2] bcast_S1x1x4096_S8x2048x4096_0_1_2 (broadcastInDim S1x1x4096 ![2] bcast_S4096_S1x1x4096_2 (shapeCast _ (extractStridedSlice S1x4096 ![0, 0] X2 slices_S6x4096_S1x4096_0_0) shapeCasts_S1x4096_S4096))))) bitsLt_bf16_f32

/-- The first mix read. -/
theorem M0_at (h d : FVec Ideal S8x2048x4096 .f32) (X2 : FVec Ideal S6x4096 .f32) (b : Fin 8) (t : Fin 2048) (k : Fin 4096) :
    (M0 h d X2 (ix3 b t k) : EReal) = h (ix3 b t k) + d (ix3 b t k) * X2 (ix2 0 k) := by
  pointwise [M0]

/-- The second mix. -/
def M1 (h d : FVec Ideal S8x2048x4096 .f32) (X2 : FVec Ideal S6x4096 .f32) : FVec Ideal S8x2048x4096 .bf16 :=
  truncf .bf16 (addf h (mulf d (broadcastInDim S8x2048x4096 ![0, 1, 2] bcast_S1x1x4096_S8x2048x4096_0_1_2 (broadcastInDim S1x1x4096 ![2] bcast_S4096_S1x1x4096_2 (shapeCast _ (extractStridedSlice S1x4096 ![1, 0] X2 slices_S6x4096_S1x4096_1_0) shapeCasts_S1x4096_S4096))))) bitsLt_bf16_f32

/-- The second mix read. -/
theorem M1_at (h d : FVec Ideal S8x2048x4096 .f32) (X2 : FVec Ideal S6x4096 .f32) (b : Fin 8) (t : Fin 2048) (k : Fin 4096) :
    (M1 h d X2 (ix3 b t k) : EReal) = h (ix3 b t k) + d (ix3 b t k) * X2 (ix2 1 k) := by
  pointwise [M1]

/-- The third mix. -/
def M2 (h d : FVec Ideal S8x2048x4096 .f32) (X2 : FVec Ideal S6x4096 .f32) : FVec Ideal S8x2048x4096 .bf16 :=
  truncf .bf16 (addf h (mulf d (broadcastInDim S8x2048x4096 ![0, 1, 2] bcast_S1x1x4096_S8x2048x4096_0_1_2 (broadcastInDim S1x1x4096 ![2] bcast_S4096_S1x1x4096_2 (shapeCast _ (extractStridedSlice S1x4096 ![2, 0] X2 slices_S6x4096_S1x4096_2_0) shapeCasts_S1x4096_S4096))))) bitsLt_bf16_f32

/-- The third mix read. -/
theorem M2_at (h d : FVec Ideal S8x2048x4096 .f32) (X2 : FVec Ideal S6x4096 .f32) (b : Fin 8) (t : Fin 2048) (k : Fin 4096) :
    (M2 h d X2 (ix3 b t k) : EReal) = h (ix3 b t k) + d (ix3 b t k) * X2 (ix2 2 k) := by
  pointwise [M2]

/-- The fourth mix. -/
def M3 (h d : FVec Ideal S8x2048x4096 .f32) (X2 : FVec Ideal S6x4096 .f32) : FVec Ideal S8x2048x4096 .bf16 :=
  truncf .bf16 (addf h (mulf d (broadcastInDim S8x2048x4096 ![0, 1, 2] bcast_S1x1x4096_S8x2048x4096_0_1_2 (broadcastInDim S1x1x4096 ![2] bcast_S4096_S1x1x4096_2 (shapeCast _ (extractStridedSlice S1x4096 ![3, 0] X2 slices_S6x4096_S1x4096_3_0) shapeCasts_S1x4096_S4096))))) bitsLt_bf16_f32

/-- The fourth mix read. -/
theorem M3_at (h d : FVec Ideal S8x2048x4096 .f32) (X2 : FVec Ideal S6x4096 .f32) (b : Fin 8) (t : Fin 2048) (k : Fin 4096) :
    (M3 h d X2 (ix3 b t k) : EReal) = h (ix3 b t k) + d (ix3 b t k) * X2 (ix2 3 k) := by
  pointwise [M3]

/-- The fifth mix. -/
def M4 (h d : FVec Ideal S8x2048x4096 .f32) (X2 : FVec Ideal S6x4096 .f32) : FVec Ideal S8x2048x4096 .bf16 :=
  truncf .bf16 (addf h (mulf d (broadcastInDim S8x2048x4096 ![0, 1, 2] bcast_S1x1x4096_S8x2048x4096_0_1_2 (broadcastInDim S1x1x4096 ![2] bcast_S4096_S1x1x4096_2 (shapeCast _ (extractStridedSlice S1x4096 ![4, 0] X2 slices_S6x4096_S1x4096_4_0) shapeCasts_S1x4096_S4096))))) bitsLt_bf16_f32

/-- The fifth mix read. -/
theorem M4_at (h d : FVec Ideal S8x2048x4096 .f32) (X2 : FVec Ideal S6x4096 .f32) (b : Fin 8) (t : Fin 2048) (k : Fin 4096) :
    (M4 h d X2 (ix3 b t k) : EReal) = h (ix3 b t k) + d (ix3 b t k) * X2 (ix2 4 k) := by
  pointwise [M4]

/-- The sixth mix. -/
def M5 (h d : FVec Ideal S8x2048x4096 .f32) (X2 : FVec Ideal S6x4096 .f32) : FVec Ideal S8x2048x4096 .bf16 :=
  truncf .bf16 (addf h (mulf d (broadcastInDim S8x2048x4096 ![0, 1, 2] bcast_S1x1x4096_S8x2048x4096_0_1_2 (broadcastInDim S1x1x4096 ![2] bcast_S4096_S1x1x4096_2 (shapeCast _ (extractStridedSlice S1x4096 ![5, 0] X2 slices_S6x4096_S1x4096_5_0) shapeCasts_S1x4096_S4096))))) bitsLt_bf16_f32

/-- The sixth mix read. -/
theorem M5_at (h d : FVec Ideal S8x2048x4096 .f32) (X2 : FVec Ideal S6x4096 .f32) (b : Fin 8) (t : Fin 2048) (k : Fin 4096) :
    (M5 h d X2 (ix3 b t k) : EReal) = h (ix3 b t k) + d (ix3 b t k) * X2 (ix2 5 k) := by
  pointwise [M5]

/-- Result 3 from its mix. -/
def L3 (y : FVec Ideal S8x2048x4096 .bf16) (X3 : FVec Ideal S4096x256 .bf16) : FVec Ideal S8x2048x256 .bf16 :=
  truncf .bf16 (Host.tanh (Host.dotGeneral dot_S8x2048x4096_S4096x256_S8x2048x256_2_0_01_1_n_n none (extf .f32 y bitsLt_bf16_f32) (extf .f32 X3 bitsLt_bf16_f32))) bitsLt_bf16_f32

/-- Result 3 read. -/
theorem L3_at (y : FVec Ideal S8x2048x4096 .bf16) (X3 : FVec Ideal S4096x256 .bf16) (b : Fin 8) (t : Fin 2048) (e : Fin 256) :
    (L3 y X3 (ix3 b t e) : EReal) = Ideal.tanh (∑ k : Fin 4096, y (ix3 b t k) * X3 (ix2 k e)) := by
  pointwise [L3]

/-- Result 4 from its mix. -/
def L4 (y : FVec Ideal S8x2048x4096 .bf16) (X4 : FVec Ideal S4096x256 .bf16) : FVec Ideal S8x2048x256 .bf16 :=
  truncf .bf16 (Host.dotGeneral dot_S8x2048x4096_S4096x256_S8x2048x256_2_0_01_1_n_n none (extf .f32 y bitsLt_bf16_f32) (extf .f32 X4 bitsLt_bf16_f32)) bitsLt_bf16_f32

/-- Result 4 read. -/
theorem L4_at (y : FVec Ideal S8x2048x4096 .bf16) (X4 : FVec Ideal S4096x256 .bf16) (b : Fin 8) (t : Fin 2048) (e : Fin 256) :
    (L4 y X4 (ix3 b t e) : EReal) = ∑ k : Fin 4096, y (ix3 b t k) * X4 (ix2 k e) := by
  pointwise [L4]

/-- Result 5 from its mix. -/
def L5 (y : FVec Ideal S8x2048x4096 .bf16) (X5 : FVec Ideal S4096x512 .bf16) : FVec Ideal S8x2048x512 .bf16 :=
  truncf .bf16 (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (Host.dotGeneral dot_S8x2048x4096_S4096x512_S8x2048x512_2_0_01_1_n_n none (extf .f32 y bitsLt_bf16_f32) (extf .f32 X5 bitsLt_bf16_f32)))))) bitsLt_bf16_f32

/-- Result 5 read. -/
theorem L5_at (y : FVec Ideal S8x2048x4096 .bf16) (X5 : FVec Ideal S4096x512 .bf16) (b : Fin 8) (t : Fin 2048) (e : Fin 512) :
    (L5 y X5 (ix3 b t e) : EReal) = sigm (∑ k : Fin 4096, y (ix3 b t k) * X5 (ix2 k e)) := by
  pointwise [L5, sigm]

/-- Result 6 from its mix. -/
def L6 (y : FVec Ideal S8x2048x4096 .bf16) (X6 : FVec Ideal S4096x128 .bf16) : FVec Ideal S8x2048x128 .bf16 :=
  truncf .bf16 (Host.dotGeneral dot_S8x2048x4096_S4096x128_S8x2048x128_2_0_01_1_n_n none (extf .f32 y bitsLt_bf16_f32) (extf .f32 X6 bitsLt_bf16_f32)) bitsLt_bf16_f32

/-- Result 6 read. -/
theorem L6_at (y : FVec Ideal S8x2048x4096 .bf16) (X6 : FVec Ideal S4096x128 .bf16) (b : Fin 8) (t : Fin 2048) (e : Fin 128) :
    (L6 y X6 (ix3 b t e) : EReal) = ∑ k : Fin 4096, y (ix3 b t k) * X6 (ix2 k e) := by
  pointwise [L6]

/-- A mix of a position. -/
def mixed (X0 : FVec Ideal S8x2048x4096 .f32) (X1 : FVec Ideal S4096 .f32) (X2 : FVec Ideal S6x4096 .f32) (n : Fin 6) (b : Fin 8) (t : Fin 2048) (k : Fin 4096) : EReal :=
  pos X0 X1 b t k + dif X0 X1 b t k * X2 (ix2 n k)

/-- The first mix of the normalised positions. -/
theorem mixed_0 (X0 : FVec Ideal S8x2048x4096 .f32) (X1 : FVec Ideal S4096 .f32) (X2 : FVec Ideal S6x4096 .f32) (b : Fin 8) (t : Fin 2048) (k : Fin 4096) :
    (M0 (HT X0 X1) (DT (HT X0 X1)) X2 (ix3 b t k) : EReal) = mixed X0 X1 X2 0 b t k := by
  rw [M0_at, HT_at, DT_HT_at, mixed]

/-- The second mix of the normalised positions. -/
theorem mixed_1 (X0 : FVec Ideal S8x2048x4096 .f32) (X1 : FVec Ideal S4096 .f32) (X2 : FVec Ideal S6x4096 .f32) (b : Fin 8) (t : Fin 2048) (k : Fin 4096) :
    (M1 (HT X0 X1) (DT (HT X0 X1)) X2 (ix3 b t k) : EReal) = mixed X0 X1 X2 1 b t k := by
  rw [M1_at, HT_at, DT_HT_at, mixed]

/-- The third mix of the normalised positions. -/
theorem mixed_2 (X0 : FVec Ideal S8x2048x4096 .f32) (X1 : FVec Ideal S4096 .f32) (X2 : FVec Ideal S6x4096 .f32) (b : Fin 8) (t : Fin 2048) (k : Fin 4096) :
    (M2 (HT X0 X1) (DT (HT X0 X1)) X2 (ix3 b t k) : EReal) = mixed X0 X1 X2 2 b t k := by
  rw [M2_at, HT_at, DT_HT_at, mixed]

/-- The fourth mix of the normalised positions. -/
theorem mixed_3 (X0 : FVec Ideal S8x2048x4096 .f32) (X1 : FVec Ideal S4096 .f32) (X2 : FVec Ideal S6x4096 .f32) (b : Fin 8) (t : Fin 2048) (k : Fin 4096) :
    (M3 (HT X0 X1) (DT (HT X0 X1)) X2 (ix3 b t k) : EReal) = mixed X0 X1 X2 3 b t k := by
  rw [M3_at, HT_at, DT_HT_at, mixed]

/-- The fifth mix of the normalised positions. -/
theorem mixed_4 (X0 : FVec Ideal S8x2048x4096 .f32) (X1 : FVec Ideal S4096 .f32) (X2 : FVec Ideal S6x4096 .f32) (b : Fin 8) (t : Fin 2048) (k : Fin 4096) :
    (M4 (HT X0 X1) (DT (HT X0 X1)) X2 (ix3 b t k) : EReal) = mixed X0 X1 X2 4 b t k := by
  rw [M4_at, HT_at, DT_HT_at, mixed]

/-- The sixth mix of the normalised positions. -/
theorem mixed_5 (X0 : FVec Ideal S8x2048x4096 .f32) (X1 : FVec Ideal S4096 .f32) (X2 : FVec Ideal S6x4096 .f32) (b : Fin 8) (t : Fin 2048) (k : Fin 4096) :
    (M5 (HT X0 X1) (DT (HT X0 X1)) X2 (ix3 b t k) : EReal) = mixed X0 X1 X2 5 b t k := by
  rw [M5_at, HT_at, DT_HT_at, mixed]

/-- Result 0, coordinate by coordinate. -/
def want0 (X0 : FVec Ideal S8x2048x4096 .f32) (X1 : FVec Ideal S4096 .f32) (X2 : FVec Ideal S6x4096 .f32) (b : Fin 8) (t : Fin 2048) (e : Fin 4096) : EReal :=
  mixed X0 X1 X2 0 b t e

/-- Result 0 of the reference is that. -/
theorem got0 (X0 : FVec Ideal S8x2048x4096 .f32) (X1 : FVec Ideal S4096 .f32) (X2 : FVec Ideal S6x4096 .f32) :
    (M0 (HT X0 X1) (DT (HT X0 X1)) X2 : FVec Ideal S8x2048x4096 .bf16) = (fun i => want0 X0 X1 X2 (i 0) (i 1) (i 2) : FVec Ideal S8x2048x4096 .bf16) := by
  funext i
  obtain ⟨b, t, e, rfl⟩ : ∃ (b : Fin 8) (t : Fin 2048) (e : Fin 4096), i = ix3 b t e := ⟨i 0, i 1, i 2, by blk_ext⟩
  show (M0 (HT X0 X1) (DT (HT X0 X1)) X2 (ix3 b t e) : EReal) = want0 X0 X1 X2 b t e
  unfold want0
  exact mixed_0 X0 X1 X2 _ _ _

/-- Result 1, coordinate by coordinate. -/
def want1 (X0 : FVec Ideal S8x2048x4096 .f32) (X1 : FVec Ideal S4096 .f32) (X2 : FVec Ideal S6x4096 .f32) (b : Fin 8) (t : Fin 2048) (e : Fin 4096) : EReal :=
  mixed X0 X1 X2 2 b t e

/-- Result 1 of the reference is that. -/
theorem got1 (X0 : FVec Ideal S8x2048x4096 .f32) (X1 : FVec Ideal S4096 .f32) (X2 : FVec Ideal S6x4096 .f32) :
    (M2 (HT X0 X1) (DT (HT X0 X1)) X2 : FVec Ideal S8x2048x4096 .bf16) = (fun i => want1 X0 X1 X2 (i 0) (i 1) (i 2) : FVec Ideal S8x2048x4096 .bf16) := by
  funext i
  obtain ⟨b, t, e, rfl⟩ : ∃ (b : Fin 8) (t : Fin 2048) (e : Fin 4096), i = ix3 b t e := ⟨i 0, i 1, i 2, by blk_ext⟩
  show (M2 (HT X0 X1) (DT (HT X0 X1)) X2 (ix3 b t e) : EReal) = want1 X0 X1 X2 b t e
  unfold want1
  exact mixed_2 X0 X1 X2 _ _ _

/-- Result 2, coordinate by coordinate. -/
def want2 (X0 : FVec Ideal S8x2048x4096 .f32) (X1 : FVec Ideal S4096 .f32) (X2 : FVec Ideal S6x4096 .f32) (b : Fin 8) (t : Fin 2048) (e : Fin 4096) : EReal :=
  mixed X0 X1 X2 3 b t e

/-- Result 2 of the reference is that. -/
theorem got2 (X0 : FVec Ideal S8x2048x4096 .f32) (X1 : FVec Ideal S4096 .f32) (X2 : FVec Ideal S6x4096 .f32) :
    (M3 (HT X0 X1) (DT (HT X0 X1)) X2 : FVec Ideal S8x2048x4096 .bf16) = (fun i => want2 X0 X1 X2 (i 0) (i 1) (i 2) : FVec Ideal S8x2048x4096 .bf16) := by
  funext i
  obtain ⟨b, t, e, rfl⟩ : ∃ (b : Fin 8) (t : Fin 2048) (e : Fin 4096), i = ix3 b t e := ⟨i 0, i 1, i 2, by blk_ext⟩
  show (M3 (HT X0 X1) (DT (HT X0 X1)) X2 (ix3 b t e) : EReal) = want2 X0 X1 X2 b t e
  unfold want2
  exact mixed_3 X0 X1 X2 _ _ _

/-- Result 3, coordinate by coordinate. -/
def want3 (X0 : FVec Ideal S8x2048x4096 .f32) (X1 : FVec Ideal S4096 .f32) (X2 : FVec Ideal S6x4096 .f32) (X3 : FVec Ideal S4096x256 .bf16) (b : Fin 8) (t : Fin 2048) (e : Fin 256) : EReal :=
  Ideal.tanh (∑ k : Fin 4096, mixed X0 X1 X2 1 b t k * X3 (ix2 k e))

/-- Result 3 of the reference is that. -/
theorem got3 (X0 : FVec Ideal S8x2048x4096 .f32) (X1 : FVec Ideal S4096 .f32) (X2 : FVec Ideal S6x4096 .f32) (X3 : FVec Ideal S4096x256 .bf16) :
    (L3 (M1 (HT X0 X1) (DT (HT X0 X1)) X2) X3 : FVec Ideal S8x2048x256 .bf16) = (fun i => want3 X0 X1 X2 X3 (i 0) (i 1) (i 2) : FVec Ideal S8x2048x256 .bf16) := by
  funext i
  obtain ⟨b, t, e, rfl⟩ : ∃ (b : Fin 8) (t : Fin 2048) (e : Fin 256), i = ix3 b t e := ⟨i 0, i 1, i 2, by blk_ext⟩
  show (L3 (M1 (HT X0 X1) (DT (HT X0 X1)) X2) X3 (ix3 b t e) : EReal) = want3 X0 X1 X2 X3 b t e
  unfold want3
  rw [L3_at]
  simp only [mixed_1]

/-- Result 4, coordinate by coordinate. -/
def want4 (X0 : FVec Ideal S8x2048x4096 .f32) (X1 : FVec Ideal S4096 .f32) (X2 : FVec Ideal S6x4096 .f32) (X4 : FVec Ideal S4096x256 .bf16) (b : Fin 8) (t : Fin 2048) (e : Fin 256) : EReal :=
  ∑ k : Fin 4096, mixed X0 X1 X2 4 b t k * X4 (ix2 k e)

/-- Result 4 of the reference is that. -/
theorem got4 (X0 : FVec Ideal S8x2048x4096 .f32) (X1 : FVec Ideal S4096 .f32) (X2 : FVec Ideal S6x4096 .f32) (X4 : FVec Ideal S4096x256 .bf16) :
    (L4 (M4 (HT X0 X1) (DT (HT X0 X1)) X2) X4 : FVec Ideal S8x2048x256 .bf16) = (fun i => want4 X0 X1 X2 X4 (i 0) (i 1) (i 2) : FVec Ideal S8x2048x256 .bf16) := by
  funext i
  obtain ⟨b, t, e, rfl⟩ : ∃ (b : Fin 8) (t : Fin 2048) (e : Fin 256), i = ix3 b t e := ⟨i 0, i 1, i 2, by blk_ext⟩
  show (L4 (M4 (HT X0 X1) (DT (HT X0 X1)) X2) X4 (ix3 b t e) : EReal) = want4 X0 X1 X2 X4 b t e
  unfold want4
  rw [L4_at]
  simp only [mixed_4]

/-- Result 5, coordinate by coordinate. -/
def want5 (X0 : FVec Ideal S8x2048x4096 .f32) (X1 : FVec Ideal S4096 .f32) (X2 : FVec Ideal S6x4096 .f32) (X5 : FVec Ideal S4096x512 .bf16) (b : Fin 8) (t : Fin 2048) (e : Fin 512) : EReal :=
  sigm (∑ k : Fin 4096, mixed X0 X1 X2 5 b t k * X5 (ix2 k e))

/-- Result 5 of the reference is that. -/
theorem got5 (X0 : FVec Ideal S8x2048x4096 .f32) (X1 : FVec Ideal S4096 .f32) (X2 : FVec Ideal S6x4096 .f32) (X5 : FVec Ideal S4096x512 .bf16) :
    (L5 (M5 (HT X0 X1) (DT (HT X0 X1)) X2) X5 : FVec Ideal S8x2048x512 .bf16) = (fun i => want5 X0 X1 X2 X5 (i 0) (i 1) (i 2) : FVec Ideal S8x2048x512 .bf16) := by
  funext i
  obtain ⟨b, t, e, rfl⟩ : ∃ (b : Fin 8) (t : Fin 2048) (e : Fin 512), i = ix3 b t e := ⟨i 0, i 1, i 2, by blk_ext⟩
  show (L5 (M5 (HT X0 X1) (DT (HT X0 X1)) X2) X5 (ix3 b t e) : EReal) = want5 X0 X1 X2 X5 b t e
  unfold want5
  rw [L5_at]
  simp only [mixed_5]

/-- Result 6, coordinate by coordinate. -/
def want6 (X0 : FVec Ideal S8x2048x4096 .f32) (X1 : FVec Ideal S4096 .f32) (X2 : FVec Ideal S6x4096 .f32) (X6 : FVec Ideal S4096x128 .bf16) (b : Fin 8) (t : Fin 2048) (e : Fin 128) : EReal :=
  ∑ k : Fin 4096, mixed X0 X1 X2 3 b t k * X6 (ix2 k e)

/-- Result 6 of the reference is that. -/
theorem got6 (X0 : FVec Ideal S8x2048x4096 .f32) (X1 : FVec Ideal S4096 .f32) (X2 : FVec Ideal S6x4096 .f32) (X6 : FVec Ideal S4096x128 .bf16) :
    (L6 (M3 (HT X0 X1) (DT (HT X0 X1)) X2) X6 : FVec Ideal S8x2048x128 .bf16) = (fun i => want6 X0 X1 X2 X6 (i 0) (i 1) (i 2) : FVec Ideal S8x2048x128 .bf16) := by
  funext i
  obtain ⟨b, t, e, rfl⟩ : ∃ (b : Fin 8) (t : Fin 2048) (e : Fin 128), i = ix3 b t e := ⟨i 0, i 1, i 2, by blk_ext⟩
  show (L6 (M3 (HT X0 X1) (DT (HT X0 X1)) X2) X6 (ix3 b t e) : EReal) = want6 X0 X1 X2 X6 b t e
  unfold want6
  rw [L6_at]
  simp only [mixed_3]

end Cert.Reference18Ideal.Value
end
-- ==== Proof.Premix.Equal.lean ====
module

public import proofs.«01_k».proof.Defs
public import proofs.«01_k».proof.Proof.Premix.Block
public import proofs.«01_k».proof.Proof.Premix.Reference
public import Idealize.ShloMosaic.Lib.Pipeline.Covers
public import Idealize.ShloMosaic.Lib.Claim
public import Idealize.ShloMosaic.Lib.Quiescent

/-!
What stands before the projections of a recurrent layer: kernel and reference agree.
-/

@[expose] public section
set_option maxRecDepth 16384
noncomputable section
namespace Cert.Kernel18Ideal.Value
open Cert.Kernel18Ideal Cert.Kernel18Ideal.Gen Idealize.ShloMosaic Idealize.ShloMosaic.TcCoe Idealize.SL.Sem
open Idealize.ShloMosaic.Pipeline (Dat)
open Cert.Premix
open Cert.Reference18Ideal.Value (pos dif mixed want0 want1 want2 want3 want4 want5 want6 got0 got1 got2 got3 got4 got5 got6)
variable (m : (ℓ : Loc nD τ sig) → Buf (Elt Ideal) ℓ)

/-- The windows' block indices at every grid point: the tile, what stands before and behind it, the gain, the mixes, the weights. -/
theorem idx : ∀ t : Fin cfg0.N, win0_0.index t = ![t.val / 8, t.val % 8, 0] ∧ win0_1.index t = ![t.val / 8, t.val % 8 * 32 - 1, 0]
    ∧ win0_2.index t = ![t.val / 8, min ((t.val % 8 + 1) * 32) 255, 0] ∧ win0_3.index t = ![0, 0] ∧ win0_4.index t = ![0, 0]
    ∧ win0_5.index t = ![0, 0] ∧ win0_6.index t = ![0, 0] ∧ win0_7.index t = ![0, 0] ∧ win0_8.index t = ![0, 0] :=
  (by decide +kernel : ∀ t : Fin grid0.N, _)

/-- The output windows' block indices at every grid point. -/
theorem idxo : ∀ t : Fin cfg0.N, win0_9.index t = ![t.val / 8, t.val % 8, 0] ∧ win0_10.index t = ![t.val / 8, t.val % 8, 0]
    ∧ win0_11.index t = ![t.val / 8, t.val % 8, 0] ∧ win0_12.index t = ![t.val / 8, t.val % 8, 0] ∧ win0_13.index t = ![t.val / 8, t.val % 8, 0]
    ∧ win0_14.index t = ![t.val / 8, t.val % 8, 0] ∧ win0_15.index t = ![t.val / 8, t.val % 8, 0] :=
  (by decide +kernel : ∀ t : Fin grid0.N, _)

/-- The tile's number along the positions. -/
theorem tile : ∀ t : Fin cfg0.N, (grid0.coords t 1).val = t.val % 8 :=
  (by decide +kernel : ∀ t : Fin grid0.N, _)

/-- The blocks of result 0 tile its array. -/
theorem covers0 : (cfg0.win 9).Covers :=
  (cfg0.win 9).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).1 a).trans ?_
    match a with
    | 0 => show ((β 0 : ℕ) * 8 + β 1) / 8 = β 0; omega
    | 1 => show ((β 0 : ℕ) * 8 + β 1) % 8 = β 1; omega
    | 2 => show 0 = (β 2 : ℕ); omega

/-- The blocks of result 1 tile its array. -/
theorem covers1 : (cfg0.win 10).Covers :=
  (cfg0.win 10).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).2.1 a).trans ?_
    match a with
    | 0 => show ((β 0 : ℕ) * 8 + β 1) / 8 = β 0; omega
    | 1 => show ((β 0 : ℕ) * 8 + β 1) % 8 = β 1; omega
    | 2 => show 0 = (β 2 : ℕ); omega

/-- The blocks of result 2 tile its array. -/
theorem covers2 : (cfg0.win 11).Covers :=
  (cfg0.win 11).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).2.2.1 a).trans ?_
    match a with
    | 0 => show ((β 0 : ℕ) * 8 + β 1) / 8 = β 0; omega
    | 1 => show ((β 0 : ℕ) * 8 + β 1) % 8 = β 1; omega
    | 2 => show 0 = (β 2 : ℕ); omega

/-- The blocks of result 3 tile its array. -/
theorem covers3 : (cfg0.win 12).Covers :=
  (cfg0.win 12).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).2.2.2.1 a).trans ?_
    match a with
    | 0 => show ((β 0 : ℕ) * 8 + β 1) / 8 = β 0; omega
    | 1 => show ((β 0 : ℕ) * 8 + β 1) % 8 = β 1; omega
    | 2 => show 0 = (β 2 : ℕ); omega

/-- The blocks of result 4 tile its array. -/
theorem covers4 : (cfg0.win 13).Covers :=
  (cfg0.win 13).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).2.2.2.2.1 a).trans ?_
    match a with
    | 0 => show ((β 0 : ℕ) * 8 + β 1) / 8 = β 0; omega
    | 1 => show ((β 0 : ℕ) * 8 + β 1) % 8 = β 1; omega
    | 2 => show 0 = (β 2 : ℕ); omega

/-- The blocks of result 5 tile its array. -/
theorem covers5 : (cfg0.win 14).Covers :=
  (cfg0.win 14).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).2.2.2.2.2.1 a).trans ?_
    match a with
    | 0 => show ((β 0 : ℕ) * 8 + β 1) / 8 = β 0; omega
    | 1 => show ((β 0 : ℕ) * 8 + β 1) % 8 = β 1; omega
    | 2 => show 0 = (β 2 : ℕ); omega

/-- The blocks of result 6 tile its array. -/
theorem covers6 : (cfg0.win 15).Covers :=
  (cfg0.win 15).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).2.2.2.2.2.2 a).trans ?_
    match a with
    | 0 => show ((β 0 : ℕ) * 8 + β 1) / 8 = β 0; omega
    | 1 => show ((β 0 : ℕ) * 8 + β 1) % 8 = β 1; omega
    | 2 => show 0 = (β 2 : ℕ); omega

/-- A point's tile. -/
theorem tile_at (c : Dev nD) (t : Fin cfg0.N) (q : Fin 256) (k : Fin 4096) (b : Fin 8) (r : Fin 2048) (hb : (b : ℕ) = t.val / 8) (hr : (r : ℕ) = t.val % 8 * 256 + q) :
    ((iblk m c 0 t : FVec Ideal S1x256x4096 .f32) (ix3 0 q k) : EReal) = (m ((c : Thread nD τ).loc main_arg0) : FVec Ideal S8x2048x4096 .f32) (ix3 b r k) := by
  blk_ext [iblk, V, idx t]

/-- The position before a point's tile. -/
theorem before_at (c : Dev nD) (t : Fin cfg0.N) (k : Fin 4096) (b : Fin 8) (r : Fin 2048) (hb : (b : ℕ) = t.val / 8) (hr : (r : ℕ) + 1 = t.val % 8 * 256) :
    ((iblk m c 1 t : FVec Ideal S1x8x4096 .f32) (ix3 0 7 k) : EReal) = (m ((c : Thread nD τ).loc main_arg0) : FVec Ideal S8x2048x4096 .f32) (ix3 b r k) := by
  have h : (t.val % 8 * 32 - 1) * 8 + 7 = (r : ℕ) := by omega
  blk_ext [iblk, V, idx t]

/-- The position behind a point's tile. -/
theorem behind_at (c : Dev nD) (t : Fin cfg0.N) (k : Fin 4096) (b : Fin 8) (r : Fin 2048) (hb : (b : ℕ) = t.val / 8) (hr : (r : ℕ) = (t.val % 8 + 1) * 256) :
    ((iblk m c 2 t : FVec Ideal S1x8x4096 .f32) (ix3 0 0 k) : EReal) = (m ((c : Thread nD τ).loc main_arg0) : FVec Ideal S8x2048x4096 .f32) (ix3 b r k) := by
  have h : min ((t.val % 8 + 1) * 32) 255 * 8 = (r : ℕ) := by have := r.isLt; omega
  blk_ext [iblk, V, idx t]

/-- The gain at every point. -/
theorem gain_at (c : Dev nD) (t : Fin cfg0.N) (k : Fin 4096) :
    ((iblk m c 3 t : FVec Ideal S1x4096 .f32) (ix2 0 k) : EReal) = (m ((c : Thread nD τ).loc main_arg1) : FVec Ideal S4096 .f32) (ix1 k) := by
  blk_point [iblk, V, idx t]

/-- The mixes at every point. -/
theorem mixes_at (c : Dev nD) (t : Fin cfg0.N) (n : Fin 6) (k : Fin 4096) :
    ((iblk m c 4 t : FVec Ideal S6x4096 .f32) (ix2 n k) : EReal) = (m ((c : Thread nD τ).loc main_arg2) : FVec Ideal S6x4096 .f32) (ix2 n k) := by
  blk_ext [iblk, V, idx t]

/-- The weights of result 3 at every point. -/
theorem weights3_at (c : Dev nD) (t : Fin cfg0.N) (k : Fin 4096) (e : Fin 256) :
    ((iblk m c 5 t : FVec Ideal S4096x256 .bf16) (ix2 k e) : EReal) = (m ((c : Thread nD τ).loc main_arg3) : FVec Ideal S4096x256 .bf16) (ix2 k e) := by
  blk_ext [iblk, V, idx t]

/-- The weights of result 4 at every point. -/
theorem weights4_at (c : Dev nD) (t : Fin cfg0.N) (k : Fin 4096) (e : Fin 256) :
    ((iblk m c 6 t : FVec Ideal S4096x256 .bf16) (ix2 k e) : EReal) = (m ((c : Thread nD τ).loc main_arg4) : FVec Ideal S4096x256 .bf16) (ix2 k e) := by
  blk_ext [iblk, V, idx t]

/-- The weights of result 5 at every point. -/
theorem weights5_at (c : Dev nD) (t : Fin cfg0.N) (k : Fin 4096) (e : Fin 512) :
    ((iblk m c 7 t : FVec Ideal S4096x512 .bf16) (ix2 k e) : EReal) = (m ((c : Thread nD τ).loc main_arg5) : FVec Ideal S4096x512 .bf16) (ix2 k e) := by
  blk_ext [iblk, V, idx t]

/-- The weights of result 6 at every point. -/
theorem weights6_at (c : Dev nD) (t : Fin cfg0.N) (k : Fin 4096) (e : Fin 128) :
    ((iblk m c 8 t : FVec Ideal S4096x128 .bf16) (ix2 k e) : EReal) = (m ((c : Thread nD τ).loc main_arg6) : FVec Ideal S4096x128 .bf16) (ix2 k e) := by
  blk_ext [iblk, V, idx t]

/-- A normalised row at equal coordinates. -/
theorem normal_congr {x x' g g' : Fin 4096 → EReal} (hx : ∀ k, x k = x' k) (hg : ∀ k, g k = g' k) (k : Fin 4096) : normal x g k = normal x' g' k := by
  rw [funext hx, funext hg]

/-- The tile's normalised positions are the array's. -/
theorem own (c : Dev nD) (t : Fin cfg0.N) (q : Fin 256) (k : Fin 4096) (b : Fin 8) (r : Fin 2048) (hb : (b : ℕ) = t.val / 8) (hr : (r : ℕ) = t.val % 8 * 256 + q) :
    (k0_pay5 (F := Ideal) (iblk m c 3 t) (iblk m c 0 t) (ix2 q k) : EReal) = pos (m ((c : Thread nD τ).loc main_arg0)) (m ((c : Thread nD τ).loc main_arg1)) b r k :=
  (pay5_at _ _ q k).trans (normal_congr (fun k => tile_at m c t q k b r hb hr) (fun k => gain_at m c t k) k)

/-- The tile's differences are the array's. -/
theorem own_dif (c : Dev nD) (t : Fin cfg0.N) (q : Fin 256) (k : Fin 4096) (b : Fin 8) (r : Fin 2048) (hb : (b : ℕ) = t.val / 8) (hr : (r : ℕ) = t.val % 8 * 256 + q) :
    (k0_pay9 (F := Ideal) (k0_pay4 (iblk m c 3 t)) (k0_pay5 (iblk m c 3 t) (iblk m c 0 t)) (k0_pay6 (grid0.coords t) (iblk m c 3 t) (iblk m c 1 t))
      (Scalar.cmpi .eq (BitVec.ofNat 32 (grid0.coords t 1).val) 7#32) (k0_pay7 (iblk m c 2 t)) (k0_pay8 (iblk m c 2 t)) (ix2 q k) : EReal)
      = dif (m ((c : Thread nD τ).loc main_arg0)) (m ((c : Thread nD τ).loc main_arg1)) b r k := by
  have hq := q.isLt
  have hrl := r.isLt
  have hw : Scalar.cmpi .eq (BitVec.ofNat 32 (grid0.coords t 1).val) 7#32 = if t.val % 8 = 7 then 1#1 else 0#1 := by
    rw [tile t]
    exact bit _ 7 (Nat.mod_lt _ (by norm_num)) (by norm_num)
  rw [pay9_at, hw]
  unfold dif
  congr 1
  · exact own m c t q k b r hb hr
  · by_cases h0 : (q : ℕ) = 0
    · refine (dif_pos h0).trans ((pay6_at _ _ _ k).trans ?_)
      by_cases h1 : t.val % 8 = 0
      · refine (if_pos ((tile t).trans h1)).trans ?_
        rw [dif_pos (show (r : ℕ) = 0 by omega)]
      · refine (if_neg fun h => h1 ((tile t).symm.trans h)).trans (Eq.trans ?_ (dif_neg ?_).symm)
        · exact normal_congr (fun k => before_at m c t k b _ hb (by show (r : ℕ) - 1 + 1 = _; omega)) (fun k => gain_at m c t k) k
        · omega
    · refine (dif_neg h0).trans (Eq.trans ?_ (dif_neg ?_).symm)
      · exact own m c t _ k b _ hb (by show (r : ℕ) - 1 = t.val % 8 * 256 + (q - 1 : ℕ); omega)
      · omega
  · by_cases h0 : (q : ℕ) = 255
    · refine (dif_pos h0).trans ?_
      by_cases h1 : t.val % 8 = 7
      · rw [if_pos h1]
        refine (if_pos rfl).trans ?_
        rw [dif_pos (show (r : ℕ) = 2047 by omega)]
      · rw [if_neg h1]
        refine (if_neg (by decide)).trans (Eq.trans ?_ (dif_neg ?_).symm)
        · exact normal_congr (fun k => behind_at m c t k b _ hb (by show (r : ℕ) + 1 = _; omega)) (fun k => gain_at m c t k) k
        · omega
    · refine (dif_neg h0).trans (Eq.trans ?_ (dif_neg ?_).symm)
      · exact own m c t _ k b _ hb (by show (r : ℕ) + 1 = t.val % 8 * 256 + (q + 1 : ℕ); omega)
      · omega

/-- A coordinate of an array at equal places. -/
theorem place {n : ℕ} (f : Fin 8 → Fin 2048 → Fin n → EReal) {b b' : Fin 8} {r r' : Fin 2048} {e e' : Fin n} (hb : (b : ℕ) = b') (hr : (r : ℕ) = r') (he : (e : ℕ) = e') :
    f b r e = f b' r' e' := by
  rw [Fin.ext hb, Fin.ext hr, Fin.ext he]

/-- Result 0's array after the run. -/
theorem final0 (c : Dev nD) : (dats m 0 c).arrAt 9 (cfgs 0).N
    = (fun i => want0 (m ((c : Thread nD τ).loc main_arg0)) (m ((c : Thread nD τ).loc main_arg1)) (m ((c : Thread nD τ).loc main_arg2)) (i 0) (i 1) (i 2) : FVec Ideal S8x2048x4096 .bf16) := by
  refine (dats m 0 c).arrAt_eq_of_covers 9 _ covers0 fun t _ y => ?_
  blk_simp
  rw [after0_9]
  unfold_out out0_9
  frame_out
  have ht : t.val < 64 := t.isLt
  obtain ⟨q, e, rfl⟩ : ∃ (q : Fin 256) (e : Fin 4096), y = ix3 0 q e := ⟨y 1, y 2, by blk_ext⟩
  refine Eq.trans ?_ (place (want0 (m ((c : Thread nD τ).loc main_arg0)) (m ((c : Thread nD τ).loc main_arg1)) (m ((c : Thread nD τ).loc main_arg2))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (pay10_at _ _ _ _ _ _ _ q e).trans ?_
  exact (congrArg₂ (· + ·) (own m c t q e _ _ rfl rfl) (congrArg₂ (· * ·) (own_dif m c t q e _ _ rfl rfl) ((row_at _ 0 (by norm_num) _ e).trans (mixes_at m c t _ e))))

/-- Result 1's array after the run. -/
theorem final1 (c : Dev nD) : (dats m 0 c).arrAt 10 (cfgs 0).N
    = (fun i => want1 (m ((c : Thread nD τ).loc main_arg0)) (m ((c : Thread nD τ).loc main_arg1)) (m ((c : Thread nD τ).loc main_arg2)) (i 0) (i 1) (i 2) : FVec Ideal S8x2048x4096 .bf16) := by
  refine (dats m 0 c).arrAt_eq_of_covers 10 _ covers1 fun t _ y => ?_
  blk_simp
  rw [after0_10]
  unfold_out out0_10
  frame_out
  have ht : t.val < 64 := t.isLt
  obtain ⟨q, e, rfl⟩ : ∃ (q : Fin 256) (e : Fin 4096), y = ix3 0 q e := ⟨y 1, y 2, by blk_ext⟩
  refine Eq.trans ?_ (place (want1 (m ((c : Thread nD τ).loc main_arg0)) (m ((c : Thread nD τ).loc main_arg1)) (m ((c : Thread nD τ).loc main_arg2))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (pay11_at _ _ _ q e).trans ?_
  exact (congrArg₂ (· + ·) (own m c t q e _ _ rfl rfl) (congrArg₂ (· * ·) (own_dif m c t q e _ _ rfl rfl) ((row_at _ 2 (by norm_num) _ e).trans (mixes_at m c t _ e))))

/-- Result 2's array after the run. -/
theorem final2 (c : Dev nD) : (dats m 0 c).arrAt 11 (cfgs 0).N
    = (fun i => want2 (m ((c : Thread nD τ).loc main_arg0)) (m ((c : Thread nD τ).loc main_arg1)) (m ((c : Thread nD τ).loc main_arg2)) (i 0) (i 1) (i 2) : FVec Ideal S8x2048x4096 .bf16) := by
  refine (dats m 0 c).arrAt_eq_of_covers 11 _ covers2 fun t _ y => ?_
  blk_simp
  rw [after0_11]
  unfold_out out0_11
  frame_out
  have ht : t.val < 64 := t.isLt
  obtain ⟨q, e, rfl⟩ : ∃ (q : Fin 256) (e : Fin 4096), y = ix3 0 q e := ⟨y 1, y 2, by blk_ext⟩
  refine Eq.trans ?_ (place (want2 (m ((c : Thread nD τ).loc main_arg0)) (m ((c : Thread nD τ).loc main_arg1)) (m ((c : Thread nD τ).loc main_arg2))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (pay13_at _ _ _ q e).trans ?_
  exact (congrArg₂ (· + ·) (own m c t q e _ _ rfl rfl) (congrArg₂ (· * ·) (own_dif m c t q e _ _ rfl rfl) ((row_at _ 3 (by norm_num) _ e).trans (mixes_at m c t _ e))))

/-- Result 3's array after the run. -/
theorem final3 (c : Dev nD) : (dats m 0 c).arrAt 12 (cfgs 0).N
    = (fun i => want3 (m ((c : Thread nD τ).loc main_arg0)) (m ((c : Thread nD τ).loc main_arg1)) (m ((c : Thread nD τ).loc main_arg2)) (m ((c : Thread nD τ).loc main_arg3)) (i 0) (i 1) (i 2) : FVec Ideal S8x2048x256 .bf16) := by
  refine (dats m 0 c).arrAt_eq_of_covers 12 _ covers3 fun t _ y => ?_
  blk_simp
  rw [after0_12]
  unfold_out out0_12
  frame_out
  have ht : t.val < 64 := t.isLt
  obtain ⟨q, e, rfl⟩ : ∃ (q : Fin 256) (e : Fin 256), y = ix3 0 q e := ⟨y 1, y 2, by blk_ext⟩
  refine Eq.trans ?_ (place (want3 (m ((c : Thread nD τ).loc main_arg0)) (m ((c : Thread nD τ).loc main_arg1)) (m ((c : Thread nD τ).loc main_arg2)) (m ((c : Thread nD τ).loc main_arg3))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (low14_at _ _ _ _ q e).trans ?_
  exact congrArg Ideal.tanh (Finset.sum_congr rfl fun k _ => congrArg₂ (· * ·) (congrArg₂ (· + ·) (own m c t q k _ _ rfl rfl) (congrArg₂ (· * ·) (own_dif m c t q k _ _ rfl rfl) ((row_at _ 1 (by norm_num) _ k).trans (mixes_at m c t _ k)))) (weights3_at m c t k e))

/-- Result 4's array after the run. -/
theorem final4 (c : Dev nD) : (dats m 0 c).arrAt 13 (cfgs 0).N
    = (fun i => want4 (m ((c : Thread nD τ).loc main_arg0)) (m ((c : Thread nD τ).loc main_arg1)) (m ((c : Thread nD τ).loc main_arg2)) (m ((c : Thread nD τ).loc main_arg4)) (i 0) (i 1) (i 2) : FVec Ideal S8x2048x256 .bf16) := by
  refine (dats m 0 c).arrAt_eq_of_covers 13 _ covers4 fun t _ y => ?_
  blk_simp
  rw [after0_13]
  unfold_out out0_13
  frame_out
  have ht : t.val < 64 := t.isLt
  obtain ⟨q, e, rfl⟩ : ∃ (q : Fin 256) (e : Fin 256), y = ix3 0 q e := ⟨y 1, y 2, by blk_ext⟩
  refine Eq.trans ?_ (place (want4 (m ((c : Thread nD τ).loc main_arg0)) (m ((c : Thread nD τ).loc main_arg1)) (m ((c : Thread nD τ).loc main_arg2)) (m ((c : Thread nD τ).loc main_arg4))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (low15_at _ _ _ _ q e).trans ?_
  exact (Finset.sum_congr rfl fun k _ => congrArg₂ (· * ·) (congrArg₂ (· + ·) (own m c t q k _ _ rfl rfl) (congrArg₂ (· * ·) (own_dif m c t q k _ _ rfl rfl) ((row_at _ 4 (by norm_num) _ k).trans (mixes_at m c t _ k)))) (weights4_at m c t k e))

/-- Result 5's array after the run. -/
theorem final5 (c : Dev nD) : (dats m 0 c).arrAt 14 (cfgs 0).N
    = (fun i => want5 (m ((c : Thread nD τ).loc main_arg0)) (m ((c : Thread nD τ).loc main_arg1)) (m ((c : Thread nD τ).loc main_arg2)) (m ((c : Thread nD τ).loc main_arg5)) (i 0) (i 1) (i 2) : FVec Ideal S8x2048x512 .bf16) := by
  refine (dats m 0 c).arrAt_eq_of_covers 14 _ covers5 fun t _ y => ?_
  blk_simp
  rw [after0_14]
  unfold_out out0_14
  frame_out
  have ht : t.val < 64 := t.isLt
  obtain ⟨q, e, rfl⟩ : ∃ (q : Fin 256) (e : Fin 512), y = ix3 0 q e := ⟨y 1, y 2, by blk_ext⟩
  refine Eq.trans ?_ (place (want5 (m ((c : Thread nD τ).loc main_arg0)) (m ((c : Thread nD τ).loc main_arg1)) (m ((c : Thread nD τ).loc main_arg2)) (m ((c : Thread nD τ).loc main_arg5))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (low2_at _ _ _ _ q e).trans ?_
  exact congrArg sigm (Finset.sum_congr rfl fun k _ => congrArg₂ (· * ·) (congrArg₂ (· + ·) (own m c t q k _ _ rfl rfl) (congrArg₂ (· * ·) (own_dif m c t q k _ _ rfl rfl) ((row_at _ 5 (by norm_num) _ k).trans (mixes_at m c t _ k)))) (weights5_at m c t k e))

/-- Result 6's array after the run. -/
theorem final6 (c : Dev nD) : (dats m 0 c).arrAt 15 (cfgs 0).N
    = (fun i => want6 (m ((c : Thread nD τ).loc main_arg0)) (m ((c : Thread nD τ).loc main_arg1)) (m ((c : Thread nD τ).loc main_arg2)) (m ((c : Thread nD τ).loc main_arg6)) (i 0) (i 1) (i 2) : FVec Ideal S8x2048x128 .bf16) := by
  refine (dats m 0 c).arrAt_eq_of_covers 15 _ covers6 fun t _ y => ?_
  blk_simp
  rw [after0_15]
  unfold_out out0_15
  frame_out
  have ht : t.val < 64 := t.isLt
  obtain ⟨q, e, rfl⟩ : ∃ (q : Fin 256) (e : Fin 128), y = ix3 0 q e := ⟨y 1, y 2, by blk_ext⟩
  refine Eq.trans ?_ (place (want6 (m ((c : Thread nD τ).loc main_arg0)) (m ((c : Thread nD τ).loc main_arg1)) (m ((c : Thread nD τ).loc main_arg2)) (m ((c : Thread nD τ).loc main_arg6))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (low3_at _ _ _ _ q e).trans ?_
  exact (Finset.sum_congr rfl fun k _ => congrArg₂ (· * ·) (congrArg₂ (· + ·) (own m c t q k _ _ rfl rfl) (congrArg₂ (· * ·) (own_dif m c t q k _ _ rfl rfl) ((row_at _ 3 (by norm_num) _ k).trans (mixes_at m c t _ k)))) (weights6_at m c t k e))

end Cert.Kernel18Ideal.Value

namespace Cert.Reference18Ideal.Value
open Idealize.ShloMosaic Idealize.SL.Sem

/-- The reference ends with every counter at zero and its arguments unchanged. -/
theorem frame (m : (ℓ : Loc Cert.Reference18Ideal.nD Cert.Reference18Ideal.τ Cert.Reference18Ideal.sig) → Buf (Elt Ideal) ℓ) (g : Dev Cert.Reference18Ideal.nD → PrngReg) :
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0) :=
  (θ_run Cert.Reference18Ideal.defs _ _).mono (fun r h => ⟨fun c => (h c).2.2.2.2.2.2.2, Idealize.ShloMosaic.sem_eq_zero_of_no_sems (by decide) r.2⟩)
    (Cert.Reference18Ideal.Value.run (F := Ideal) m g)

/-- The kernel and its reference end with equal results. -/
theorem equal : Cert.algebraic_Kernel18Ideal_Reference18Ideal (hKernel18Ideal := Cert.Kernel18Ideal.Gen.facts) (hReference18Ideal := Cert.Reference18Ideal.Gen.facts) := by
  intro m g m' g' hpre hag
  refine ⟨fun c => (Cert.Kernel18Ideal.Gen.dats m 0 c).arrAt 9 Cert.Kernel18Ideal.cfg0.N, fun c => (Cert.Kernel18Ideal.Gen.dats m 0 c).arrAt 10 Cert.Kernel18Ideal.cfg0.N, fun c => (Cert.Kernel18Ideal.Gen.dats m 0 c).arrAt 11 Cert.Kernel18Ideal.cfg0.N, fun c => (Cert.Kernel18Ideal.Gen.dats m 0 c).arrAt 12 Cert.Kernel18Ideal.cfg0.N, fun c => (Cert.Kernel18Ideal.Gen.dats m 0 c).arrAt 13 Cert.Kernel18Ideal.cfg0.N, fun c => (Cert.Kernel18Ideal.Gen.dats m 0 c).arrAt 14 Cert.Kernel18Ideal.cfg0.N, fun c => (Cert.Kernel18Ideal.Gen.dats m 0 c).arrAt 15 Cert.Kernel18Ideal.cfg0.N, ?_, ?_⟩
  · exact Cert.Kernel18Ideal.Value.run_blocks m g
  · refine (θ_run Cert.Reference18Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Reference18Ideal.Value.run (F := Ideal) m' g')
    · refine Eq.trans ?_ (Cert.Kernel18Ideal.Value.final0 m c).symm
      refine Eq.trans (show _ = _ from got0 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2))) ?_
      rw [(hag c).1, (hag c).2.1, (hag c).2.2.1]
    · refine Eq.trans ?_ (Cert.Kernel18Ideal.Value.final1 m c).symm
      refine Eq.trans (show _ = _ from got1 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2))) ?_
      rw [(hag c).1, (hag c).2.1, (hag c).2.2.1]
    · refine Eq.trans ?_ (Cert.Kernel18Ideal.Value.final2 m c).symm
      refine Eq.trans (show _ = _ from got2 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2))) ?_
      rw [(hag c).1, (hag c).2.1, (hag c).2.2.1]
    · refine Eq.trans ?_ (Cert.Kernel18Ideal.Value.final3 m c).symm
      refine Eq.trans (show _ = _ from got3 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg3))) ?_
      rw [(hag c).1, (hag c).2.1, (hag c).2.2.1, (hag c).2.2.2.1]
    · refine Eq.trans ?_ (Cert.Kernel18Ideal.Value.final4 m c).symm
      refine Eq.trans (show _ = _ from got4 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg4))) ?_
      rw [(hag c).1, (hag c).2.1, (hag c).2.2.1, (hag c).2.2.2.2.1]
    · refine Eq.trans ?_ (Cert.Kernel18Ideal.Value.final5 m c).symm
      refine Eq.trans (show _ = _ from got5 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg5))) ?_
      rw [(hag c).1, (hag c).2.1, (hag c).2.2.1, (hag c).2.2.2.2.2.1]
    · refine Eq.trans ?_ (Cert.Kernel18Ideal.Value.final6 m c).symm
      refine Eq.trans (show _ = _ from got6 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg6))) ?_
      rw [(hag c).1, (hag c).2.1, (hag c).2.2.1, (hag c).2.2.2.2.2.2]

end Cert.Reference18Ideal.Value
end
-- ==== Proof.Premix.FirstEqual.lean ====
module

public import proofs.«01_k».proof.Defs
public import proofs.«01_k».proof.Proof.Gen.Kernel19Ideal.Value
public import proofs.«01_k».proof.Proof.Gen.Reference19Ideal.Run
public import proofs.«01_k».proof.Proof.Premix.Equal
public import Idealize.ShloMosaic.Lib.Pipeline.Covers
public import Idealize.ShloMosaic.Lib.Claim
public import Idealize.ShloMosaic.Lib.Quiescent

/-!
What stands before the projections of the first recurrent layer: kernel and reference agree.
-/

@[expose] public section
set_option maxRecDepth 16384
noncomputable section
namespace Cert.Kernel19Ideal.Value
open Cert.Kernel19Ideal Cert.Kernel19Ideal.Gen Idealize.ShloMosaic Idealize.ShloMosaic.TcCoe Idealize.SL.Sem
open Idealize.ShloMosaic.Pipeline (Dat)
open Cert.Premix
open Cert.Kernel18Ideal.Value (pay5_at pay6_at pay9_at pay10_at pay11_at pay13_at low14_at low15_at low2_at row_at bit normal_congr place)
open Cert.Reference18Ideal.Value (pos dif mixed want0 want1 want2 want3 want4 want5 got0 got1 got2 got3 got4 got5)
variable (m : (ℓ : Loc nD τ sig) → Buf (Elt Ideal) ℓ)

/-- The windows' block indices at every grid point: the tile, what stands before and behind it, the gain, the mixes, the weights. -/
theorem idx : ∀ t : Fin cfg0.N, win0_0.index t = ![t.val / 8, t.val % 8, 0] ∧ win0_1.index t = ![t.val / 8, t.val % 8 * 32 - 1, 0]
    ∧ win0_2.index t = ![t.val / 8, min ((t.val % 8 + 1) * 32) 255, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

/-- The output windows' block indices at every grid point. -/
theorem idxo : ∀ t : Fin cfg0.N, win0_8.index t = ![t.val / 8, t.val % 8, 0] ∧ win0_9.index t = ![t.val / 8, t.val % 8, 0]
    ∧ win0_10.index t = ![t.val / 8, t.val % 8, 0] ∧ win0_11.index t = ![t.val / 8, t.val % 8, 0] ∧ win0_12.index t = ![t.val / 8, t.val % 8, 0]
    ∧ win0_13.index t = ![t.val / 8, t.val % 8, 0] :=
  (by decide +kernel : ∀ t : Fin grid0.N, _)

/-- The tile's number along the positions. -/
theorem tile : ∀ t : Fin cfg0.N, (grid0.coords t 1).val = t.val % 8 :=
  (by decide +kernel : ∀ t : Fin grid0.N, _)

/-- The blocks of result 0 tile its array. -/
theorem covers0 : (cfg0.win 8).Covers :=
  (cfg0.win 8).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).1 a).trans ?_
    match a with
    | 0 => show ((β 0 : ℕ) * 8 + β 1) / 8 = β 0; omega
    | 1 => show ((β 0 : ℕ) * 8 + β 1) % 8 = β 1; omega
    | 2 => show 0 = (β 2 : ℕ); omega

/-- The blocks of result 1 tile its array. -/
theorem covers1 : (cfg0.win 9).Covers :=
  (cfg0.win 9).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).2.1 a).trans ?_
    match a with
    | 0 => show ((β 0 : ℕ) * 8 + β 1) / 8 = β 0; omega
    | 1 => show ((β 0 : ℕ) * 8 + β 1) % 8 = β 1; omega
    | 2 => show 0 = (β 2 : ℕ); omega

/-- The blocks of result 2 tile its array. -/
theorem covers2 : (cfg0.win 10).Covers :=
  (cfg0.win 10).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).2.2.1 a).trans ?_
    match a with
    | 0 => show ((β 0 : ℕ) * 8 + β 1) / 8 = β 0; omega
    | 1 => show ((β 0 : ℕ) * 8 + β 1) % 8 = β 1; omega
    | 2 => show 0 = (β 2 : ℕ); omega

/-- The blocks of result 3 tile its array. -/
theorem covers3 : (cfg0.win 11).Covers :=
  (cfg0.win 11).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).2.2.2.1 a).trans ?_
    match a with
    | 0 => show ((β 0 : ℕ) * 8 + β 1) / 8 = β 0; omega
    | 1 => show ((β 0 : ℕ) * 8 + β 1) % 8 = β 1; omega
    | 2 => show 0 = (β 2 : ℕ); omega

/-- The blocks of result 4 tile its array. -/
theorem covers4 : (cfg0.win 12).Covers :=
  (cfg0.win 12).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).2.2.2.2.1 a).trans ?_
    match a with
    | 0 => show ((β 0 : ℕ) * 8 + β 1) / 8 = β 0; omega
    | 1 => show ((β 0 : ℕ) * 8 + β 1) % 8 = β 1; omega
    | 2 => show 0 = (β 2 : ℕ); omega

/-- The blocks of result 5 tile its array. -/
theorem covers5 : (cfg0.win 13).Covers :=
  (cfg0.win 13).covers_of_index_surj rfl (by decide) fun β => by
    have h0 : (β 0 : ℕ) < 8 := (β 0).isLt
    have h1 : (β 1 : ℕ) < 8 := (β 1).isLt
    have h2 : (β 2 : ℕ) < 1 := (β 2).isLt
    refine ⟨⟨(β 0 : ℕ) * 8 + β 1, by show _ < 64; omega⟩, fun a => ?_⟩
    refine (congrFun (idxo ⟨(β 0 : ℕ) * 8 + β 1, by show _ < 64; omega⟩).2.2.2.2.2 a).trans ?_
    match a with
    | 0 => show ((β 0 : ℕ) * 8 + β 1) / 8 = β 0; omega
    | 1 => show ((β 0 : ℕ) * 8 + β 1) % 8 = β 1; omega
    | 2 => show 0 = (β 2 : ℕ); omega

/-- The same operations as in the later layer's call. -/
theorem same1 : @k0_pay1 = @Cert.Kernel18Ideal.Gen.k0_pay1 := rfl

/-- The same operations as in the later layer's call. -/
theorem same2 : @k0_pay2 = @Cert.Kernel18Ideal.Gen.k0_pay2 := rfl

/-- The same operations as in the later layer's call. -/
theorem same3 : @k0_pay3 = @Cert.Kernel18Ideal.Gen.k0_pay4 := rfl

/-- The same operations as in the later layer's call. -/
theorem same4 : @k0_pay4 = @Cert.Kernel18Ideal.Gen.k0_pay5 := rfl

/-- The same operations as in the later layer's call. -/
theorem same5 : @k0_pay5 = @Cert.Kernel18Ideal.Gen.k0_pay6 := rfl

/-- The same operations as in the later layer's call. -/
theorem same6 : @k0_pay6 = @Cert.Kernel18Ideal.Gen.k0_pay7 := rfl

/-- The same operations as in the later layer's call. -/
theorem same7 : @k0_pay7 = @Cert.Kernel18Ideal.Gen.k0_pay8 := rfl

/-- The same operations as in the later layer's call. -/
theorem same8 : @k0_pay8 = @Cert.Kernel18Ideal.Gen.k0_pay9 := rfl

/-- The same operations as in the later layer's call. -/
theorem same9 : @k0_pay9 = @Cert.Kernel18Ideal.Gen.k0_pay10 := rfl

/-- The same operations as in the later layer's call. -/
theorem same10 : @k0_pay10 = @Cert.Kernel18Ideal.Gen.k0_pay11 := rfl

/-- The same operations as in the later layer's call. -/
theorem same11 : @k0_pay11 = @Cert.Kernel18Ideal.Gen.k0_pay13 := rfl

/-- The same operations as in the later layer's call. -/
theorem same12 : @k0_pay12 = @Cert.Kernel18Ideal.Gen.k0_pay14 := rfl

/-- The same operations as in the later layer's call. -/
theorem same13 : @k0_pay13 = @Cert.Kernel18Ideal.Gen.k0_pay15 := rfl

/-- A point's tile. -/
theorem tile_at (c : Dev nD) (t : Fin cfg0.N) (q : Fin 256) (k : Fin 4096) (b : Fin 8) (r : Fin 2048) (hb : (b : ℕ) = t.val / 8) (hr : (r : ℕ) = t.val % 8 * 256 + q) :
    ((iblk m c 0 t : FVec Ideal S1x256x4096 .f32) (ix3 0 q k) : EReal) = (m ((c : Thread nD τ).loc main_arg0) : FVec Ideal S8x2048x4096 .f32) (ix3 b r k) := by
  blk_ext [iblk, V, idx t]

/-- The position before a point's tile. -/
theorem before_at (c : Dev nD) (t : Fin cfg0.N) (k : Fin 4096) (b : Fin 8) (r : Fin 2048) (hb : (b : ℕ) = t.val / 8) (hr : (r : ℕ) + 1 = t.val % 8 * 256) :
    ((iblk m c 1 t : FVec Ideal S1x8x4096 .f32) (ix3 0 7 k) : EReal) = (m ((c : Thread nD τ).loc main_arg0) : FVec Ideal S8x2048x4096 .f32) (ix3 b r k) := by
  have h : (t.val % 8 * 32 - 1) * 8 + 7 = (r : ℕ) := by omega
  blk_ext [iblk, V, idx t]

/-- The position behind a point's tile. -/
theorem behind_at (c : Dev nD) (t : Fin cfg0.N) (k : Fin 4096) (b : Fin 8) (r : Fin 2048) (hb : (b : ℕ) = t.val / 8) (hr : (r : ℕ) = (t.val % 8 + 1) * 256) :
    ((iblk m c 2 t : FVec Ideal S1x8x4096 .f32) (ix3 0 0 k) : EReal) = (m ((c : Thread nD τ).loc main_arg0) : FVec Ideal S8x2048x4096 .f32) (ix3 b r k) := by
  have h : min ((t.val % 8 + 1) * 32) 255 * 8 = (r : ℕ) := by have := r.isLt; omega
  blk_ext [iblk, V, idx t]

/-- The gain at every point. -/
theorem gain_at (c : Dev nD) (t : Fin cfg0.N) (k : Fin 4096) :
    ((iblk m c 3 t : FVec Ideal S1x4096 .f32) (ix2 0 k) : EReal) = (m ((c : Thread nD τ).loc main_arg1) : FVec Ideal S4096 .f32) (ix1 k) := by
  blk_point [iblk, V, idx t]

/-- The mixes at every point. -/
theorem mixes_at (c : Dev nD) (t : Fin cfg0.N) (n : Fin 6) (k : Fin 4096) :
    ((iblk m c 4 t : FVec Ideal S6x4096 .f32) (ix2 n k) : EReal) = (m ((c : Thread nD τ).loc main_arg2) : FVec Ideal S6x4096 .f32) (ix2 n k) := by
  blk_ext [iblk, V, idx t]

/-- The weights of result 3 at every point. -/
theorem weights3_at (c : Dev nD) (t : Fin cfg0.N) (k : Fin 4096) (e : Fin 256) :
    ((iblk m c 5 t : FVec Ideal S4096x256 .bf16) (ix2 k e) : EReal) = (m ((c : Thread nD τ).loc main_arg3) : FVec Ideal S4096x256 .bf16) (ix2 k e) := by
  blk_ext [iblk, V, idx t]

/-- The weights of result 4 at every point. -/
theorem weights4_at (c : Dev nD) (t : Fin cfg0.N) (k : Fin 4096) (e : Fin 256) :
    ((iblk m c 6 t : FVec Ideal S4096x256 .bf16) (ix2 k e) : EReal) = (m ((c : Thread nD τ).loc main_arg4) : FVec Ideal S4096x256 .bf16) (ix2 k e) := by
  blk_ext [iblk, V, idx t]

/-- The weights of result 5 at every point. -/
theorem weights5_at (c : Dev nD) (t : Fin cfg0.N) (k : Fin 4096) (e : Fin 512) :
    ((iblk m c 7 t : FVec Ideal S4096x512 .bf16) (ix2 k e) : EReal) = (m ((c : Thread nD τ).loc main_arg5) : FVec Ideal S4096x512 .bf16) (ix2 k e) := by
  blk_ext [iblk, V, idx t]

/-- The tile's normalised positions are the array's. -/
theorem own (c : Dev nD) (t : Fin cfg0.N) (q : Fin 256) (k : Fin 4096) (b : Fin 8) (r : Fin 2048) (hb : (b : ℕ) = t.val / 8) (hr : (r : ℕ) = t.val % 8 * 256 + q) :
    (Cert.Kernel18Ideal.Gen.k0_pay5 (F := Ideal) (iblk m c 3 t) (iblk m c 0 t) (ix2 q k) : EReal) = pos (m ((c : Thread nD τ).loc main_arg0)) (m ((c : Thread nD τ).loc main_arg1)) b r k :=
  (pay5_at _ _ q k).trans (normal_congr (fun k => tile_at m c t q k b r hb hr) (fun k => gain_at m c t k) k)

/-- The tile's differences are the array's. -/
theorem own_dif (c : Dev nD) (t : Fin cfg0.N) (q : Fin 256) (k : Fin 4096) (b : Fin 8) (r : Fin 2048) (hb : (b : ℕ) = t.val / 8) (hr : (r : ℕ) = t.val % 8 * 256 + q) :
    (Cert.Kernel18Ideal.Gen.k0_pay9 (F := Ideal) (Cert.Kernel18Ideal.Gen.k0_pay4 (iblk m c 3 t)) (Cert.Kernel18Ideal.Gen.k0_pay5 (iblk m c 3 t) (iblk m c 0 t)) (Cert.Kernel18Ideal.Gen.k0_pay6 (grid0.coords t) (iblk m c 3 t) (iblk m c 1 t))
      (Scalar.cmpi .eq (BitVec.ofNat 32 (grid0.coords t 1).val) 7#32) (Cert.Kernel18Ideal.Gen.k0_pay7 (iblk m c 2 t)) (Cert.Kernel18Ideal.Gen.k0_pay8 (iblk m c 2 t)) (ix2 q k) : EReal)
      = dif (m ((c : Thread nD τ).loc main_arg0)) (m ((c : Thread nD τ).loc main_arg1)) b r k := by
  have hq := q.isLt
  have hrl := r.isLt
  have hw : Scalar.cmpi .eq (BitVec.ofNat 32 (grid0.coords t 1).val) 7#32 = if t.val % 8 = 7 then 1#1 else 0#1 := by
    rw [tile t]
    exact bit _ 7 (Nat.mod_lt _ (by norm_num)) (by norm_num)
  rw [pay9_at, hw]
  unfold dif
  congr 1
  · exact own m c t q k b r hb hr
  · by_cases h0 : (q : ℕ) = 0
    · refine (dif_pos h0).trans ((pay6_at _ _ _ k).trans ?_)
      by_cases h1 : t.val % 8 = 0
      · refine (if_pos ((tile t).trans h1)).trans ?_
        rw [dif_pos (show (r : ℕ) = 0 by omega)]
      · refine (if_neg fun h => h1 ((tile t).symm.trans h)).trans (Eq.trans ?_ (dif_neg ?_).symm)
        · exact normal_congr (fun k => before_at m c t k b _ hb (by show (r : ℕ) - 1 + 1 = _; omega)) (fun k => gain_at m c t k) k
        · omega
    · refine (dif_neg h0).trans (Eq.trans ?_ (dif_neg ?_).symm)
      · exact own m c t _ k b _ hb (by show (r : ℕ) - 1 = t.val % 8 * 256 + (q - 1 : ℕ); omega)
      · omega
  · by_cases h0 : (q : ℕ) = 255
    · refine (dif_pos h0).trans ?_
      by_cases h1 : t.val % 8 = 7
      · rw [if_pos h1]
        refine (if_pos rfl).trans ?_
        rw [dif_pos (show (r : ℕ) = 2047 by omega)]
      · rw [if_neg h1]
        refine (if_neg (by decide)).trans (Eq.trans ?_ (dif_neg ?_).symm)
        · exact normal_congr (fun k => behind_at m c t k b _ hb (by show (r : ℕ) + 1 = _; omega)) (fun k => gain_at m c t k) k
        · omega
    · refine (dif_neg h0).trans (Eq.trans ?_ (dif_neg ?_).symm)
      · exact own m c t _ k b _ hb (by show (r : ℕ) + 1 = t.val % 8 * 256 + (q + 1 : ℕ); omega)
      · omega

/-- Result 0's array after the run. -/
theorem final0 (c : Dev nD) : (dats m 0 c).arrAt 8 (cfgs 0).N
    = (fun i => want0 (m ((c : Thread nD τ).loc main_arg0)) (m ((c : Thread nD τ).loc main_arg1)) (m ((c : Thread nD τ).loc main_arg2)) (i 0) (i 1) (i 2) : FVec Ideal S8x2048x4096 .bf16) := by
  refine (dats m 0 c).arrAt_eq_of_covers 8 _ covers0 fun t _ y => ?_
  blk_simp
  rw [after0_8]
  unfold_out out0_8
  frame_out
  simp only [same1, same2, same3, same4, same5, same6, same7, same8, same9, same10, same11, same12, same13]
  have ht : t.val < 64 := t.isLt
  obtain ⟨q, e, rfl⟩ : ∃ (q : Fin 256) (e : Fin 4096), y = ix3 0 q e := ⟨y 1, y 2, by blk_ext⟩
  refine Eq.trans ?_ (place (want0 (m ((c : Thread nD τ).loc main_arg0)) (m ((c : Thread nD τ).loc main_arg1)) (m ((c : Thread nD τ).loc main_arg2))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (pay10_at _ _ _ _ _ _ _ q e).trans ?_
  exact (congrArg₂ (· + ·) (own m c t q e _ _ rfl rfl) (congrArg₂ (· * ·) (own_dif m c t q e _ _ rfl rfl) ((row_at _ 0 (by norm_num) _ e).trans (mixes_at m c t _ e))))

/-- Result 1's array after the run. -/
theorem final1 (c : Dev nD) : (dats m 0 c).arrAt 9 (cfgs 0).N
    = (fun i => want1 (m ((c : Thread nD τ).loc main_arg0)) (m ((c : Thread nD τ).loc main_arg1)) (m ((c : Thread nD τ).loc main_arg2)) (i 0) (i 1) (i 2) : FVec Ideal S8x2048x4096 .bf16) := by
  refine (dats m 0 c).arrAt_eq_of_covers 9 _ covers1 fun t _ y => ?_
  blk_simp
  rw [after0_9]
  unfold_out out0_9
  frame_out
  simp only [same1, same2, same3, same4, same5, same6, same7, same8, same9, same10, same11, same12, same13]
  have ht : t.val < 64 := t.isLt
  obtain ⟨q, e, rfl⟩ : ∃ (q : Fin 256) (e : Fin 4096), y = ix3 0 q e := ⟨y 1, y 2, by blk_ext⟩
  refine Eq.trans ?_ (place (want1 (m ((c : Thread nD τ).loc main_arg0)) (m ((c : Thread nD τ).loc main_arg1)) (m ((c : Thread nD τ).loc main_arg2))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (pay11_at _ _ _ q e).trans ?_
  exact (congrArg₂ (· + ·) (own m c t q e _ _ rfl rfl) (congrArg₂ (· * ·) (own_dif m c t q e _ _ rfl rfl) ((row_at _ 2 (by norm_num) _ e).trans (mixes_at m c t _ e))))

/-- Result 2's array after the run. -/
theorem final2 (c : Dev nD) : (dats m 0 c).arrAt 10 (cfgs 0).N
    = (fun i => want2 (m ((c : Thread nD τ).loc main_arg0)) (m ((c : Thread nD τ).loc main_arg1)) (m ((c : Thread nD τ).loc main_arg2)) (i 0) (i 1) (i 2) : FVec Ideal S8x2048x4096 .bf16) := by
  refine (dats m 0 c).arrAt_eq_of_covers 10 _ covers2 fun t _ y => ?_
  blk_simp
  rw [after0_10]
  unfold_out out0_10
  frame_out
  simp only [same1, same2, same3, same4, same5, same6, same7, same8, same9, same10, same11, same12, same13]
  have ht : t.val < 64 := t.isLt
  obtain ⟨q, e, rfl⟩ : ∃ (q : Fin 256) (e : Fin 4096), y = ix3 0 q e := ⟨y 1, y 2, by blk_ext⟩
  refine Eq.trans ?_ (place (want2 (m ((c : Thread nD τ).loc main_arg0)) (m ((c : Thread nD τ).loc main_arg1)) (m ((c : Thread nD τ).loc main_arg2))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (pay13_at _ _ _ q e).trans ?_
  exact (congrArg₂ (· + ·) (own m c t q e _ _ rfl rfl) (congrArg₂ (· * ·) (own_dif m c t q e _ _ rfl rfl) ((row_at _ 3 (by norm_num) _ e).trans (mixes_at m c t _ e))))

/-- Result 3's array after the run. -/
theorem final3 (c : Dev nD) : (dats m 0 c).arrAt 11 (cfgs 0).N
    = (fun i => want3 (m ((c : Thread nD τ).loc main_arg0)) (m ((c : Thread nD τ).loc main_arg1)) (m ((c : Thread nD τ).loc main_arg2)) (m ((c : Thread nD τ).loc main_arg3)) (i 0) (i 1) (i 2) : FVec Ideal S8x2048x256 .bf16) := by
  refine (dats m 0 c).arrAt_eq_of_covers 11 _ covers3 fun t _ y => ?_
  blk_simp
  rw [after0_11]
  unfold_out out0_11
  frame_out
  simp only [same1, same2, same3, same4, same5, same6, same7, same8, same9, same10, same11, same12, same13]
  have ht : t.val < 64 := t.isLt
  obtain ⟨q, e, rfl⟩ : ∃ (q : Fin 256) (e : Fin 256), y = ix3 0 q e := ⟨y 1, y 2, by blk_ext⟩
  refine Eq.trans ?_ (place (want3 (m ((c : Thread nD τ).loc main_arg0)) (m ((c : Thread nD τ).loc main_arg1)) (m ((c : Thread nD τ).loc main_arg2)) (m ((c : Thread nD τ).loc main_arg3))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (low14_at _ _ _ _ q e).trans ?_
  exact congrArg Ideal.tanh (Finset.sum_congr rfl fun k _ => congrArg₂ (· * ·) (congrArg₂ (· + ·) (own m c t q k _ _ rfl rfl) (congrArg₂ (· * ·) (own_dif m c t q k _ _ rfl rfl) ((row_at _ 1 (by norm_num) _ k).trans (mixes_at m c t _ k)))) (weights3_at m c t k e))

/-- Result 4's array after the run. -/
theorem final4 (c : Dev nD) : (dats m 0 c).arrAt 12 (cfgs 0).N
    = (fun i => want4 (m ((c : Thread nD τ).loc main_arg0)) (m ((c : Thread nD τ).loc main_arg1)) (m ((c : Thread nD τ).loc main_arg2)) (m ((c : Thread nD τ).loc main_arg4)) (i 0) (i 1) (i 2) : FVec Ideal S8x2048x256 .bf16) := by
  refine (dats m 0 c).arrAt_eq_of_covers 12 _ covers4 fun t _ y => ?_
  blk_simp
  rw [after0_12]
  unfold_out out0_12
  frame_out
  simp only [same1, same2, same3, same4, same5, same6, same7, same8, same9, same10, same11, same12, same13]
  have ht : t.val < 64 := t.isLt
  obtain ⟨q, e, rfl⟩ : ∃ (q : Fin 256) (e : Fin 256), y = ix3 0 q e := ⟨y 1, y 2, by blk_ext⟩
  refine Eq.trans ?_ (place (want4 (m ((c : Thread nD τ).loc main_arg0)) (m ((c : Thread nD τ).loc main_arg1)) (m ((c : Thread nD τ).loc main_arg2)) (m ((c : Thread nD τ).loc main_arg4))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (low15_at _ _ _ _ q e).trans ?_
  exact (Finset.sum_congr rfl fun k _ => congrArg₂ (· * ·) (congrArg₂ (· + ·) (own m c t q k _ _ rfl rfl) (congrArg₂ (· * ·) (own_dif m c t q k _ _ rfl rfl) ((row_at _ 4 (by norm_num) _ k).trans (mixes_at m c t _ k)))) (weights4_at m c t k e))

/-- Result 5's array after the run. -/
theorem final5 (c : Dev nD) : (dats m 0 c).arrAt 13 (cfgs 0).N
    = (fun i => want5 (m ((c : Thread nD τ).loc main_arg0)) (m ((c : Thread nD τ).loc main_arg1)) (m ((c : Thread nD τ).loc main_arg2)) (m ((c : Thread nD τ).loc main_arg5)) (i 0) (i 1) (i 2) : FVec Ideal S8x2048x512 .bf16) := by
  refine (dats m 0 c).arrAt_eq_of_covers 13 _ covers5 fun t _ y => ?_
  blk_simp
  rw [after0_13]
  unfold_out out0_13
  frame_out
  simp only [same1, same2, same3, same4, same5, same6, same7, same8, same9, same10, same11, same12, same13]
  have ht : t.val < 64 := t.isLt
  obtain ⟨q, e, rfl⟩ : ∃ (q : Fin 256) (e : Fin 512), y = ix3 0 q e := ⟨y 1, y 2, by blk_ext⟩
  refine Eq.trans ?_ (place (want5 (m ((c : Thread nD τ).loc main_arg0)) (m ((c : Thread nD τ).loc main_arg1)) (m ((c : Thread nD τ).loc main_arg2)) (m ((c : Thread nD τ).loc main_arg5))) (b := ⟨t.val / 8, by omega⟩) (r := ⟨t.val % 8 * 256 + q, by omega⟩) (e := e) ?_ ?_ ?_)
  rotate_left
  · blk_simp [idxo t]
    exact (Nat.add_zero _).symm
  · blk_simp [idxo t]
  · blk_simp [idxo t]
  refine (low2_at _ _ _ _ q e).trans ?_
  exact congrArg sigm (Finset.sum_congr rfl fun k _ => congrArg₂ (· * ·) (congrArg₂ (· + ·) (own m c t q k _ _ rfl rfl) (congrArg₂ (· * ·) (own_dif m c t q k _ _ rfl rfl) ((row_at _ 5 (by norm_num) _ k).trans (mixes_at m c t _ k)))) (weights5_at m c t k e))

end Cert.Kernel19Ideal.Value

namespace Cert.Reference19Ideal.Value
open Idealize.ShloMosaic Idealize.SL.Sem

/-- The reference ends with every counter at zero and its arguments unchanged. -/
theorem frame (m : (ℓ : Loc Cert.Reference19Ideal.nD Cert.Reference19Ideal.τ Cert.Reference19Ideal.sig) → Buf (Elt Ideal) ℓ) (g : Dev Cert.Reference19Ideal.nD → PrngReg) :
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0) :=
  (θ_run Cert.Reference19Ideal.defs _ _).mono (fun r h => ⟨fun c => (h c).2.2.2.2.2.2, Idealize.ShloMosaic.sem_eq_zero_of_no_sems (by decide) r.2⟩)
    (Cert.Reference19Ideal.Value.run (F := Ideal) m g)

/-- The kernel and its reference end with equal results. -/
theorem equal : Cert.algebraic_Kernel19Ideal_Reference19Ideal (hKernel19Ideal := Cert.Kernel19Ideal.Gen.facts) (hReference19Ideal := Cert.Reference19Ideal.Gen.facts) := by
  intro m g m' g' hpre hag
  refine ⟨fun c => (Cert.Kernel19Ideal.Gen.dats m 0 c).arrAt 8 Cert.Kernel19Ideal.cfg0.N, fun c => (Cert.Kernel19Ideal.Gen.dats m 0 c).arrAt 9 Cert.Kernel19Ideal.cfg0.N, fun c => (Cert.Kernel19Ideal.Gen.dats m 0 c).arrAt 10 Cert.Kernel19Ideal.cfg0.N, fun c => (Cert.Kernel19Ideal.Gen.dats m 0 c).arrAt 11 Cert.Kernel19Ideal.cfg0.N, fun c => (Cert.Kernel19Ideal.Gen.dats m 0 c).arrAt 12 Cert.Kernel19Ideal.cfg0.N, fun c => (Cert.Kernel19Ideal.Gen.dats m 0 c).arrAt 13 Cert.Kernel19Ideal.cfg0.N, ?_, ?_⟩
  · exact Cert.Kernel19Ideal.Value.run_blocks m g
  · refine (θ_run Cert.Reference19Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference19Ideal.Value.run (F := Ideal) m' g')
    · refine Eq.trans ?_ (Cert.Kernel19Ideal.Value.final0 m c).symm
      refine Eq.trans (show _ = _ from Cert.Reference18Ideal.Value.got0 (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2))) ?_
      rw [(hag c).1, (hag c).2.1, (hag c).2.2.1]
    · refine Eq.trans ?_ (Cert.Kernel19Ideal.Value.final1 m c).symm
      refine Eq.trans (show _ = _ from Cert.Reference18Ideal.Value.got1 (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2))) ?_
      rw [(hag c).1, (hag c).2.1, (hag c).2.2.1]
    · refine Eq.trans ?_ (Cert.Kernel19Ideal.Value.final2 m c).symm
      refine Eq.trans (show _ = _ from Cert.Reference18Ideal.Value.got2 (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2))) ?_
      rw [(hag c).1, (hag c).2.1, (hag c).2.2.1]
    · refine Eq.trans ?_ (Cert.Kernel19Ideal.Value.final3 m c).symm
      refine Eq.trans (show _ = _ from Cert.Reference18Ideal.Value.got3 (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg3))) ?_
      rw [(hag c).1, (hag c).2.1, (hag c).2.2.1, (hag c).2.2.2.1]
    · refine Eq.trans ?_ (Cert.Kernel19Ideal.Value.final4 m c).symm
      refine Eq.trans (show _ = _ from Cert.Reference18Ideal.Value.got4 (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg4))) ?_
      rw [(hag c).1, (hag c).2.1, (hag c).2.2.1, (hag c).2.2.2.2.1]
    · refine Eq.trans ?_ (Cert.Kernel19Ideal.Value.final5 m c).symm
      refine Eq.trans (show _ = _ from Cert.Reference18Ideal.Value.got5 (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg5))) ?_
      rw [(hag c).1, (hag c).2.1, (hag c).2.2.1, (hag c).2.2.2.2.2]

end Cert.Reference19Ideal.Value
end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import Idealize.ShloMosaic.Lib.Quiescent
public import proofs.«01_k».proof.Proof.Attn.Finite
public import proofs.«01_k».proof.Proof.Mla.Array
public import proofs.«01_k».proof.Proof.Mla.Reference
public import proofs.«01_k».proof.Proof.Gen.Kernel2.Frame
public import proofs.«01_k».proof.Proof.Gen.Kernel2Ideal.Frame
public import proofs.«01_k».proof.Proof.Ffn.Up
public import proofs.«01_k».proof.Proof.Gen.Kernel3.Frame
public import proofs.«01_k».proof.Proof.Gen.Kernel3Ideal.Frame
public import proofs.«01_k».proof.Proof.Ffn.Down
public import proofs.«01_k».proof.Proof.Gen.Kernel4.Frame
public import proofs.«01_k».proof.Proof.Gen.Kernel4Ideal.Frame
public import proofs.«01_k».proof.Proof.Diff.Equal
public import proofs.«01_k».proof.Proof.Gen.Kernel5.Frame
public import proofs.«01_k».proof.Proof.Gen.Kernel5Ideal.Frame
public import proofs.«01_k».proof.Proof.Proj.Recurrent
public import proofs.«01_k».proof.Proof.Gen.Kernel6.Frame
public import proofs.«01_k».proof.Proof.Gen.Kernel6Ideal.Frame
public import proofs.«01_k».proof.Proof.Proj.Output
public import proofs.«01_k».proof.Proof.Gen.Kernel7.Frame
public import proofs.«01_k».proof.Proof.Gen.Kernel7Ideal.Frame
public import proofs.«01_k».proof.Proof.Proj.LatentOutput
public import proofs.«01_k».proof.Proof.Gen.Kernel8.Frame
public import proofs.«01_k».proof.Proof.Gen.Kernel8Ideal.Frame
public import proofs.«01_k».proof.Proof.Norm.Final
public import proofs.«01_k».proof.Proof.Gen.Kernel9.Frame
public import proofs.«01_k».proof.Proof.Gen.Kernel9Ideal.Frame
public import proofs.«01_k».proof.Proof.Rope.DiffQkv
public import proofs.«01_k».proof.Proof.Gen.Kernel10.Frame
public import proofs.«01_k».proof.Proof.Gen.Kernel10Ideal.Frame
public import proofs.«01_k».proof.Proof.Rope.LatentQ
public import proofs.«01_k».proof.Proof.Gen.Kernel11.Frame
public import proofs.«01_k».proof.Proof.Gen.Kernel11Ideal.Frame
public import proofs.«01_k».proof.Proof.Rope.LatentKv
public import proofs.«01_k».proof.Proof.Gen.Kernel12.Frame
public import proofs.«01_k».proof.Proof.Gen.Kernel12Ideal.Frame
public import proofs.«01_k».proof.Proof.Proj.LatentIn
public import proofs.«01_k».proof.Proof.Gen.Kernel13.Frame
public import proofs.«01_k».proof.Proof.Gen.Kernel13Ideal.Frame
public import proofs.«01_k».proof.Proof.Proj.ValueResidual
public import proofs.«01_k».proof.Proof.Gen.Kernel14.Frame
public import proofs.«01_k».proof.Proof.Gen.Kernel14Ideal.Frame
public import proofs.«01_k».proof.Proof.Norm.Hidden
public import proofs.«01_k».proof.Proof.Gen.Kernel15.Frame
public import proofs.«01_k».proof.Proof.Gen.Kernel15Ideal.Frame
public import proofs.«01_k».proof.Proof.Norm.LatentQ
public import proofs.«01_k».proof.Proof.Gen.Kernel16.Frame
public import proofs.«01_k».proof.Proof.Gen.Kernel16Ideal.Frame
public import proofs.«01_k».proof.Proof.Norm.LatentKv
public import proofs.«01_k».proof.Proof.Gen.Kernel17.Frame
public import proofs.«01_k».proof.Proof.Gen.Kernel17Ideal.Frame
public import proofs.«01_k».proof.Proof.Rope.SharedKey
public import proofs.«01_k».proof.Proof.Gen.Kernel18.Frame
public import proofs.«01_k».proof.Proof.Gen.Kernel18Ideal.Frame
public import proofs.«01_k».proof.Proof.Premix.Equal
public import proofs.«01_k».proof.Proof.Gen.Kernel19.Frame
public import proofs.«01_k».proof.Proof.Gen.Kernel19Ideal.Frame
public import proofs.«01_k».proof.Proof.Premix.FirstEqual

@[expose] public section

noncomputable section

namespace Cert.Proof

open Idealize.ShloMosaic Idealize.SL.Sem Cert.Kernel

/-- The attention's reference ends with every counter at zero and its arguments unchanged. -/
theorem frame_ReferenceIdeal (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The attention's kernel and its reference end with equal results, at finite arguments. -/
theorem algebraic : Cert.algebraic_KernelIdeal_ReferenceIdeal_pre_finite (hKernelIdeal := Cert.KernelIdeal.Gen.facts)
    (hReferenceIdeal := Cert.ReferenceIdeal.Gen.facts) (hPre_finite := Cert.Attn.finite_facts) := by
  intro m g m' g' hpre hag
  refine ⟨fun c => (Cert.KernelIdeal.Gen.dats m 0 c).arrAt 3 Cert.KernelIdeal.cfg0.N, ?_, ?_⟩
  · exact Cert.KernelIdeal.Value.run_blocks m g
  · refine (θ_run Cert.ReferenceIdeal.defs _ _).mono (fun r h c => ⟨(h c).1.trans ?_, (h c).2⟩) (Cert.ReferenceIdeal.Value.run (F := Ideal) m' g')
    obtain ⟨hq, hkv⟩ := Cert.Attn.finite_real _ _ (hpre c)
    refine Eq.trans ?_ (Cert.KernelIdeal.Value.final m c (fun b t x => hq _) (fun b t x => hkv _)).symm
    refine (Cert.ReferenceIdeal.Value.res_eq m' c).trans ?_
    rw [(hag c).1, (hag c).2]
    exact Cert.ReferenceIdeal.Value.res_fun _ _ hq hkv

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Attn.finite_facts,
  Cert.Diff.finite_facts,
  fun m g _ => Cert.Kernel.Gen.frame m g, fun m g _ => Cert.KernelIdeal.Gen.frame m g, fun m g _ => Cert.KernelIdeal.Gen.frame m g,
  fun m g _ => frame_ReferenceIdeal m g, fun m g _ => frame_ReferenceIdeal m g,
  fun m g _ => Cert.Kernel2.Gen.frame m g,
  fun m g _ => Cert.Kernel2Ideal.Gen.frame m g,
  fun m g _ => Cert.Reference2Ideal.Value.frame m g,
  fun m g _ => Cert.Kernel3.Gen.frame m g,
  fun m g _ => Cert.Kernel3Ideal.Gen.frame m g,
  fun m g _ => Cert.Reference3Ideal.Value.frame m g,
  fun m g _ => Cert.Kernel4.Gen.frame m g,
  fun m g _ => Cert.Kernel4Ideal.Gen.frame m g,
  fun m g _ => Cert.Kernel4Ideal.Gen.frame m g,
  fun m g _ => Cert.Reference4Ideal.Value.frame m g,
  fun m g _ => Cert.Reference4Ideal.Value.frame m g,
  fun m g _ => Cert.Kernel5.Gen.frame m g,
  fun m g _ => Cert.Kernel5Ideal.Gen.frame m g,
  fun m g _ => Cert.Reference5Ideal.Value.frame m g,
  fun m g _ => Cert.Kernel6.Gen.frame m g,
  fun m g _ => Cert.Kernel6Ideal.Gen.frame m g,
  fun m g _ => Cert.Reference6Ideal.Value.frame m g,
  fun m g _ => Cert.Kernel7.Gen.frame m g,
  fun m g _ => Cert.Kernel7Ideal.Gen.frame m g,
  fun m g _ => Cert.Reference7Ideal.Value.frame m g,
  fun m g _ => Cert.Kernel8.Gen.frame m g,
  fun m g _ => Cert.Kernel8Ideal.Gen.frame m g,
  fun m g _ => Cert.Reference8Ideal.Value.frame m g,
  fun m g _ => Cert.Kernel9.Gen.frame m g,
  fun m g _ => Cert.Kernel9Ideal.Gen.frame m g,
  fun m g _ => Cert.Reference9Ideal.Value.frame m g,
  fun m g _ => Cert.Kernel10.Gen.frame m g,
  fun m g _ => Cert.Kernel10Ideal.Gen.frame m g,
  fun m g _ => Cert.Reference10Ideal.Value.frame m g,
  fun m g _ => Cert.Kernel11.Gen.frame m g,
  fun m g _ => Cert.Kernel11Ideal.Gen.frame m g,
  fun m g _ => Cert.Reference11Ideal.Value.frame m g,
  fun m g _ => Cert.Kernel12.Gen.frame m g,
  fun m g _ => Cert.Kernel12Ideal.Gen.frame m g,
  fun m g _ => Cert.Reference12Ideal.Value.frame m g,
  fun m g _ => Cert.Kernel13.Gen.frame m g,
  fun m g _ => Cert.Kernel13Ideal.Gen.frame m g,
  fun m g _ => Cert.Reference13Ideal.Value.frame m g,
  fun m g _ => Cert.Kernel14.Gen.frame m g,
  fun m g _ => Cert.Kernel14Ideal.Gen.frame m g,
  fun m g _ => Cert.Reference14Ideal.Value.frame m g,
  fun m g _ => Cert.Kernel15.Gen.frame m g,
  fun m g _ => Cert.Kernel15Ideal.Gen.frame m g,
  fun m g _ => Cert.Reference15Ideal.Value.frame m g,
  fun m g _ => Cert.Kernel16.Gen.frame m g,
  fun m g _ => Cert.Kernel16Ideal.Gen.frame m g,
  fun m g _ => Cert.Reference16Ideal.Value.frame m g,
  fun m g _ => Cert.Kernel17.Gen.frame m g,
  fun m g _ => Cert.Kernel17Ideal.Gen.frame m g,
  fun m g _ => Cert.Reference17Ideal.Value.frame m g,
  fun m g _ => Cert.Kernel18.Gen.frame m g,
  fun m g _ => Cert.Kernel18Ideal.Gen.frame m g,
  fun m g _ => Cert.Reference18Ideal.Value.frame m g,
  fun m g _ => Cert.Kernel19.Gen.frame m g,
  fun m g _ => Cert.Kernel19Ideal.Gen.frame m g,
  fun m g _ => Cert.Reference19Ideal.Value.frame m g,
  trivial, algebraic,
  trivial, Cert.Reference2Ideal.Value.equal,
  trivial, Cert.Reference3Ideal.Value.equal,
  trivial, Cert.Reference4Ideal.Value.equal,
  trivial, Cert.Reference5Ideal.Value.equal,
  trivial, Cert.Reference6Ideal.Value.equal,
  trivial, Cert.Reference7Ideal.Value.equal,
  trivial, Cert.Reference8Ideal.Value.equal,
  trivial, Cert.Reference9Ideal.Value.equal,
  trivial, Cert.Reference10Ideal.Value.equal,
  trivial, Cert.Reference11Ideal.Value.equal,
  trivial, Cert.Reference12Ideal.Value.equal,
  trivial, Cert.Reference13Ideal.Value.equal,
  trivial, Cert.Reference14Ideal.Value.equal,
  trivial, Cert.Reference15Ideal.Value.equal,
  trivial, Cert.Reference16Ideal.Value.equal,
  trivial, Cert.Reference17Ideal.Value.equal,
  trivial, Cert.Reference18Ideal.Value.equal,
  trivial, Cert.Reference19Ideal.Value.equal⟩

end Cert.Proof

end
